-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_min_weight_KernelIdeal [hPre_no_min_weight_KernelIdeal : Cert.Pre_no_min_weight_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_no_min_weight_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_min_weight_ReferenceIdeal [hPre_no_min_weight_ReferenceIdeal : Cert.Pre_no_min_weight_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_min_weight_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_no_min_weight_KernelIdeal [hKernelIdeal : Cert.KernelIdeal.Facts] [hPre_no_min_weight_KernelIdeal : Cert.Pre_no_min_weight_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_min_weight_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_no_min_weight_ReferenceIdeal [hReferenceIdeal : Cert.ReferenceIdeal.Facts] [hPre_no_min_weight_ReferenceIdeal : Cert.Pre_no_min_weight_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_min_weight_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_no_min_weight_KernelIdeal [hKernelIdeal : Cert.KernelIdeal.Facts] [hReferenceIdeal : Cert.ReferenceIdeal.Facts] [hPre_no_min_weight_KernelIdeal : Cert.Pre_no_min_weight_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_min_weight_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 2048]⟩ ⟨2, ![4096, 2048]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v8) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_no_min_weight_KernelIdeal : Cert.Pre_no_min_weight_KernelIdeal.Facts) (hPre_no_min_weight_ReferenceIdeal : Cert.Pre_no_min_weight_ReferenceIdeal.Facts),
    quiescent_Kernel (hKernel := hKernel)
    ∧ quiescent_KernelIdeal (hKernelIdeal := hKernelIdeal)
    ∧ quiescent_KernelIdeal_pre_no_min_weight_KernelIdeal (hKernelIdeal := hKernelIdeal) (hPre_no_min_weight_KernelIdeal := hPre_no_min_weight_KernelIdeal)
    ∧ quiescent_ReferenceIdeal (hReferenceIdeal := hReferenceIdeal)
    ∧ quiescent_ReferenceIdeal_pre_no_min_weight_ReferenceIdeal (hReferenceIdeal := hReferenceIdeal) (hPre_no_min_weight_ReferenceIdeal := hPre_no_min_weight_ReferenceIdeal)
    ∧ preserves_Kernel_KernelIdeal
    ∧ algebraic_KernelIdeal_ReferenceIdeal_pre_no_min_weight_KernelIdeal (hKernelIdeal := hKernelIdeal) (hReferenceIdeal := hReferenceIdeal) (hPre_no_min_weight_KernelIdeal := hPre_no_min_weight_KernelIdeal)
-- ==== Pre_no_min_weight_KernelIdeal.lean ====
abbrev S4096x128 : Shape := ⟨2, ![4096, 128]⟩
abbrev S4096x2048 : Shape := ⟨2, ![4096, 2048]⟩
abbrev S1 : Shape := ⟨1, ![1]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : IVec S4096x128 8) (main_arg1 : IVec S4096x2048 8) (main_arg2 : FVec F S1 .f32) (main_arg3 : FVec F S1 .f32) : IVec S_ 1 :=
  let main_c : IVec S_ 8 := constantI S_ 8 128#8
  let main_v0 : IVec S4096x2048 8 := broadcastInDim S4096x2048 ![] bcast_S_S4096x2048 main_c
  let main_v1 : IVec S4096x2048 1 := cmpi .ne main_arg1 main_v0
  let main_c_0 : IVec S_ 1 := constantI S_ 1 1#1
  let main_v2 : IVec S_ 1 := (fun x v => Host.reduce IntOp.andi x v reducesTo_S4096x2048_S_d0_1 h_S_) main_v1 main_c_0
  main_v2
-- ==== Pre_no_min_weight_ReferenceIdeal.lean ====
abbrev S4096x4096 : Shape := ⟨2, ![4096, 4096]⟩
abbrev S4096x2048 : Shape := ⟨2, ![4096, 2048]⟩
abbrev S1 : Shape := ⟨1, ![1]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : IVec S4096x4096 8) (main_arg1 : IVec S4096x2048 8) (main_arg2 : FVec F S1 .f32) (main_arg3 : FVec F S1 .f32) : IVec S_ 1 :=
  let main_c : IVec S_ 8 := constantI S_ 8 128#8
  let main_v0 : IVec S4096x2048 8 := broadcastInDim S4096x2048 ![] bcast_S_S4096x2048 main_c
  let main_v1 : IVec S4096x2048 1 := cmpi .ne main_arg1 main_v0
  let main_c_0 : IVec S_ 1 := constantI S_ 1 1#1
  let main_v2 : IVec S_ 1 := (fun x v => Host.reduce IntOp.andi x v reducesTo_S4096x2048_S_d0_1 h_S_) main_v1 main_c_0
  main_v2
-- ==== Kernel.lean ====
abbrev S4096x128 : Shape := ⟨2, ![4096, 128]⟩
abbrev S4096x2048 : Shape := ⟨2, ![4096, 2048]⟩
abbrev S1 : Shape := ⟨1, ![1]⟩
abbrev S128x2048 : Shape := ⟨2, ![128, 2048]⟩
abbrev S128x4096 : Shape := ⟨2, ![128, 4096]⟩
abbrev S32 : Shape := ⟨1, ![32]⟩
abbrev S4 : Shape := ⟨1, ![4]⟩
abbrev S_ : Shape := ⟨0, ![]⟩
abbrev S1024x2048 : Shape := ⟨2, ![1024, 2048]⟩
abbrev S128x128 : Shape := ⟨2, ![128, 128]⟩
abbrev S128x1024 : Shape := ⟨2, ![128, 1024]⟩

abbrev nBuf : Space → Nat
  | .hbm => 5
  | .vmem => 5
  | .smem => 2
  | _ => 0

abbrev bufTy : (tb : Table) → Fin (tcTables nBuf tb) → BufTy
  | .hbm, ⟨0, _⟩ => ⟨S4096x128, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S128x2048, .f32⟩
  | .local _ .vmem, ⟨0, _⟩ => ⟨S4096x128, .i8⟩
  | .local _ .vmem, ⟨1, _⟩ => ⟨S128x2048, .f32⟩
  | .local _ .vmem, ⟨2, _⟩ => ⟨S128x4096, .i8⟩
  | .local _ .vmem, ⟨3, _⟩ => ⟨S4096x2048, .i8⟩
  | .local _ .vmem, ⟨4, _⟩ => ⟨S128x2048, .i32⟩
  | .local _ .smem, ⟨0, _⟩ => ⟨S1, .f32⟩
  | .local _ .smem, ⟨1, _⟩ => ⟨S1, .f32⟩
  | _, _ => ⟨S4096x128, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .smem, ⟨0, _⟩ => true
  | .smem, ⟨1, _⟩ => true
  | _, _ => false

abbrev semScoped : Fin 1 → Bool
  | ⟨0, _⟩ => false
  | _ => false

abbrev dmaSemScoped : Fin 72 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | _ => false

abbrev sig : RefSig :=
  (ofTc nBuf bufTy 1 72 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch5 : Ref sig .tc := ⟨.vmem, 4, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_5 : BitVec 32 := 1#32
  let v21 : BitVec 32 := Scalar.addi v2 c1_i32_5
  let c32_i32_6 : BitVec 32 := 32#32
  let c0_i32_7 : BitVec 32 := 0#32
  let v22 : BitVec 1 := Scalar.cmpi .eq c32_i32_6 c0_i32_7
  let c1_i32_8 : BitVec 32 := 1#32
  let v23 : BitVec 32 := Scalar.select v22 c1_i32_8 c32_i32_6
  let v24 : BitVec 32 := Scalar.remsi v21 v23
  let c0_i32_10 : BitVec 32 := 0#32
  let v26 : BitVec 1 := Scalar.cmpi .slt v24 c0_i32_10
  let c0_i32_11 : BitVec 32 := 0#32
  let v27 : BitVec 1 := Scalar.cmpi .slt v23 c0_i32_11
  let v28 : BitVec 1 := Scalar.xori v26 v27
  let c0_i32_9 : BitVec 32 := 0#32
  let v25 : BitVec 1 := Scalar.cmpi .ne v24 c0_i32_9
  let v29 : BitVec 1 := Scalar.andi v28 v25
  let v30 : BitVec 32 := Scalar.addi v24 v23
  let v31 : BitVec 32 := Scalar.select v29 v30 v24
  let c1_i32_13 : BitVec 32 := 1#32
  let v32 : BitVec 32 := Scalar.muli v31 c1_i32_13
  let v33 : BitVec 32 := Scalar.addi c0_i32_14 v32
  v33.toNat
def k0_dev2 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v34 : BitVec 32 := Scalar.addi v2 c2_i32
  let c32_i32_15 : BitVec 32 := 32#32
  let c0_i32_16 : BitVec 32 := 0#32
  let v35 : BitVec 1 := Scalar.cmpi .eq c32_i32_15 c0_i32_16
  let c1_i32_17 : BitVec 32 := 1#32
  let v36 : BitVec 32 := Scalar.select v35 c1_i32_17 c32_i32_15
  let v37 : BitVec 32 := Scalar.remsi v34 v36
  let c0_i32_19 : BitVec 32 := 0#32
  let v39 : BitVec 1 := Scalar.cmpi .slt v37 c0_i32_19
  let c0_i32_20 : BitVec 32 := 0#32
  let v40 : BitVec 1 := Scalar.cmpi .slt v36 c0_i32_20
  let v41 : BitVec 1 := Scalar.xori v39 v40
  let c0_i32_18 : BitVec 32 := 0#32
  let v38 : BitVec 1 := Scalar.cmpi .ne v37 c0_i32_18
  let v42 : BitVec 1 := Scalar.andi v41 v38
  let v43 : BitVec 32 := Scalar.addi v37 v36
  let v44 : BitVec 32 := Scalar.select v42 v43 v37
  let c1_i32_22 : BitVec 32 := 1#32
  let v45 : BitVec 32 := Scalar.muli v44 c1_i32_22
  let v46 : BitVec 32 := Scalar.addi c0_i32_23 v45
  v46.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v47 : BitVec 32 := Scalar.addi v2 c3_i32
  let c32_i32_24 : BitVec 32 := 32#32
  let c0_i32_25 : BitVec 32 := 0#32
  let v48 : BitVec 1 := Scalar.cmpi .eq c32_i32_24 c0_i32_25
  let c1_i32_26 : BitVec 32 := 1#32
  let v49 : BitVec 32 := Scalar.select v48 c1_i32_26 c32_i32_24
  let v50 : BitVec 32 := Scalar.remsi v47 v49
  let c0_i32_28 : BitVec 32 := 0#32
  let v52 : BitVec 1 := Scalar.cmpi .slt v50 c0_i32_28
  let c0_i32_29 : BitVec 32 := 0#32
  let v53 : BitVec 1 := Scalar.cmpi .slt v49 c0_i32_29
  let v54 : BitVec 1 := Scalar.xori v52 v53
  let c0_i32_27 : BitVec 32 := 0#32
  let v51 : BitVec 1 := Scalar.cmpi .ne v50 c0_i32_27
  let v55 : BitVec 1 := Scalar.andi v54 v51
  let v56 : BitVec 32 := Scalar.addi v50 v49
  let v57 : BitVec 32 := Scalar.select v55 v56 v50
  let c1_i32_31 : BitVec 32 := 1#32
  let v58 : BitVec 32 := Scalar.muli v57 c1_i32_31
  let v59 : BitVec 32 := Scalar.addi c0_i32_32 v58
  v59.toNat
def k0_dev4 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v60 : BitVec 32 := Scalar.addi v2 c4_i32
  let c32_i32_33 : BitVec 32 := 32#32
  let c0_i32_34 : BitVec 32 := 0#32
  let v61 : BitVec 1 := Scalar.cmpi .eq c32_i32_33 c0_i32_34
  let c1_i32_35 : BitVec 32 := 1#32
  let v62 : BitVec 32 := Scalar.select v61 c1_i32_35 c32_i32_33
  let v63 : BitVec 32 := Scalar.remsi v60 v62
  let c0_i32_37 : BitVec 32 := 0#32
  let v65 : BitVec 1 := Scalar.cmpi .slt v63 c0_i32_37
  let c0_i32_38 : BitVec 32 := 0#32
  let v66 : BitVec 1 := Scalar.cmpi .slt v62 c0_i32_38
  let v67 : BitVec 1 := Scalar.xori v65 v66
  let c0_i32_36 : BitVec 32 := 0#32
  let v64 : BitVec 1 := Scalar.cmpi .ne v63 c0_i32_36
  let v68 : BitVec 1 := Scalar.andi v67 v64
  let v69 : BitVec 32 := Scalar.addi v63 v62
  let v70 : BitVec 32 := Scalar.select v68 v69 v63
  let c1_i32_40 : BitVec 32 := 1#32
  let v71 : BitVec 32 := Scalar.muli v70 c1_i32_40
  let v72 : BitVec 32 := Scalar.addi c0_i32_41 v71
  v72.toNat
def k0_dev5 (d0 : Dev nD) : Nat :=
  let c0_i32_50 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v73 : BitVec 32 := Scalar.addi v2 c5_i32
  let c32_i32_42 : BitVec 32 := 32#32
  let c0_i32_43 : BitVec 32 := 0#32
  let v74 : BitVec 1 := Scalar.cmpi .eq c32_i32_42 c0_i32_43
  let c1_i32_44 : BitVec 32 := 1#32
  let v75 : BitVec 32 := Scalar.select v74 c1_i32_44 c32_i32_42
  let v76 : BitVec 32 := Scalar.remsi v73 v75
  let c0_i32_46 : BitVec 32 := 0#32
  let v78 : BitVec 1 := Scalar.cmpi .slt v76 c0_i32_46
  let c0_i32_47 : BitVec 32 := 0#32
  let v79 : BitVec 1 := Scalar.cmpi .slt v75 c0_i32_47
  let v80 : BitVec 1 := Scalar.xori v78 v79
  let c0_i32_45 : BitVec 32 := 0#32
  let v77 : BitVec 1 := Scalar.cmpi .ne v76 c0_i32_45
  let v81 : BitVec 1 := Scalar.andi v80 v77
  let v82 : BitVec 32 := Scalar.addi v76 v75
  let v83 : BitVec 32 := Scalar.select v81 v82 v76
  let c1_i32_49 : BitVec 32 := 1#32
  let v84 : BitVec 32 := Scalar.muli v83 c1_i32_49
  let v85 : BitVec 32 := Scalar.addi c0_i32_50 v84
  v85.toNat
def k0_dev6 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v86 : BitVec 32 := Scalar.addi v2 c6_i32
  let c32_i32_51 : BitVec 32 := 32#32
  let c0_i32_52 : BitVec 32 := 0#32
  let v87 : BitVec 1 := Scalar.cmpi .eq c32_i32_51 c0_i32_52
  let c1_i32_53 : BitVec 32 := 1#32
  let v88 : BitVec 32 := Scalar.select v87 c1_i32_53 c32_i32_51
  let v89 : BitVec 32 := Scalar.remsi v86 v88
  let c0_i32_55 : BitVec 32 := 0#32
  let v91 : BitVec 1 := Scalar.cmpi .slt v89 c0_i32_55
  let c0_i32_56 : BitVec 32 := 0#32
  let v92 : BitVec 1 := Scalar.cmpi .slt v88 c0_i32_56
  let v93 : BitVec 1 := Scalar.xori v91 v92
  let c0_i32_54 : BitVec 32 := 0#32
  let v90 : BitVec 1 := Scalar.cmpi .ne v89 c0_i32_54
  let v94 : BitVec 1 := Scalar.andi v93 v90
  let v95 : BitVec 32 := Scalar.addi v89 v88
  let v96 : BitVec 32 := Scalar.select v94 v95 v89
  let c1_i32_58 : BitVec 32 := 1#32
  let v97 : BitVec 32 := Scalar.muli v96 c1_i32_58
  let v98 : BitVec 32 := Scalar.addi c0_i32_59 v97
  v98.toNat
def k0_dev7 (d0 : Dev nD) : Nat :=
  let c0_i32_68 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v99 : BitVec 32 := Scalar.addi v2 c7_i32
  let c32_i32_60 : BitVec 32 := 32#32
  let c0_i32_61 : BitVec 32 := 0#32
  let v100 : BitVec 1 := Scalar.cmpi .eq c32_i32_60 c0_i32_61
  let c1_i32_62 : BitVec 32 := 1#32
  let v101 : BitVec 32 := Scalar.select v100 c1_i32_62 c32_i32_60
  let v102 : BitVec 32 := Scalar.remsi v99 v101
  let c0_i32_64 : BitVec 32 := 0#32
  let v104 : BitVec 1 := Scalar.cmpi .slt v102 c0_i32_64
  let c0_i32_65 : BitVec 32 := 0#32
  let v105 : BitVec 1 := Scalar.cmpi .slt v101 c0_i32_65
  let v106 : BitVec 1 := Scalar.xori v104 v105
  let c0_i32_63 : BitVec 32 := 0#32
  let v103 : BitVec 1 := Scalar.cmpi .ne v102 c0_i32_63
  let v107 : BitVec 1 := Scalar.andi v106 v103
  let v108 : BitVec 32 := Scalar.addi v102 v101
  let v109 : BitVec 32 := Scalar.select v107 v108 v102
  let c1_i32_67 : BitVec 32 := 1#32
  let v110 : BitVec 32 := Scalar.muli v109 c1_i32_67
  let v111 : BitVec 32 := Scalar.addi c0_i32_68 v110
  v111.toNat
def k0_dev8 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_69 : BitVec 32 := 8#32
  let v112 : BitVec 32 := Scalar.addi v2 c8_i32_69
  let c32_i32_70 : BitVec 32 := 32#32
  let c0_i32_71 : BitVec 32 := 0#32
  let v113 : BitVec 1 := Scalar.cmpi .eq c32_i32_70 c0_i32_71
  let c1_i32_72 : BitVec 32 := 1#32
  let v114 : BitVec 32 := Scalar.select v113 c1_i32_72 c32_i32_70
  let v115 : BitVec 32 := Scalar.remsi v112 v114
  let c0_i32_74 : BitVec 32 := 0#32
  let v117 : BitVec 1 := Scalar.cmpi .slt v115 c0_i32_74
  let c0_i32_75 : BitVec 32 := 0#32
  let v118 : BitVec 1 := Scalar.cmpi .slt v114 c0_i32_75
  let v119 : BitVec 1 := Scalar.xori v117 v118
  let c0_i32_73 : BitVec 32 := 0#32
  let v116 : BitVec 1 := Scalar.cmpi .ne v115 c0_i32_73
  let v120 : BitVec 1 := Scalar.andi v119 v116
  let v121 : BitVec 32 := Scalar.addi v115 v114
  let v122 : BitVec 32 := Scalar.select v120 v121 v115
  let c1_i32_77 : BitVec 32 := 1#32
  let v123 : BitVec 32 := Scalar.muli v122 c1_i32_77
  let v124 : BitVec 32 := Scalar.addi c0_i32_78 v123
  v124.toNat
def k0_dev9 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v125 : BitVec 32 := Scalar.addi v2 c9_i32
  let c32_i32_79 : BitVec 32 := 32#32
  let c0_i32_80 : BitVec 32 := 0#32
  let v126 : BitVec 1 := Scalar.cmpi .eq c32_i32_79 c0_i32_80
  let c1_i32_81 : BitVec 32 := 1#32
  let v127 : BitVec 32 := Scalar.select v126 c1_i32_81 c32_i32_79
  let v128 : BitVec 32 := Scalar.remsi v125 v127
  let c0_i32_83 : BitVec 32 := 0#32
  let v130 : BitVec 1 := Scalar.cmpi .slt v128 c0_i32_83
  let c0_i32_84 : BitVec 32 := 0#32
  let v131 : BitVec 1 := Scalar.cmpi .slt v127 c0_i32_84
  let v132 : BitVec 1 := Scalar.xori v130 v131
  let c0_i32_82 : BitVec 32 := 0#32
  let v129 : BitVec 1 := Scalar.cmpi .ne v128 c0_i32_82
  let v133 : BitVec 1 := Scalar.andi v132 v129
  let v134 : BitVec 32 := Scalar.addi v128 v127
  let v135 : BitVec 32 := Scalar.select v133 v134 v128
  let c1_i32_86 : BitVec 32 := 1#32
  let v136 : BitVec 32 := Scalar.muli v135 c1_i32_86
  let v137 : BitVec 32 := Scalar.addi c0_i32_87 v136
  v137.toNat
def k0_dev10 (d0 : Dev nD) : Nat :=
  let c0_i32_96 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v138 : BitVec 32 := Scalar.addi v2 c10_i32
  let c32_i32_88 : BitVec 32 := 32#32
  let c0_i32_89 : BitVec 32 := 0#32
  let v139 : BitVec 1 := Scalar.cmpi .eq c32_i32_88 c0_i32_89
  let c1_i32_90 : BitVec 32 := 1#32
  let v140 : BitVec 32 := Scalar.select v139 c1_i32_90 c32_i32_88
  let v141 : BitVec 32 := Scalar.remsi v138 v140
  let c0_i32_92 : BitVec 32 := 0#32
  let v143 : BitVec 1 := Scalar.cmpi .slt v141 c0_i32_92
  let c0_i32_93 : BitVec 32 := 0#32
  let v144 : BitVec 1 := Scalar.cmpi .slt v140 c0_i32_93
  let v145 : BitVec 1 := Scalar.xori v143 v144
  let c0_i32_91 : BitVec 32 := 0#32
  let v142 : BitVec 1 := Scalar.cmpi .ne v141 c0_i32_91
  let v146 : BitVec 1 := Scalar.andi v145 v142
  let v147 : BitVec 32 := Scalar.addi v141 v140
  let v148 : BitVec 32 := Scalar.select v146 v147 v141
  let c1_i32_95 : BitVec 32 := 1#32
  let v149 : BitVec 32 := Scalar.muli v148 c1_i32_95
  let v150 : BitVec 32 := Scalar.addi c0_i32_96 v149
  v150.toNat
def k0_dev11 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v151 : BitVec 32 := Scalar.addi v2 c11_i32
  let c32_i32_97 : BitVec 32 := 32#32
  let c0_i32_98 : BitVec 32 := 0#32
  let v152 : BitVec 1 := Scalar.cmpi .eq c32_i32_97 c0_i32_98
  let c1_i32_99 : BitVec 32 := 1#32
  let v153 : BitVec 32 := Scalar.select v152 c1_i32_99 c32_i32_97
  let v154 : BitVec 32 := Scalar.remsi v151 v153
  let c0_i32_101 : BitVec 32 := 0#32
  let v156 : BitVec 1 := Scalar.cmpi .slt v154 c0_i32_101
  let c0_i32_102 : BitVec 32 := 0#32
  let v157 : BitVec 1 := Scalar.cmpi .slt v153 c0_i32_102
  let v158 : BitVec 1 := Scalar.xori v156 v157
  let c0_i32_100 : BitVec 32 := 0#32
  let v155 : BitVec 1 := Scalar.cmpi .ne v154 c0_i32_100
  let v159 : BitVec 1 := Scalar.andi v158 v155
  let v160 : BitVec 32 := Scalar.addi v154 v153
  let v161 : BitVec 32 := Scalar.select v159 v160 v154
  let c1_i32_104 : BitVec 32 := 1#32
  let v162 : BitVec 32 := Scalar.muli v161 c1_i32_104
  let v163 : BitVec 32 := Scalar.addi c0_i32_105 v162
  v163.toNat
def k0_dev12 (d0 : Dev nD) : Nat :=
  let c0_i32_114 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v164 : BitVec 32 := Scalar.addi v2 c12_i32
  let c32_i32_106 : BitVec 32 := 32#32
  let c0_i32_107 : BitVec 32 := 0#32
  let v165 : BitVec 1 := Scalar.cmpi .eq c32_i32_106 c0_i32_107
  let c1_i32_108 : BitVec 32 := 1#32
  let v166 : BitVec 32 := Scalar.select v165 c1_i32_108 c32_i32_106
  let v167 : BitVec 32 := Scalar.remsi v164 v166
  let c0_i32_110 : BitVec 32 := 0#32
  let v169 : BitVec 1 := Scalar.cmpi .slt v167 c0_i32_110
  let c0_i32_111 : BitVec 32 := 0#32
  let v170 : BitVec 1 := Scalar.cmpi .slt v166 c0_i32_111
  let v171 : BitVec 1 := Scalar.xori v169 v170
  let c0_i32_109 : BitVec 32 := 0#32
  let v168 : BitVec 1 := Scalar.cmpi .ne v167 c0_i32_109
  let v172 : BitVec 1 := Scalar.andi v171 v168
  let v173 : BitVec 32 := Scalar.addi v167 v166
  let v174 : BitVec 32 := Scalar.select v172 v173 v167
  let c1_i32_113 : BitVec 32 := 1#32
  let v175 : BitVec 32 := Scalar.muli v174 c1_i32_113
  let v176 : BitVec 32 := Scalar.addi c0_i32_114 v175
  v176.toNat
def k0_dev13 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v177 : BitVec 32 := Scalar.addi v2 c13_i32
  let c32_i32_115 : BitVec 32 := 32#32
  let c0_i32_116 : BitVec 32 := 0#32
  let v178 : BitVec 1 := Scalar.cmpi .eq c32_i32_115 c0_i32_116
  let c1_i32_117 : BitVec 32 := 1#32
  let v179 : BitVec 32 := Scalar.select v178 c1_i32_117 c32_i32_115
  let v180 : BitVec 32 := Scalar.remsi v177 v179
  let c0_i32_119 : BitVec 32 := 0#32
  let v182 : BitVec 1 := Scalar.cmpi .slt v180 c0_i32_119
  let c0_i32_120 : BitVec 32 := 0#32
  let v183 : BitVec 1 := Scalar.cmpi .slt v179 c0_i32_120
  let v184 : BitVec 1 := Scalar.xori v182 v183
  let c0_i32_118 : BitVec 32 := 0#32
  let v181 : BitVec 1 := Scalar.cmpi .ne v180 c0_i32_118
  let v185 : BitVec 1 := Scalar.andi v184 v181
  let v186 : BitVec 32 := Scalar.addi v180 v179
  let v187 : BitVec 32 := Scalar.select v185 v186 v180
  let c1_i32_122 : BitVec 32 := 1#32
  let v188 : BitVec 32 := Scalar.muli v187 c1_i32_122
  let v189 : BitVec 32 := Scalar.addi c0_i32_123 v188
  v189.toNat
def k0_dev14 (d0 : Dev nD) : Nat :=
  let c0_i32_132 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v190 : BitVec 32 := Scalar.addi v2 c14_i32
  let c32_i32_124 : BitVec 32 := 32#32
  let c0_i32_125 : BitVec 32 := 0#32
  let v191 : BitVec 1 := Scalar.cmpi .eq c32_i32_124 c0_i32_125
  let c1_i32_126 : BitVec 32 := 1#32
  let v192 : BitVec 32 := Scalar.select v191 c1_i32_126 c32_i32_124
  let v193 : BitVec 32 := Scalar.remsi v190 v192
  let c0_i32_128 : BitVec 32 := 0#32
  let v195 : BitVec 1 := Scalar.cmpi .slt v193 c0_i32_128
  let c0_i32_129 : BitVec 32 := 0#32
  let v196 : BitVec 1 := Scalar.cmpi .slt v192 c0_i32_129
  let v197 : BitVec 1 := Scalar.xori v195 v196
  let c0_i32_127 : BitVec 32 := 0#32
  let v194 : BitVec 1 := Scalar.cmpi .ne v193 c0_i32_127
  let v198 : BitVec 1 := Scalar.andi v197 v194
  let v199 : BitVec 32 := Scalar.addi v193 v192
  let v200 : BitVec 32 := Scalar.select v198 v199 v193
  let c1_i32_131 : BitVec 32 := 1#32
  let v201 : BitVec 32 := Scalar.muli v200 c1_i32_131
  let v202 : BitVec 32 := Scalar.addi c0_i32_132 v201
  v202.toNat
def k0_dev15 (d0 : Dev nD) : Nat :=
  let c0_i32_141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v203 : BitVec 32 := Scalar.addi v2 c15_i32
  let c32_i32_133 : BitVec 32 := 32#32
  let c0_i32_134 : BitVec 32 := 0#32
  let v204 : BitVec 1 := Scalar.cmpi .eq c32_i32_133 c0_i32_134
  let c1_i32_135 : BitVec 32 := 1#32
  let v205 : BitVec 32 := Scalar.select v204 c1_i32_135 c32_i32_133
  let v206 : BitVec 32 := Scalar.remsi v203 v205
  let c0_i32_137 : BitVec 32 := 0#32
  let v208 : BitVec 1 := Scalar.cmpi .slt v206 c0_i32_137
  let c0_i32_138 : BitVec 32 := 0#32
  let v209 : BitVec 1 := Scalar.cmpi .slt v205 c0_i32_138
  let v210 : BitVec 1 := Scalar.xori v208 v209
  let c0_i32_136 : BitVec 32 := 0#32
  let v207 : BitVec 1 := Scalar.cmpi .ne v206 c0_i32_136
  let v211 : BitVec 1 := Scalar.andi v210 v207
  let v212 : BitVec 32 := Scalar.addi v206 v205
  let v213 : BitVec 32 := Scalar.select v211 v212 v206
  let c1_i32_140 : BitVec 32 := 1#32
  let v214 : BitVec 32 := Scalar.muli v213 c1_i32_140
  let v215 : BitVec 32 := Scalar.addi c0_i32_141 v214
  v215.toNat
def k0_dev16 (d0 : Dev nD) : Nat :=
  let c0_i32_150 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v216 : BitVec 32 := Scalar.addi v2 c16_i32
  let c32_i32_142 : BitVec 32 := 32#32
  let c0_i32_143 : BitVec 32 := 0#32
  let v217 : BitVec 1 := Scalar.cmpi .eq c32_i32_142 c0_i32_143
  let c1_i32_144 : BitVec 32 := 1#32
  let v218 : BitVec 32 := Scalar.select v217 c1_i32_144 c32_i32_142
  let v219 : BitVec 32 := Scalar.remsi v216 v218
  let c0_i32_146 : BitVec 32 := 0#32
  let v221 : BitVec 1 := Scalar.cmpi .slt v219 c0_i32_146
  let c0_i32_147 : BitVec 32 := 0#32
  let v222 : BitVec 1 := Scalar.cmpi .slt v218 c0_i32_147
  let v223 : BitVec 1 := Scalar.xori v221 v222
  let c0_i32_145 : BitVec 32 := 0#32
  let v220 : BitVec 1 := Scalar.cmpi .ne v219 c0_i32_145
  let v224 : BitVec 1 := Scalar.andi v223 v220
  let v225 : BitVec 32 := Scalar.addi v219 v218
  let v226 : BitVec 32 := Scalar.select v224 v225 v219
  let c1_i32_149 : BitVec 32 := 1#32
  let v227 : BitVec 32 := Scalar.muli v226 c1_i32_149
  let v228 : BitVec 32 := Scalar.addi c0_i32_150 v227
  v228.toNat
def k0_dev17 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v229 : BitVec 32 := Scalar.addi v2 c17_i32
  let c32_i32_151 : BitVec 32 := 32#32
  let c0_i32_152 : BitVec 32 := 0#32
  let v230 : BitVec 1 := Scalar.cmpi .eq c32_i32_151 c0_i32_152
  let c1_i32_153 : BitVec 32 := 1#32
  let v231 : BitVec 32 := Scalar.select v230 c1_i32_153 c32_i32_151
  let v232 : BitVec 32 := Scalar.remsi v229 v231
  let c0_i32_155 : BitVec 32 := 0#32
  let v234 : BitVec 1 := Scalar.cmpi .slt v232 c0_i32_155
  let c0_i32_156 : BitVec 32 := 0#32
  let v235 : BitVec 1 := Scalar.cmpi .slt v231 c0_i32_156
  let v236 : BitVec 1 := Scalar.xori v234 v235
  let c0_i32_154 : BitVec 32 := 0#32
  let v233 : BitVec 1 := Scalar.cmpi .ne v232 c0_i32_154
  let v237 : BitVec 1 := Scalar.andi v236 v233
  let v238 : BitVec 32 := Scalar.addi v232 v231
  let v239 : BitVec 32 := Scalar.select v237 v238 v232
  let c1_i32_158 : BitVec 32 := 1#32
  let v240 : BitVec 32 := Scalar.muli v239 c1_i32_158
  let v241 : BitVec 32 := Scalar.addi c0_i32_159 v240
  v241.toNat
def k0_dev18 (d0 : Dev nD) : Nat :=
  let c0_i32_168 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v242 : BitVec 32 := Scalar.addi v2 c18_i32
  let c32_i32_160 : BitVec 32 := 32#32
  let c0_i32_161 : BitVec 32 := 0#32
  let v243 : BitVec 1 := Scalar.cmpi .eq c32_i32_160 c0_i32_161
  let c1_i32_162 : BitVec 32 := 1#32
  let v244 : BitVec 32 := Scalar.select v243 c1_i32_162 c32_i32_160
  let v245 : BitVec 32 := Scalar.remsi v242 v244
  let c0_i32_164 : BitVec 32 := 0#32
  let v247 : BitVec 1 := Scalar.cmpi .slt v245 c0_i32_164
  let c0_i32_165 : BitVec 32 := 0#32
  let v248 : BitVec 1 := Scalar.cmpi .slt v244 c0_i32_165
  let v249 : BitVec 1 := Scalar.xori v247 v248
  let c0_i32_163 : BitVec 32 := 0#32
  let v246 : BitVec 1 := Scalar.cmpi .ne v245 c0_i32_163
  let v250 : BitVec 1 := Scalar.andi v249 v246
  let v251 : BitVec 32 := Scalar.addi v245 v244
  let v252 : BitVec 32 := Scalar.select v250 v251 v245
  let c1_i32_167 : BitVec 32 := 1#32
  let v253 : BitVec 32 := Scalar.muli v252 c1_i32_167
  let v254 : BitVec 32 := Scalar.addi c0_i32_168 v253
  v254.toNat
def k0_dev19 (d0 : Dev nD) : Nat :=
  let c0_i32_177 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v255 : BitVec 32 := Scalar.addi v2 c19_i32
  let c32_i32_169 : BitVec 32 := 32#32
  let c0_i32_170 : BitVec 32 := 0#32
  let v256 : BitVec 1 := Scalar.cmpi .eq c32_i32_169 c0_i32_170
  let c1_i32_171 : BitVec 32 := 1#32
  let v257 : BitVec 32 := Scalar.select v256 c1_i32_171 c32_i32_169
  let v258 : BitVec 32 := Scalar.remsi v255 v257
  let c0_i32_173 : BitVec 32 := 0#32
  let v260 : BitVec 1 := Scalar.cmpi .slt v258 c0_i32_173
  let c0_i32_174 : BitVec 32 := 0#32
  let v261 : BitVec 1 := Scalar.cmpi .slt v257 c0_i32_174
  let v262 : BitVec 1 := Scalar.xori v260 v261
  let c0_i32_172 : BitVec 32 := 0#32
  let v259 : BitVec 1 := Scalar.cmpi .ne v258 c0_i32_172
  let v263 : BitVec 1 := Scalar.andi v262 v259
  let v264 : BitVec 32 := Scalar.addi v258 v257
  let v265 : BitVec 32 := Scalar.select v263 v264 v258
  let c1_i32_176 : BitVec 32 := 1#32
  let v266 : BitVec 32 := Scalar.muli v265 c1_i32_176
  let v267 : BitVec 32 := Scalar.addi c0_i32_177 v266
  v267.toNat
def k0_dev20 (d0 : Dev nD) : Nat :=
  let c0_i32_186 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v268 : BitVec 32 := Scalar.addi v2 c20_i32
  let c32_i32_178 : BitVec 32 := 32#32
  let c0_i32_179 : BitVec 32 := 0#32
  let v269 : BitVec 1 := Scalar.cmpi .eq c32_i32_178 c0_i32_179
  let c1_i32_180 : BitVec 32 := 1#32
  let v270 : BitVec 32 := Scalar.select v269 c1_i32_180 c32_i32_178
  let v271 : BitVec 32 := Scalar.remsi v268 v270
  let c0_i32_182 : BitVec 32 := 0#32
  let v273 : BitVec 1 := Scalar.cmpi .slt v271 c0_i32_182
  let c0_i32_183 : BitVec 32 := 0#32
  let v274 : BitVec 1 := Scalar.cmpi .slt v270 c0_i32_183
  let v275 : BitVec 1 := Scalar.xori v273 v274
  let c0_i32_181 : BitVec 32 := 0#32
  let v272 : BitVec 1 := Scalar.cmpi .ne v271 c0_i32_181
  let v276 : BitVec 1 := Scalar.andi v275 v272
  let v277 : BitVec 32 := Scalar.addi v271 v270
  let v278 : BitVec 32 := Scalar.select v276 v277 v271
  let c1_i32_185 : BitVec 32 := 1#32
  let v279 : BitVec 32 := Scalar.muli v278 c1_i32_185
  let v280 : BitVec 32 := Scalar.addi c0_i32_186 v279
  v280.toNat
def k0_dev21 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v281 : BitVec 32 := Scalar.addi v2 c21_i32
  let c32_i32_187 : BitVec 32 := 32#32
  let c0_i32_188 : BitVec 32 := 0#32
  let v282 : BitVec 1 := Scalar.cmpi .eq c32_i32_187 c0_i32_188
  let c1_i32_189 : BitVec 32 := 1#32
  let v283 : BitVec 32 := Scalar.select v282 c1_i32_189 c32_i32_187
  let v284 : BitVec 32 := Scalar.remsi v281 v283
  let c0_i32_191 : BitVec 32 := 0#32
  let v286 : BitVec 1 := Scalar.cmpi .slt v284 c0_i32_191
  let c0_i32_192 : BitVec 32 := 0#32
  let v287 : BitVec 1 := Scalar.cmpi .slt v283 c0_i32_192
  let v288 : BitVec 1 := Scalar.xori v286 v287
  let c0_i32_190 : BitVec 32 := 0#32
  let v285 : BitVec 1 := Scalar.cmpi .ne v284 c0_i32_190
  let v289 : BitVec 1 := Scalar.andi v288 v285
  let v290 : BitVec 32 := Scalar.addi v284 v283
  let v291 : BitVec 32 := Scalar.select v289 v290 v284
  let c1_i32_194 : BitVec 32 := 1#32
  let v292 : BitVec 32 := Scalar.muli v291 c1_i32_194
  let v293 : BitVec 32 := Scalar.addi c0_i32_195 v292
  v293.toNat
def k0_dev22 (d0 : Dev nD) : Nat :=
  let c0_i32_204 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v294 : BitVec 32 := Scalar.addi v2 c22_i32
  let c32_i32_196 : BitVec 32 := 32#32
  let c0_i32_197 : BitVec 32 := 0#32
  let v295 : BitVec 1 := Scalar.cmpi .eq c32_i32_196 c0_i32_197
  let c1_i32_198 : BitVec 32 := 1#32
  let v296 : BitVec 32 := Scalar.select v295 c1_i32_198 c32_i32_196
  let v297 : BitVec 32 := Scalar.remsi v294 v296
  let c0_i32_200 : BitVec 32 := 0#32
  let v299 : BitVec 1 := Scalar.cmpi .slt v297 c0_i32_200
  let c0_i32_201 : BitVec 32 := 0#32
  let v300 : BitVec 1 := Scalar.cmpi .slt v296 c0_i32_201
  let v301 : BitVec 1 := Scalar.xori v299 v300
  let c0_i32_199 : BitVec 32 := 0#32
  let v298 : BitVec 1 := Scalar.cmpi .ne v297 c0_i32_199
  let v302 : BitVec 1 := Scalar.andi v301 v298
  let v303 : BitVec 32 := Scalar.addi v297 v296
  let v304 : BitVec 32 := Scalar.select v302 v303 v297
  let c1_i32_203 : BitVec 32 := 1#32
  let v305 : BitVec 32 := Scalar.muli v304 c1_i32_203
  let v306 : BitVec 32 := Scalar.addi c0_i32_204 v305
  v306.toNat
def k0_dev23 (d0 : Dev nD) : Nat :=
  let c0_i32_213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v307 : BitVec 32 := Scalar.addi v2 c23_i32
  let c32_i32_205 : BitVec 32 := 32#32
  let c0_i32_206 : BitVec 32 := 0#32
  let v308 : BitVec 1 := Scalar.cmpi .eq c32_i32_205 c0_i32_206
  let c1_i32_207 : BitVec 32 := 1#32
  let v309 : BitVec 32 := Scalar.select v308 c1_i32_207 c32_i32_205
  let v310 : BitVec 32 := Scalar.remsi v307 v309
  let c0_i32_209 : BitVec 32 := 0#32
  let v312 : BitVec 1 := Scalar.cmpi .slt v310 c0_i32_209
  let c0_i32_210 : BitVec 32 := 0#32
  let v313 : BitVec 1 := Scalar.cmpi .slt v309 c0_i32_210
  let v314 : BitVec 1 := Scalar.xori v312 v313
  let c0_i32_208 : BitVec 32 := 0#32
  let v311 : BitVec 1 := Scalar.cmpi .ne v310 c0_i32_208
  let v315 : BitVec 1 := Scalar.andi v314 v311
  let v316 : BitVec 32 := Scalar.addi v310 v309
  let v317 : BitVec 32 := Scalar.select v315 v316 v310
  let c1_i32_212 : BitVec 32 := 1#32
  let v318 : BitVec 32 := Scalar.muli v317 c1_i32_212
  let v319 : BitVec 32 := Scalar.addi c0_i32_213 v318
  v319.toNat
def k0_dev24 (d0 : Dev nD) : Nat :=
  let c0_i32_222 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v320 : BitVec 32 := Scalar.addi v2 c24_i32
  let c32_i32_214 : BitVec 32 := 32#32
  let c0_i32_215 : BitVec 32 := 0#32
  let v321 : BitVec 1 := Scalar.cmpi .eq c32_i32_214 c0_i32_215
  let c1_i32_216 : BitVec 32 := 1#32
  let v322 : BitVec 32 := Scalar.select v321 c1_i32_216 c32_i32_214
  let v323 : BitVec 32 := Scalar.remsi v320 v322
  let c0_i32_218 : BitVec 32 := 0#32
  let v325 : BitVec 1 := Scalar.cmpi .slt v323 c0_i32_218
  let c0_i32_219 : BitVec 32 := 0#32
  let v326 : BitVec 1 := Scalar.cmpi .slt v322 c0_i32_219
  let v327 : BitVec 1 := Scalar.xori v325 v326
  let c0_i32_217 : BitVec 32 := 0#32
  let v324 : BitVec 1 := Scalar.cmpi .ne v323 c0_i32_217
  let v328 : BitVec 1 := Scalar.andi v327 v324
  let v329 : BitVec 32 := Scalar.addi v323 v322
  let v330 : BitVec 32 := Scalar.select v328 v329 v323
  let c1_i32_221 : BitVec 32 := 1#32
  let v331 : BitVec 32 := Scalar.muli v330 c1_i32_221
  let v332 : BitVec 32 := Scalar.addi c0_i32_222 v331
  v332.toNat
def k0_dev25 (d0 : Dev nD) : Nat :=
  let c0_i32_231 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v333 : BitVec 32 := Scalar.addi v2 c25_i32
  let c32_i32_223 : BitVec 32 := 32#32
  let c0_i32_224 : BitVec 32 := 0#32
  let v334 : BitVec 1 := Scalar.cmpi .eq c32_i32_223 c0_i32_224
  let c1_i32_225 : BitVec 32 := 1#32
  let v335 : BitVec 32 := Scalar.select v334 c1_i32_225 c32_i32_223
  let v336 : BitVec 32 := Scalar.remsi v333 v335
  let c0_i32_227 : BitVec 32 := 0#32
  let v338 : BitVec 1 := Scalar.cmpi .slt v336 c0_i32_227
  let c0_i32_228 : BitVec 32 := 0#32
  let v339 : BitVec 1 := Scalar.cmpi .slt v335 c0_i32_228
  let v340 : BitVec 1 := Scalar.xori v338 v339
  let c0_i32_226 : BitVec 32 := 0#32
  let v337 : BitVec 1 := Scalar.cmpi .ne v336 c0_i32_226
  let v341 : BitVec 1 := Scalar.andi v340 v337
  let v342 : BitVec 32 := Scalar.addi v336 v335
  let v343 : BitVec 32 := Scalar.select v341 v342 v336
  let c1_i32_230 : BitVec 32 := 1#32
  let v344 : BitVec 32 := Scalar.muli v343 c1_i32_230
  let v345 : BitVec 32 := Scalar.addi c0_i32_231 v344
  v345.toNat
def k0_dev26 (d0 : Dev nD) : Nat :=
  let c0_i32_240 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v346 : BitVec 32 := Scalar.addi v2 c26_i32
  let c32_i32_232 : BitVec 32 := 32#32
  let c0_i32_233 : BitVec 32 := 0#32
  let v347 : BitVec 1 := Scalar.cmpi .eq c32_i32_232 c0_i32_233
  let c1_i32_234 : BitVec 32 := 1#32
  let v348 : BitVec 32 := Scalar.select v347 c1_i32_234 c32_i32_232
  let v349 : BitVec 32 := Scalar.remsi v346 v348
  let c0_i32_236 : BitVec 32 := 0#32
  let v351 : BitVec 1 := Scalar.cmpi .slt v349 c0_i32_236
  let c0_i32_237 : BitVec 32 := 0#32
  let v352 : BitVec 1 := Scalar.cmpi .slt v348 c0_i32_237
  let v353 : BitVec 1 := Scalar.xori v351 v352
  let c0_i32_235 : BitVec 32 := 0#32
  let v350 : BitVec 1 := Scalar.cmpi .ne v349 c0_i32_235
  let v354 : BitVec 1 := Scalar.andi v353 v350
  let v355 : BitVec 32 := Scalar.addi v349 v348
  let v356 : BitVec 32 := Scalar.select v354 v355 v349
  let c1_i32_239 : BitVec 32 := 1#32
  let v357 : BitVec 32 := Scalar.muli v356 c1_i32_239
  let v358 : BitVec 32 := Scalar.addi c0_i32_240 v357
  v358.toNat
def k0_dev27 (d0 : Dev nD) : Nat :=
  let c0_i32_249 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v359 : BitVec 32 := Scalar.addi v2 c27_i32
  let c32_i32_241 : BitVec 32 := 32#32
  let c0_i32_242 : BitVec 32 := 0#32
  let v360 : BitVec 1 := Scalar.cmpi .eq c32_i32_241 c0_i32_242
  let c1_i32_243 : BitVec 32 := 1#32
  let v361 : BitVec 32 := Scalar.select v360 c1_i32_243 c32_i32_241
  let v362 : BitVec 32 := Scalar.remsi v359 v361
  let c0_i32_245 : BitVec 32 := 0#32
  let v364 : BitVec 1 := Scalar.cmpi .slt v362 c0_i32_245
  let c0_i32_246 : BitVec 32 := 0#32
  let v365 : BitVec 1 := Scalar.cmpi .slt v361 c0_i32_246
  let v366 : BitVec 1 := Scalar.xori v364 v365
  let c0_i32_244 : BitVec 32 := 0#32
  let v363 : BitVec 1 := Scalar.cmpi .ne v362 c0_i32_244
  let v367 : BitVec 1 := Scalar.andi v366 v363
  let v368 : BitVec 32 := Scalar.addi v362 v361
  let v369 : BitVec 32 := Scalar.select v367 v368 v362
  let c1_i32_248 : BitVec 32 := 1#32
  let v370 : BitVec 32 := Scalar.muli v369 c1_i32_248
  let v371 : BitVec 32 := Scalar.addi c0_i32_249 v370
  v371.toNat
def k0_dev28 (d0 : Dev nD) : Nat :=
  let c0_i32_258 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v372 : BitVec 32 := Scalar.addi v2 c28_i32
  let c32_i32_250 : BitVec 32 := 32#32
  let c0_i32_251 : BitVec 32 := 0#32
  let v373 : BitVec 1 := Scalar.cmpi .eq c32_i32_250 c0_i32_251
  let c1_i32_252 : BitVec 32 := 1#32
  let v374 : BitVec 32 := Scalar.select v373 c1_i32_252 c32_i32_250
  let v375 : BitVec 32 := Scalar.remsi v372 v374
  let c0_i32_254 : BitVec 32 := 0#32
  let v377 : BitVec 1 := Scalar.cmpi .slt v375 c0_i32_254
  let c0_i32_255 : BitVec 32 := 0#32
  let v378 : BitVec 1 := Scalar.cmpi .slt v374 c0_i32_255
  let v379 : BitVec 1 := Scalar.xori v377 v378
  let c0_i32_253 : BitVec 32 := 0#32
  let v376 : BitVec 1 := Scalar.cmpi .ne v375 c0_i32_253
  let v380 : BitVec 1 := Scalar.andi v379 v376
  let v381 : BitVec 32 := Scalar.addi v375 v374
  let v382 : BitVec 32 := Scalar.select v380 v381 v375
  let c1_i32_257 : BitVec 32 := 1#32
  let v383 : BitVec 32 := Scalar.muli v382 c1_i32_257
  let v384 : BitVec 32 := Scalar.addi c0_i32_258 v383
  v384.toNat
def k0_dev29 (d0 : Dev nD) : Nat :=
  let c0_i32_267 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v385 : BitVec 32 := Scalar.addi v2 c29_i32
  let c32_i32_259 : BitVec 32 := 32#32
  let c0_i32_260 : BitVec 32 := 0#32
  let v386 : BitVec 1 := Scalar.cmpi .eq c32_i32_259 c0_i32_260
  let c1_i32_261 : BitVec 32 := 1#32
  let v387 : BitVec 32 := Scalar.select v386 c1_i32_261 c32_i32_259
  let v388 : BitVec 32 := Scalar.remsi v385 v387
  let c0_i32_263 : BitVec 32 := 0#32
  let v390 : BitVec 1 := Scalar.cmpi .slt v388 c0_i32_263
  let c0_i32_264 : BitVec 32 := 0#32
  let v391 : BitVec 1 := Scalar.cmpi .slt v387 c0_i32_264
  let v392 : BitVec 1 := Scalar.xori v390 v391
  let c0_i32_262 : BitVec 32 := 0#32
  let v389 : BitVec 1 := Scalar.cmpi .ne v388 c0_i32_262
  let v393 : BitVec 1 := Scalar.andi v392 v389
  let v394 : BitVec 32 := Scalar.addi v388 v387
  let v395 : BitVec 32 := Scalar.select v393 v394 v388
  let c1_i32_266 : BitVec 32 := 1#32
  let v396 : BitVec 32 := Scalar.muli v395 c1_i32_266
  let v397 : BitVec 32 := Scalar.addi c0_i32_267 v396
  v397.toNat
def k0_dev30 (d0 : Dev nD) : Nat :=
  let c0_i32_276 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v398 : BitVec 32 := Scalar.addi v2 c30_i32
  let c32_i32_268 : BitVec 32 := 32#32
  let c0_i32_269 : BitVec 32 := 0#32
  let v399 : BitVec 1 := Scalar.cmpi .eq c32_i32_268 c0_i32_269
  let c1_i32_270 : BitVec 32 := 1#32
  let v400 : BitVec 32 := Scalar.select v399 c1_i32_270 c32_i32_268
  let v401 : BitVec 32 := Scalar.remsi v398 v400
  let c0_i32_272 : BitVec 32 := 0#32
  let v403 : BitVec 1 := Scalar.cmpi .slt v401 c0_i32_272
  let c0_i32_273 : BitVec 32 := 0#32
  let v404 : BitVec 1 := Scalar.cmpi .slt v400 c0_i32_273
  let v405 : BitVec 1 := Scalar.xori v403 v404
  let c0_i32_271 : BitVec 32 := 0#32
  let v402 : BitVec 1 := Scalar.cmpi .ne v401 c0_i32_271
  let v406 : BitVec 1 := Scalar.andi v405 v402
  let v407 : BitVec 32 := Scalar.addi v401 v400
  let v408 : BitVec 32 := Scalar.select v406 v407 v401
  let c1_i32_275 : BitVec 32 := 1#32
  let v409 : BitVec 32 := Scalar.muli v408 c1_i32_275
  let v410 : BitVec 32 := Scalar.addi c0_i32_276 v409
  v410.toNat
def k0_dev31 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v411 : BitVec 32 := Scalar.addi v2 c31_i32
  let c32_i32_277 : BitVec 32 := 32#32
  let c0_i32_278 : BitVec 32 := 0#32
  let v412 : BitVec 1 := Scalar.cmpi .eq c32_i32_277 c0_i32_278
  let c1_i32_279 : BitVec 32 := 1#32
  let v413 : BitVec 32 := Scalar.select v412 c1_i32_279 c32_i32_277
  let v414 : BitVec 32 := Scalar.remsi v411 v413
  let c0_i32_281 : BitVec 32 := 0#32
  let v416 : BitVec 1 := Scalar.cmpi .slt v414 c0_i32_281
  let c0_i32_282 : BitVec 32 := 0#32
  let v417 : BitVec 1 := Scalar.cmpi .slt v413 c0_i32_282
  let v418 : BitVec 1 := Scalar.xori v416 v417
  let c0_i32_280 : BitVec 32 := 0#32
  let v415 : BitVec 1 := Scalar.cmpi .ne v414 c0_i32_280
  let v419 : BitVec 1 := Scalar.andi v418 v415
  let v420 : BitVec 32 := Scalar.addi v414 v413
  let v421 : BitVec 32 := Scalar.select v419 v420 v414
  let c1_i32_284 : BitVec 32 := 1#32
  let v422 : BitVec 32 := Scalar.muli v421 c1_i32_284
  let v423 : BitVec 32 := Scalar.addi c0_i32_285 v422
  v423.toNat
def k0_off1 (d0 : Dev nD) (c1_i32_304 : BitVec 32) (c0_i32_312 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v440 : BitVec 32 := Scalar.addi v19 c1_i32_304
  let c4_i32_305 : BitVec 32 := 4#32
  let c0_i32_306 : BitVec 32 := 0#32
  let v441 : BitVec 1 := Scalar.cmpi .eq c4_i32_305 c0_i32_306
  let c1_i32_307 : BitVec 32 := 1#32
  let v442 : BitVec 32 := Scalar.select v441 c1_i32_307 c4_i32_305
  let v443 : BitVec 32 := Scalar.remsi v440 v442
  let c0_i32_309 : BitVec 32 := 0#32
  let v445 : BitVec 1 := Scalar.cmpi .slt v443 c0_i32_309
  let c0_i32_310 : BitVec 32 := 0#32
  let v446 : BitVec 1 := Scalar.cmpi .slt v442 c0_i32_310
  let v447 : BitVec 1 := Scalar.xori v445 v446
  let c0_i32_308 : BitVec 32 := 0#32
  let v444 : BitVec 1 := Scalar.cmpi .ne v443 c0_i32_308
  let v448 : BitVec 1 := Scalar.andi v447 v444
  let v449 : BitVec 32 := Scalar.addi v443 v442
  let v450 : BitVec 32 := Scalar.select v448 v449 v443
  let c8_i32_311 : BitVec 32 := 8#32
  let v451 : BitVec 32 := Scalar.muli v450 c8_i32_311
  let v452 : BitVec 32 := Scalar.addi v451 c0_i32_312
  ![v452.toNat]
def k0_off2 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off3 (d0 : Dev nD) : Fin 2 → Nat :=
  let c0_i32_316 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_313 : BitVec 32 := 128#32
  let v454 : BitVec 32 := Scalar.muli v2 c128_i32_313
  ![0, v454.toNat]
def k0_off4 (d0 : Dev nD) (c1_i32_304 : BitVec 32) (c0_i32_312 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let v440 : BitVec 32 := Scalar.addi v19 c1_i32_304
  let c4_i32_305 : BitVec 32 := 4#32
  let c0_i32_306 : BitVec 32 := 0#32
  let v441 : BitVec 1 := Scalar.cmpi .eq c4_i32_305 c0_i32_306
  let c1_i32_307 : BitVec 32 := 1#32
  let v442 : BitVec 32 := Scalar.select v441 c1_i32_307 c4_i32_305
  let v443 : BitVec 32 := Scalar.remsi v440 v442
  let c0_i32_309 : BitVec 32 := 0#32
  let v445 : BitVec 1 := Scalar.cmpi .slt v443 c0_i32_309
  let c0_i32_310 : BitVec 32 := 0#32
  let v446 : BitVec 1 := Scalar.cmpi .slt v442 c0_i32_310
  let v447 : BitVec 1 := Scalar.xori v445 v446
  let c0_i32_308 : BitVec 32 := 0#32
  let v444 : BitVec 1 := Scalar.cmpi .ne v443 c0_i32_308
  let v448 : BitVec 1 := Scalar.andi v447 v444
  let v449 : BitVec 32 := Scalar.addi v443 v442
  let v450 : BitVec 32 := Scalar.select v448 v449 v443
  let c8_i32_311 : BitVec 32 := 8#32
  let v451 : BitVec 32 := Scalar.muli v450 c8_i32_311
  let v452 : BitVec 32 := Scalar.addi v451 c0_i32_312
  let c128_i32 : BitVec 32 := 128#32
  let v453 : BitVec 32 := Scalar.muli v452 c128_i32
  let c0_i32_317 : BitVec 32 := 0#32
  ![v453.toNat, 0]
def k0_dev32 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_304 : BitVec 32 := 1#32
  let v440 : BitVec 32 := Scalar.addi v19 c1_i32_304
  let c4_i32_305 : BitVec 32 := 4#32
  let c0_i32_306 : BitVec 32 := 0#32
  let v441 : BitVec 1 := Scalar.cmpi .eq c4_i32_305 c0_i32_306
  let c1_i32_307 : BitVec 32 := 1#32
  let v442 : BitVec 32 := Scalar.select v441 c1_i32_307 c4_i32_305
  let v443 : BitVec 32 := Scalar.remsi v440 v442
  let c0_i32_309 : BitVec 32 := 0#32
  let v445 : BitVec 1 := Scalar.cmpi .slt v443 c0_i32_309
  let c0_i32_310 : BitVec 32 := 0#32
  let v446 : BitVec 1 := Scalar.cmpi .slt v442 c0_i32_310
  let v447 : BitVec 1 := Scalar.xori v445 v446
  let c0_i32_308 : BitVec 32 := 0#32
  let v444 : BitVec 1 := Scalar.cmpi .ne v443 c0_i32_308
  let v448 : BitVec 1 := Scalar.andi v447 v444
  let v449 : BitVec 32 := Scalar.addi v443 v442
  let v450 : BitVec 32 := Scalar.select v448 v449 v443
  let c8_i32_311 : BitVec 32 := 8#32
  let v451 : BitVec 32 := Scalar.muli v450 c8_i32_311
  let c0_i32_312 : BitVec 32 := 0#32
  let v452 : BitVec 32 := Scalar.addi v451 c0_i32_312
  let c1_i32_314 : BitVec 32 := 1#32
  let v455 : BitVec 32 := Scalar.muli v452 c1_i32_314
  let v456 : BitVec 32 := Scalar.addi c0_i32_315 v455
  v456.toNat
def k0_dev33 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_304 : BitVec 32 := 1#32
  let v440 : BitVec 32 := Scalar.addi v19 c1_i32_304
  let c4_i32_305 : BitVec 32 := 4#32
  let c0_i32_306 : BitVec 32 := 0#32
  let v441 : BitVec 1 := Scalar.cmpi .eq c4_i32_305 c0_i32_306
  let c1_i32_307 : BitVec 32 := 1#32
  let v442 : BitVec 32 := Scalar.select v441 c1_i32_307 c4_i32_305
  let v443 : BitVec 32 := Scalar.remsi v440 v442
  let c0_i32_309 : BitVec 32 := 0#32
  let v445 : BitVec 1 := Scalar.cmpi .slt v443 c0_i32_309
  let c0_i32_310 : BitVec 32 := 0#32
  let v446 : BitVec 1 := Scalar.cmpi .slt v442 c0_i32_310
  let v447 : BitVec 1 := Scalar.xori v445 v446
  let c0_i32_308 : BitVec 32 := 0#32
  let v444 : BitVec 1 := Scalar.cmpi .ne v443 c0_i32_308
  let v448 : BitVec 1 := Scalar.andi v447 v444
  let v449 : BitVec 32 := Scalar.addi v443 v442
  let v450 : BitVec 32 := Scalar.select v448 v449 v443
  let c8_i32_318 : BitVec 32 := 8#32
  let v463 : BitVec 32 := Scalar.muli v450 c8_i32_318
  let c1_i32_319 : BitVec 32 := 1#32
  let v464 : BitVec 32 := Scalar.addi v463 c1_i32_319
  let c1_i32_322 : BitVec 32 := 1#32
  let v467 : BitVec 32 := Scalar.muli v464 c1_i32_322
  let v468 : BitVec 32 := Scalar.addi c0_i32_323 v467
  v468.toNat
def k0_dev34 (d0 : Dev nD) : Nat :=
  let c0_i32_331 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_304 : BitVec 32 := 1#32
  let v440 : BitVec 32 := Scalar.addi v19 c1_i32_304
  let c4_i32_305 : BitVec 32 := 4#32
  let c0_i32_306 : BitVec 32 := 0#32
  let v441 : BitVec 1 := Scalar.cmpi .eq c4_i32_305 c0_i32_306
  let c1_i32_307 : BitVec 32 := 1#32
  let v442 : BitVec 32 := Scalar.select v441 c1_i32_307 c4_i32_305
  let v443 : BitVec 32 := Scalar.remsi v440 v442
  let c0_i32_309 : BitVec 32 := 0#32
  let v445 : BitVec 1 := Scalar.cmpi .slt v443 c0_i32_309
  let c0_i32_310 : BitVec 32 := 0#32
  let v446 : BitVec 1 := Scalar.cmpi .slt v442 c0_i32_310
  let v447 : BitVec 1 := Scalar.xori v445 v446
  let c0_i32_308 : BitVec 32 := 0#32
  let v444 : BitVec 1 := Scalar.cmpi .ne v443 c0_i32_308
  let v448 : BitVec 1 := Scalar.andi v447 v444
  let v449 : BitVec 32 := Scalar.addi v443 v442
  let v450 : BitVec 32 := Scalar.select v448 v449 v443
  let c8_i32_326 : BitVec 32 := 8#32
  let v475 : BitVec 32 := Scalar.muli v450 c8_i32_326
  let c2_i32_327 : BitVec 32 := 2#32
  let v476 : BitVec 32 := Scalar.addi v475 c2_i32_327
  let c1_i32_330 : BitVec 32 := 1#32
  let v479 : BitVec 32 := Scalar.muli v476 c1_i32_330
  let v480 : BitVec 32 := Scalar.addi c0_i32_331 v479
  v480.toNat
def k0_dev35 (d0 : Dev nD) : Nat :=
  let c0_i32_339 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_304 : BitVec 32 := 1#32
  let v440 : BitVec 32 := Scalar.addi v19 c1_i32_304
  let c4_i32_305 : BitVec 32 := 4#32
  let c0_i32_306 : BitVec 32 := 0#32
  let v441 : BitVec 1 := Scalar.cmpi .eq c4_i32_305 c0_i32_306
  let c1_i32_307 : BitVec 32 := 1#32
  let v442 : BitVec 32 := Scalar.select v441 c1_i32_307 c4_i32_305
  let v443 : BitVec 32 := Scalar.remsi v440 v442
  let c0_i32_309 : BitVec 32 := 0#32
  let v445 : BitVec 1 := Scalar.cmpi .slt v443 c0_i32_309
  let c0_i32_310 : BitVec 32 := 0#32
  let v446 : BitVec 1 := Scalar.cmpi .slt v442 c0_i32_310
  let v447 : BitVec 1 := Scalar.xori v445 v446
  let c0_i32_308 : BitVec 32 := 0#32
  let v444 : BitVec 1 := Scalar.cmpi .ne v443 c0_i32_308
  let v448 : BitVec 1 := Scalar.andi v447 v444
  let v449 : BitVec 32 := Scalar.addi v443 v442
  let v450 : BitVec 32 := Scalar.select v448 v449 v443
  let c8_i32_334 : BitVec 32 := 8#32
  let v487 : BitVec 32 := Scalar.muli v450 c8_i32_334
  let c3_i32_335 : BitVec 32 := 3#32
  let v488 : BitVec 32 := Scalar.addi v487 c3_i32_335
  let c1_i32_338 : BitVec 32 := 1#32
  let v491 : BitVec 32 := Scalar.muli v488 c1_i32_338
  let v492 : BitVec 32 := Scalar.addi c0_i32_339 v491
  v492.toNat
def k0_dev36 (d0 : Dev nD) : Nat :=
  let c0_i32_347 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_304 : BitVec 32 := 1#32
  let v440 : BitVec 32 := Scalar.addi v19 c1_i32_304
  let c4_i32_305 : BitVec 32 := 4#32
  let c0_i32_306 : BitVec 32 := 0#32
  let v441 : BitVec 1 := Scalar.cmpi .eq c4_i32_305 c0_i32_306
  let c1_i32_307 : BitVec 32 := 1#32
  let v442 : BitVec 32 := Scalar.select v441 c1_i32_307 c4_i32_305
  let v443 : BitVec 32 := Scalar.remsi v440 v442
  let c0_i32_309 : BitVec 32 := 0#32
  let v445 : BitVec 1 := Scalar.cmpi .slt v443 c0_i32_309
  let c0_i32_310 : BitVec 32 := 0#32
  let v446 : BitVec 1 := Scalar.cmpi .slt v442 c0_i32_310
  let v447 : BitVec 1 := Scalar.xori v445 v446
  let c0_i32_308 : BitVec 32 := 0#32
  let v444 : BitVec 1 := Scalar.cmpi .ne v443 c0_i32_308
  let v448 : BitVec 1 := Scalar.andi v447 v444
  let v449 : BitVec 32 := Scalar.addi v443 v442
  let v450 : BitVec 32 := Scalar.select v448 v449 v443
  let c8_i32_342 : BitVec 32 := 8#32
  let v499 : BitVec 32 := Scalar.muli v450 c8_i32_342
  let c4_i32_343 : BitVec 32 := 4#32
  let v500 : BitVec 32 := Scalar.addi v499 c4_i32_343
  let c1_i32_346 : BitVec 32 := 1#32
  let v503 : BitVec 32 := Scalar.muli v500 c1_i32_346
  let v504 : BitVec 32 := Scalar.addi c0_i32_347 v503
  v504.toNat
def k0_dev37 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_304 : BitVec 32 := 1#32
  let v440 : BitVec 32 := Scalar.addi v19 c1_i32_304
  let c4_i32_305 : BitVec 32 := 4#32
  let c0_i32_306 : BitVec 32 := 0#32
  let v441 : BitVec 1 := Scalar.cmpi .eq c4_i32_305 c0_i32_306
  let c1_i32_307 : BitVec 32 := 1#32
  let v442 : BitVec 32 := Scalar.select v441 c1_i32_307 c4_i32_305
  let v443 : BitVec 32 := Scalar.remsi v440 v442
  let c0_i32_309 : BitVec 32 := 0#32
  let v445 : BitVec 1 := Scalar.cmpi .slt v443 c0_i32_309
  let c0_i32_310 : BitVec 32 := 0#32
  let v446 : BitVec 1 := Scalar.cmpi .slt v442 c0_i32_310
  let v447 : BitVec 1 := Scalar.xori v445 v446
  let c0_i32_308 : BitVec 32 := 0#32
  let v444 : BitVec 1 := Scalar.cmpi .ne v443 c0_i32_308
  let v448 : BitVec 1 := Scalar.andi v447 v444
  let v449 : BitVec 32 := Scalar.addi v443 v442
  let v450 : BitVec 32 := Scalar.select v448 v449 v443
  let c8_i32_350 : BitVec 32 := 8#32
  let v511 : BitVec 32 := Scalar.muli v450 c8_i32_350
  let c5_i32_351 : BitVec 32 := 5#32
  let v512 : BitVec 32 := Scalar.addi v511 c5_i32_351
  let c1_i32_354 : BitVec 32 := 1#32
  let v515 : BitVec 32 := Scalar.muli v512 c1_i32_354
  let v516 : BitVec 32 := Scalar.addi c0_i32_355 v515
  v516.toNat
def k0_dev38 (d0 : Dev nD) : Nat :=
  let c0_i32_363 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_304 : BitVec 32 := 1#32
  let v440 : BitVec 32 := Scalar.addi v19 c1_i32_304
  let c4_i32_305 : BitVec 32 := 4#32
  let c0_i32_306 : BitVec 32 := 0#32
  let v441 : BitVec 1 := Scalar.cmpi .eq c4_i32_305 c0_i32_306
  let c1_i32_307 : BitVec 32 := 1#32
  let v442 : BitVec 32 := Scalar.select v441 c1_i32_307 c4_i32_305
  let v443 : BitVec 32 := Scalar.remsi v440 v442
  let c0_i32_309 : BitVec 32 := 0#32
  let v445 : BitVec 1 := Scalar.cmpi .slt v443 c0_i32_309
  let c0_i32_310 : BitVec 32 := 0#32
  let v446 : BitVec 1 := Scalar.cmpi .slt v442 c0_i32_310
  let v447 : BitVec 1 := Scalar.xori v445 v446
  let c0_i32_308 : BitVec 32 := 0#32
  let v444 : BitVec 1 := Scalar.cmpi .ne v443 c0_i32_308
  let v448 : BitVec 1 := Scalar.andi v447 v444
  let v449 : BitVec 32 := Scalar.addi v443 v442
  let v450 : BitVec 32 := Scalar.select v448 v449 v443
  let c8_i32_358 : BitVec 32 := 8#32
  let v523 : BitVec 32 := Scalar.muli v450 c8_i32_358
  let c6_i32_359 : BitVec 32 := 6#32
  let v524 : BitVec 32 := Scalar.addi v523 c6_i32_359
  let c1_i32_362 : BitVec 32 := 1#32
  let v527 : BitVec 32 := Scalar.muli v524 c1_i32_362
  let v528 : BitVec 32 := Scalar.addi c0_i32_363 v527
  v528.toNat
def k0_dev39 (d0 : Dev nD) : Nat :=
  let c0_i32_371 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_304 : BitVec 32 := 1#32
  let v440 : BitVec 32 := Scalar.addi v19 c1_i32_304
  let c4_i32_305 : BitVec 32 := 4#32
  let c0_i32_306 : BitVec 32 := 0#32
  let v441 : BitVec 1 := Scalar.cmpi .eq c4_i32_305 c0_i32_306
  let c1_i32_307 : BitVec 32 := 1#32
  let v442 : BitVec 32 := Scalar.select v441 c1_i32_307 c4_i32_305
  let v443 : BitVec 32 := Scalar.remsi v440 v442
  let c0_i32_309 : BitVec 32 := 0#32
  let v445 : BitVec 1 := Scalar.cmpi .slt v443 c0_i32_309
  let c0_i32_310 : BitVec 32 := 0#32
  let v446 : BitVec 1 := Scalar.cmpi .slt v442 c0_i32_310
  let v447 : BitVec 1 := Scalar.xori v445 v446
  let c0_i32_308 : BitVec 32 := 0#32
  let v444 : BitVec 1 := Scalar.cmpi .ne v443 c0_i32_308
  let v448 : BitVec 1 := Scalar.andi v447 v444
  let v449 : BitVec 32 := Scalar.addi v443 v442
  let v450 : BitVec 32 := Scalar.select v448 v449 v443
  let c8_i32_366 : BitVec 32 := 8#32
  let v535 : BitVec 32 := Scalar.muli v450 c8_i32_366
  let c7_i32_367 : BitVec 32 := 7#32
  let v536 : BitVec 32 := Scalar.addi v535 c7_i32_367
  let c1_i32_370 : BitVec 32 := 1#32
  let v539 : BitVec 32 := Scalar.muli v536 c1_i32_370
  let v540 : BitVec 32 := Scalar.addi c0_i32_371 v539
  v540.toNat
def k0_dev40 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_374 : BitVec 32 := 2#32
  let v547 : BitVec 32 := Scalar.addi v19 c2_i32_374
  let c4_i32_375 : BitVec 32 := 4#32
  let c0_i32_376 : BitVec 32 := 0#32
  let v548 : BitVec 1 := Scalar.cmpi .eq c4_i32_375 c0_i32_376
  let c1_i32_377 : BitVec 32 := 1#32
  let v549 : BitVec 32 := Scalar.select v548 c1_i32_377 c4_i32_375
  let v550 : BitVec 32 := Scalar.remsi v547 v549
  let c0_i32_379 : BitVec 32 := 0#32
  let v552 : BitVec 1 := Scalar.cmpi .slt v550 c0_i32_379
  let c0_i32_380 : BitVec 32 := 0#32
  let v553 : BitVec 1 := Scalar.cmpi .slt v549 c0_i32_380
  let v554 : BitVec 1 := Scalar.xori v552 v553
  let c0_i32_378 : BitVec 32 := 0#32
  let v551 : BitVec 1 := Scalar.cmpi .ne v550 c0_i32_378
  let v555 : BitVec 1 := Scalar.andi v554 v551
  let v556 : BitVec 32 := Scalar.addi v550 v549
  let v557 : BitVec 32 := Scalar.select v555 v556 v550
  let c8_i32_381 : BitVec 32 := 8#32
  let v558 : BitVec 32 := Scalar.muli v557 c8_i32_381
  let c0_i32_382 : BitVec 32 := 0#32
  let v559 : BitVec 32 := Scalar.addi v558 c0_i32_382
  let c1_i32_385 : BitVec 32 := 1#32
  let v562 : BitVec 32 := Scalar.muli v559 c1_i32_385
  let v563 : BitVec 32 := Scalar.addi c0_i32_386 v562
  v563.toNat
def k0_dev41 (d0 : Dev nD) : Nat :=
  let c0_i32_394 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_374 : BitVec 32 := 2#32
  let v547 : BitVec 32 := Scalar.addi v19 c2_i32_374
  let c4_i32_375 : BitVec 32 := 4#32
  let c0_i32_376 : BitVec 32 := 0#32
  let v548 : BitVec 1 := Scalar.cmpi .eq c4_i32_375 c0_i32_376
  let c1_i32_377 : BitVec 32 := 1#32
  let v549 : BitVec 32 := Scalar.select v548 c1_i32_377 c4_i32_375
  let v550 : BitVec 32 := Scalar.remsi v547 v549
  let c0_i32_379 : BitVec 32 := 0#32
  let v552 : BitVec 1 := Scalar.cmpi .slt v550 c0_i32_379
  let c0_i32_380 : BitVec 32 := 0#32
  let v553 : BitVec 1 := Scalar.cmpi .slt v549 c0_i32_380
  let v554 : BitVec 1 := Scalar.xori v552 v553
  let c0_i32_378 : BitVec 32 := 0#32
  let v551 : BitVec 1 := Scalar.cmpi .ne v550 c0_i32_378
  let v555 : BitVec 1 := Scalar.andi v554 v551
  let v556 : BitVec 32 := Scalar.addi v550 v549
  let v557 : BitVec 32 := Scalar.select v555 v556 v550
  let c8_i32_389 : BitVec 32 := 8#32
  let v570 : BitVec 32 := Scalar.muli v557 c8_i32_389
  let c1_i32_390 : BitVec 32 := 1#32
  let v571 : BitVec 32 := Scalar.addi v570 c1_i32_390
  let c1_i32_393 : BitVec 32 := 1#32
  let v574 : BitVec 32 := Scalar.muli v571 c1_i32_393
  let v575 : BitVec 32 := Scalar.addi c0_i32_394 v574
  v575.toNat
def k0_dev42 (d0 : Dev nD) : Nat :=
  let c0_i32_402 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_374 : BitVec 32 := 2#32
  let v547 : BitVec 32 := Scalar.addi v19 c2_i32_374
  let c4_i32_375 : BitVec 32 := 4#32
  let c0_i32_376 : BitVec 32 := 0#32
  let v548 : BitVec 1 := Scalar.cmpi .eq c4_i32_375 c0_i32_376
  let c1_i32_377 : BitVec 32 := 1#32
  let v549 : BitVec 32 := Scalar.select v548 c1_i32_377 c4_i32_375
  let v550 : BitVec 32 := Scalar.remsi v547 v549
  let c0_i32_379 : BitVec 32 := 0#32
  let v552 : BitVec 1 := Scalar.cmpi .slt v550 c0_i32_379
  let c0_i32_380 : BitVec 32 := 0#32
  let v553 : BitVec 1 := Scalar.cmpi .slt v549 c0_i32_380
  let v554 : BitVec 1 := Scalar.xori v552 v553
  let c0_i32_378 : BitVec 32 := 0#32
  let v551 : BitVec 1 := Scalar.cmpi .ne v550 c0_i32_378
  let v555 : BitVec 1 := Scalar.andi v554 v551
  let v556 : BitVec 32 := Scalar.addi v550 v549
  let v557 : BitVec 32 := Scalar.select v555 v556 v550
  let c8_i32_397 : BitVec 32 := 8#32
  let v582 : BitVec 32 := Scalar.muli v557 c8_i32_397
  let c2_i32_398 : BitVec 32 := 2#32
  let v583 : BitVec 32 := Scalar.addi v582 c2_i32_398
  let c1_i32_401 : BitVec 32 := 1#32
  let v586 : BitVec 32 := Scalar.muli v583 c1_i32_401
  let v587 : BitVec 32 := Scalar.addi c0_i32_402 v586
  v587.toNat
def k0_dev43 (d0 : Dev nD) : Nat :=
  let c0_i32_410 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_374 : BitVec 32 := 2#32
  let v547 : BitVec 32 := Scalar.addi v19 c2_i32_374
  let c4_i32_375 : BitVec 32 := 4#32
  let c0_i32_376 : BitVec 32 := 0#32
  let v548 : BitVec 1 := Scalar.cmpi .eq c4_i32_375 c0_i32_376
  let c1_i32_377 : BitVec 32 := 1#32
  let v549 : BitVec 32 := Scalar.select v548 c1_i32_377 c4_i32_375
  let v550 : BitVec 32 := Scalar.remsi v547 v549
  let c0_i32_379 : BitVec 32 := 0#32
  let v552 : BitVec 1 := Scalar.cmpi .slt v550 c0_i32_379
  let c0_i32_380 : BitVec 32 := 0#32
  let v553 : BitVec 1 := Scalar.cmpi .slt v549 c0_i32_380
  let v554 : BitVec 1 := Scalar.xori v552 v553
  let c0_i32_378 : BitVec 32 := 0#32
  let v551 : BitVec 1 := Scalar.cmpi .ne v550 c0_i32_378
  let v555 : BitVec 1 := Scalar.andi v554 v551
  let v556 : BitVec 32 := Scalar.addi v550 v549
  let v557 : BitVec 32 := Scalar.select v555 v556 v550
  let c8_i32_405 : BitVec 32 := 8#32
  let v594 : BitVec 32 := Scalar.muli v557 c8_i32_405
  let c3_i32_406 : BitVec 32 := 3#32
  let v595 : BitVec 32 := Scalar.addi v594 c3_i32_406
  let c1_i32_409 : BitVec 32 := 1#32
  let v598 : BitVec 32 := Scalar.muli v595 c1_i32_409
  let v599 : BitVec 32 := Scalar.addi c0_i32_410 v598
  v599.toNat
def k0_dev44 (d0 : Dev nD) : Nat :=
  let c0_i32_418 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_374 : BitVec 32 := 2#32
  let v547 : BitVec 32 := Scalar.addi v19 c2_i32_374
  let c4_i32_375 : BitVec 32 := 4#32
  let c0_i32_376 : BitVec 32 := 0#32
  let v548 : BitVec 1 := Scalar.cmpi .eq c4_i32_375 c0_i32_376
  let c1_i32_377 : BitVec 32 := 1#32
  let v549 : BitVec 32 := Scalar.select v548 c1_i32_377 c4_i32_375
  let v550 : BitVec 32 := Scalar.remsi v547 v549
  let c0_i32_379 : BitVec 32 := 0#32
  let v552 : BitVec 1 := Scalar.cmpi .slt v550 c0_i32_379
  let c0_i32_380 : BitVec 32 := 0#32
  let v553 : BitVec 1 := Scalar.cmpi .slt v549 c0_i32_380
  let v554 : BitVec 1 := Scalar.xori v552 v553
  let c0_i32_378 : BitVec 32 := 0#32
  let v551 : BitVec 1 := Scalar.cmpi .ne v550 c0_i32_378
  let v555 : BitVec 1 := Scalar.andi v554 v551
  let v556 : BitVec 32 := Scalar.addi v550 v549
  let v557 : BitVec 32 := Scalar.select v555 v556 v550
  let c8_i32_413 : BitVec 32 := 8#32
  let v606 : BitVec 32 := Scalar.muli v557 c8_i32_413
  let c4_i32_414 : BitVec 32 := 4#32
  let v607 : BitVec 32 := Scalar.addi v606 c4_i32_414
  let c1_i32_417 : BitVec 32 := 1#32
  let v610 : BitVec 32 := Scalar.muli v607 c1_i32_417
  let v611 : BitVec 32 := Scalar.addi c0_i32_418 v610
  v611.toNat
def k0_dev45 (d0 : Dev nD) : Nat :=
  let c0_i32_426 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_374 : BitVec 32 := 2#32
  let v547 : BitVec 32 := Scalar.addi v19 c2_i32_374
  let c4_i32_375 : BitVec 32 := 4#32
  let c0_i32_376 : BitVec 32 := 0#32
  let v548 : BitVec 1 := Scalar.cmpi .eq c4_i32_375 c0_i32_376
  let c1_i32_377 : BitVec 32 := 1#32
  let v549 : BitVec 32 := Scalar.select v548 c1_i32_377 c4_i32_375
  let v550 : BitVec 32 := Scalar.remsi v547 v549
  let c0_i32_379 : BitVec 32 := 0#32
  let v552 : BitVec 1 := Scalar.cmpi .slt v550 c0_i32_379
  let c0_i32_380 : BitVec 32 := 0#32
  let v553 : BitVec 1 := Scalar.cmpi .slt v549 c0_i32_380
  let v554 : BitVec 1 := Scalar.xori v552 v553
  let c0_i32_378 : BitVec 32 := 0#32
  let v551 : BitVec 1 := Scalar.cmpi .ne v550 c0_i32_378
  let v555 : BitVec 1 := Scalar.andi v554 v551
  let v556 : BitVec 32 := Scalar.addi v550 v549
  let v557 : BitVec 32 := Scalar.select v555 v556 v550
  let c8_i32_421 : BitVec 32 := 8#32
  let v618 : BitVec 32 := Scalar.muli v557 c8_i32_421
  let c5_i32_422 : BitVec 32 := 5#32
  let v619 : BitVec 32 := Scalar.addi v618 c5_i32_422
  let c1_i32_425 : BitVec 32 := 1#32
  let v622 : BitVec 32 := Scalar.muli v619 c1_i32_425
  let v623 : BitVec 32 := Scalar.addi c0_i32_426 v622
  v623.toNat
def k0_dev46 (d0 : Dev nD) : Nat :=
  let c0_i32_434 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_374 : BitVec 32 := 2#32
  let v547 : BitVec 32 := Scalar.addi v19 c2_i32_374
  let c4_i32_375 : BitVec 32 := 4#32
  let c0_i32_376 : BitVec 32 := 0#32
  let v548 : BitVec 1 := Scalar.cmpi .eq c4_i32_375 c0_i32_376
  let c1_i32_377 : BitVec 32 := 1#32
  let v549 : BitVec 32 := Scalar.select v548 c1_i32_377 c4_i32_375
  let v550 : BitVec 32 := Scalar.remsi v547 v549
  let c0_i32_379 : BitVec 32 := 0#32
  let v552 : BitVec 1 := Scalar.cmpi .slt v550 c0_i32_379
  let c0_i32_380 : BitVec 32 := 0#32
  let v553 : BitVec 1 := Scalar.cmpi .slt v549 c0_i32_380
  let v554 : BitVec 1 := Scalar.xori v552 v553
  let c0_i32_378 : BitVec 32 := 0#32
  let v551 : BitVec 1 := Scalar.cmpi .ne v550 c0_i32_378
  let v555 : BitVec 1 := Scalar.andi v554 v551
  let v556 : BitVec 32 := Scalar.addi v550 v549
  let v557 : BitVec 32 := Scalar.select v555 v556 v550
  let c8_i32_429 : BitVec 32 := 8#32
  let v630 : BitVec 32 := Scalar.muli v557 c8_i32_429
  let c6_i32_430 : BitVec 32 := 6#32
  let v631 : BitVec 32 := Scalar.addi v630 c6_i32_430
  let c1_i32_433 : BitVec 32 := 1#32
  let v634 : BitVec 32 := Scalar.muli v631 c1_i32_433
  let v635 : BitVec 32 := Scalar.addi c0_i32_434 v634
  v635.toNat
def k0_dev47 (d0 : Dev nD) : Nat :=
  let c0_i32_442 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c2_i32_374 : BitVec 32 := 2#32
  let v547 : BitVec 32 := Scalar.addi v19 c2_i32_374
  let c4_i32_375 : BitVec 32 := 4#32
  let c0_i32_376 : BitVec 32 := 0#32
  let v548 : BitVec 1 := Scalar.cmpi .eq c4_i32_375 c0_i32_376
  let c1_i32_377 : BitVec 32 := 1#32
  let v549 : BitVec 32 := Scalar.select v548 c1_i32_377 c4_i32_375
  let v550 : BitVec 32 := Scalar.remsi v547 v549
  let c0_i32_379 : BitVec 32 := 0#32
  let v552 : BitVec 1 := Scalar.cmpi .slt v550 c0_i32_379
  let c0_i32_380 : BitVec 32 := 0#32
  let v553 : BitVec 1 := Scalar.cmpi .slt v549 c0_i32_380
  let v554 : BitVec 1 := Scalar.xori v552 v553
  let c0_i32_378 : BitVec 32 := 0#32
  let v551 : BitVec 1 := Scalar.cmpi .ne v550 c0_i32_378
  let v555 : BitVec 1 := Scalar.andi v554 v551
  let v556 : BitVec 32 := Scalar.addi v550 v549
  let v557 : BitVec 32 := Scalar.select v555 v556 v550
  let c8_i32_437 : BitVec 32 := 8#32
  let v642 : BitVec 32 := Scalar.muli v557 c8_i32_437
  let c7_i32_438 : BitVec 32 := 7#32
  let v643 : BitVec 32 := Scalar.addi v642 c7_i32_438
  let c1_i32_441 : BitVec 32 := 1#32
  let v646 : BitVec 32 := Scalar.muli v643 c1_i32_441
  let v647 : BitVec 32 := Scalar.addi c0_i32_442 v646
  v647.toNat
def k0_dev48 (d0 : Dev nD) : Nat :=
  let c0_i32_457 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_445 : BitVec 32 := 3#32
  let v654 : BitVec 32 := Scalar.addi v19 c3_i32_445
  let c4_i32_446 : BitVec 32 := 4#32
  let c0_i32_447 : BitVec 32 := 0#32
  let v655 : BitVec 1 := Scalar.cmpi .eq c4_i32_446 c0_i32_447
  let c1_i32_448 : BitVec 32 := 1#32
  let v656 : BitVec 32 := Scalar.select v655 c1_i32_448 c4_i32_446
  let v657 : BitVec 32 := Scalar.remsi v654 v656
  let c0_i32_450 : BitVec 32 := 0#32
  let v659 : BitVec 1 := Scalar.cmpi .slt v657 c0_i32_450
  let c0_i32_451 : BitVec 32 := 0#32
  let v660 : BitVec 1 := Scalar.cmpi .slt v656 c0_i32_451
  let v661 : BitVec 1 := Scalar.xori v659 v660
  let c0_i32_449 : BitVec 32 := 0#32
  let v658 : BitVec 1 := Scalar.cmpi .ne v657 c0_i32_449
  let v662 : BitVec 1 := Scalar.andi v661 v658
  let v663 : BitVec 32 := Scalar.addi v657 v656
  let v664 : BitVec 32 := Scalar.select v662 v663 v657
  let c8_i32_452 : BitVec 32 := 8#32
  let v665 : BitVec 32 := Scalar.muli v664 c8_i32_452
  let c0_i32_453 : BitVec 32 := 0#32
  let v666 : BitVec 32 := Scalar.addi v665 c0_i32_453
  let c1_i32_456 : BitVec 32 := 1#32
  let v669 : BitVec 32 := Scalar.muli v666 c1_i32_456
  let v670 : BitVec 32 := Scalar.addi c0_i32_457 v669
  v670.toNat
def k0_dev49 (d0 : Dev nD) : Nat :=
  let c0_i32_465 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_445 : BitVec 32 := 3#32
  let v654 : BitVec 32 := Scalar.addi v19 c3_i32_445
  let c4_i32_446 : BitVec 32 := 4#32
  let c0_i32_447 : BitVec 32 := 0#32
  let v655 : BitVec 1 := Scalar.cmpi .eq c4_i32_446 c0_i32_447
  let c1_i32_448 : BitVec 32 := 1#32
  let v656 : BitVec 32 := Scalar.select v655 c1_i32_448 c4_i32_446
  let v657 : BitVec 32 := Scalar.remsi v654 v656
  let c0_i32_450 : BitVec 32 := 0#32
  let v659 : BitVec 1 := Scalar.cmpi .slt v657 c0_i32_450
  let c0_i32_451 : BitVec 32 := 0#32
  let v660 : BitVec 1 := Scalar.cmpi .slt v656 c0_i32_451
  let v661 : BitVec 1 := Scalar.xori v659 v660
  let c0_i32_449 : BitVec 32 := 0#32
  let v658 : BitVec 1 := Scalar.cmpi .ne v657 c0_i32_449
  let v662 : BitVec 1 := Scalar.andi v661 v658
  let v663 : BitVec 32 := Scalar.addi v657 v656
  let v664 : BitVec 32 := Scalar.select v662 v663 v657
  let c8_i32_460 : BitVec 32 := 8#32
  let v677 : BitVec 32 := Scalar.muli v664 c8_i32_460
  let c1_i32_461 : BitVec 32 := 1#32
  let v678 : BitVec 32 := Scalar.addi v677 c1_i32_461
  let c1_i32_464 : BitVec 32 := 1#32
  let v681 : BitVec 32 := Scalar.muli v678 c1_i32_464
  let v682 : BitVec 32 := Scalar.addi c0_i32_465 v681
  v682.toNat
def k0_dev50 (d0 : Dev nD) : Nat :=
  let c0_i32_473 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_445 : BitVec 32 := 3#32
  let v654 : BitVec 32 := Scalar.addi v19 c3_i32_445
  let c4_i32_446 : BitVec 32 := 4#32
  let c0_i32_447 : BitVec 32 := 0#32
  let v655 : BitVec 1 := Scalar.cmpi .eq c4_i32_446 c0_i32_447
  let c1_i32_448 : BitVec 32 := 1#32
  let v656 : BitVec 32 := Scalar.select v655 c1_i32_448 c4_i32_446
  let v657 : BitVec 32 := Scalar.remsi v654 v656
  let c0_i32_450 : BitVec 32 := 0#32
  let v659 : BitVec 1 := Scalar.cmpi .slt v657 c0_i32_450
  let c0_i32_451 : BitVec 32 := 0#32
  let v660 : BitVec 1 := Scalar.cmpi .slt v656 c0_i32_451
  let v661 : BitVec 1 := Scalar.xori v659 v660
  let c0_i32_449 : BitVec 32 := 0#32
  let v658 : BitVec 1 := Scalar.cmpi .ne v657 c0_i32_449
  let v662 : BitVec 1 := Scalar.andi v661 v658
  let v663 : BitVec 32 := Scalar.addi v657 v656
  let v664 : BitVec 32 := Scalar.select v662 v663 v657
  let c8_i32_468 : BitVec 32 := 8#32
  let v689 : BitVec 32 := Scalar.muli v664 c8_i32_468
  let c2_i32_469 : BitVec 32 := 2#32
  let v690 : BitVec 32 := Scalar.addi v689 c2_i32_469
  let c1_i32_472 : BitVec 32 := 1#32
  let v693 : BitVec 32 := Scalar.muli v690 c1_i32_472
  let v694 : BitVec 32 := Scalar.addi c0_i32_473 v693
  v694.toNat
def k0_dev51 (d0 : Dev nD) : Nat :=
  let c0_i32_481 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_445 : BitVec 32 := 3#32
  let v654 : BitVec 32 := Scalar.addi v19 c3_i32_445
  let c4_i32_446 : BitVec 32 := 4#32
  let c0_i32_447 : BitVec 32 := 0#32
  let v655 : BitVec 1 := Scalar.cmpi .eq c4_i32_446 c0_i32_447
  let c1_i32_448 : BitVec 32 := 1#32
  let v656 : BitVec 32 := Scalar.select v655 c1_i32_448 c4_i32_446
  let v657 : BitVec 32 := Scalar.remsi v654 v656
  let c0_i32_450 : BitVec 32 := 0#32
  let v659 : BitVec 1 := Scalar.cmpi .slt v657 c0_i32_450
  let c0_i32_451 : BitVec 32 := 0#32
  let v660 : BitVec 1 := Scalar.cmpi .slt v656 c0_i32_451
  let v661 : BitVec 1 := Scalar.xori v659 v660
  let c0_i32_449 : BitVec 32 := 0#32
  let v658 : BitVec 1 := Scalar.cmpi .ne v657 c0_i32_449
  let v662 : BitVec 1 := Scalar.andi v661 v658
  let v663 : BitVec 32 := Scalar.addi v657 v656
  let v664 : BitVec 32 := Scalar.select v662 v663 v657
  let c8_i32_476 : BitVec 32 := 8#32
  let v701 : BitVec 32 := Scalar.muli v664 c8_i32_476
  let c3_i32_477 : BitVec 32 := 3#32
  let v702 : BitVec 32 := Scalar.addi v701 c3_i32_477
  let c1_i32_480 : BitVec 32 := 1#32
  let v705 : BitVec 32 := Scalar.muli v702 c1_i32_480
  let v706 : BitVec 32 := Scalar.addi c0_i32_481 v705
  v706.toNat
def k0_dev52 (d0 : Dev nD) : Nat :=
  let c0_i32_489 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_445 : BitVec 32 := 3#32
  let v654 : BitVec 32 := Scalar.addi v19 c3_i32_445
  let c4_i32_446 : BitVec 32 := 4#32
  let c0_i32_447 : BitVec 32 := 0#32
  let v655 : BitVec 1 := Scalar.cmpi .eq c4_i32_446 c0_i32_447
  let c1_i32_448 : BitVec 32 := 1#32
  let v656 : BitVec 32 := Scalar.select v655 c1_i32_448 c4_i32_446
  let v657 : BitVec 32 := Scalar.remsi v654 v656
  let c0_i32_450 : BitVec 32 := 0#32
  let v659 : BitVec 1 := Scalar.cmpi .slt v657 c0_i32_450
  let c0_i32_451 : BitVec 32 := 0#32
  let v660 : BitVec 1 := Scalar.cmpi .slt v656 c0_i32_451
  let v661 : BitVec 1 := Scalar.xori v659 v660
  let c0_i32_449 : BitVec 32 := 0#32
  let v658 : BitVec 1 := Scalar.cmpi .ne v657 c0_i32_449
  let v662 : BitVec 1 := Scalar.andi v661 v658
  let v663 : BitVec 32 := Scalar.addi v657 v656
  let v664 : BitVec 32 := Scalar.select v662 v663 v657
  let c8_i32_484 : BitVec 32 := 8#32
  let v713 : BitVec 32 := Scalar.muli v664 c8_i32_484
  let c4_i32_485 : BitVec 32 := 4#32
  let v714 : BitVec 32 := Scalar.addi v713 c4_i32_485
  let c1_i32_488 : BitVec 32 := 1#32
  let v717 : BitVec 32 := Scalar.muli v714 c1_i32_488
  let v718 : BitVec 32 := Scalar.addi c0_i32_489 v717
  v718.toNat
def k0_dev53 (d0 : Dev nD) : Nat :=
  let c0_i32_497 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_445 : BitVec 32 := 3#32
  let v654 : BitVec 32 := Scalar.addi v19 c3_i32_445
  let c4_i32_446 : BitVec 32 := 4#32
  let c0_i32_447 : BitVec 32 := 0#32
  let v655 : BitVec 1 := Scalar.cmpi .eq c4_i32_446 c0_i32_447
  let c1_i32_448 : BitVec 32 := 1#32
  let v656 : BitVec 32 := Scalar.select v655 c1_i32_448 c4_i32_446
  let v657 : BitVec 32 := Scalar.remsi v654 v656
  let c0_i32_450 : BitVec 32 := 0#32
  let v659 : BitVec 1 := Scalar.cmpi .slt v657 c0_i32_450
  let c0_i32_451 : BitVec 32 := 0#32
  let v660 : BitVec 1 := Scalar.cmpi .slt v656 c0_i32_451
  let v661 : BitVec 1 := Scalar.xori v659 v660
  let c0_i32_449 : BitVec 32 := 0#32
  let v658 : BitVec 1 := Scalar.cmpi .ne v657 c0_i32_449
  let v662 : BitVec 1 := Scalar.andi v661 v658
  let v663 : BitVec 32 := Scalar.addi v657 v656
  let v664 : BitVec 32 := Scalar.select v662 v663 v657
  let c8_i32_492 : BitVec 32 := 8#32
  let v725 : BitVec 32 := Scalar.muli v664 c8_i32_492
  let c5_i32_493 : BitVec 32 := 5#32
  let v726 : BitVec 32 := Scalar.addi v725 c5_i32_493
  let c1_i32_496 : BitVec 32 := 1#32
  let v729 : BitVec 32 := Scalar.muli v726 c1_i32_496
  let v730 : BitVec 32 := Scalar.addi c0_i32_497 v729
  v730.toNat
def k0_dev54 (d0 : Dev nD) : Nat :=
  let c0_i32_505 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_445 : BitVec 32 := 3#32
  let v654 : BitVec 32 := Scalar.addi v19 c3_i32_445
  let c4_i32_446 : BitVec 32 := 4#32
  let c0_i32_447 : BitVec 32 := 0#32
  let v655 : BitVec 1 := Scalar.cmpi .eq c4_i32_446 c0_i32_447
  let c1_i32_448 : BitVec 32 := 1#32
  let v656 : BitVec 32 := Scalar.select v655 c1_i32_448 c4_i32_446
  let v657 : BitVec 32 := Scalar.remsi v654 v656
  let c0_i32_450 : BitVec 32 := 0#32
  let v659 : BitVec 1 := Scalar.cmpi .slt v657 c0_i32_450
  let c0_i32_451 : BitVec 32 := 0#32
  let v660 : BitVec 1 := Scalar.cmpi .slt v656 c0_i32_451
  let v661 : BitVec 1 := Scalar.xori v659 v660
  let c0_i32_449 : BitVec 32 := 0#32
  let v658 : BitVec 1 := Scalar.cmpi .ne v657 c0_i32_449
  let v662 : BitVec 1 := Scalar.andi v661 v658
  let v663 : BitVec 32 := Scalar.addi v657 v656
  let v664 : BitVec 32 := Scalar.select v662 v663 v657
  let c8_i32_500 : BitVec 32 := 8#32
  let v737 : BitVec 32 := Scalar.muli v664 c8_i32_500
  let c6_i32_501 : BitVec 32 := 6#32
  let v738 : BitVec 32 := Scalar.addi v737 c6_i32_501
  let c1_i32_504 : BitVec 32 := 1#32
  let v741 : BitVec 32 := Scalar.muli v738 c1_i32_504
  let v742 : BitVec 32 := Scalar.addi c0_i32_505 v741
  v742.toNat
def k0_dev55 (d0 : Dev nD) : Nat :=
  let c0_i32_513 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c3_i32_445 : BitVec 32 := 3#32
  let v654 : BitVec 32 := Scalar.addi v19 c3_i32_445
  let c4_i32_446 : BitVec 32 := 4#32
  let c0_i32_447 : BitVec 32 := 0#32
  let v655 : BitVec 1 := Scalar.cmpi .eq c4_i32_446 c0_i32_447
  let c1_i32_448 : BitVec 32 := 1#32
  let v656 : BitVec 32 := Scalar.select v655 c1_i32_448 c4_i32_446
  let v657 : BitVec 32 := Scalar.remsi v654 v656
  let c0_i32_450 : BitVec 32 := 0#32
  let v659 : BitVec 1 := Scalar.cmpi .slt v657 c0_i32_450
  let c0_i32_451 : BitVec 32 := 0#32
  let v660 : BitVec 1 := Scalar.cmpi .slt v656 c0_i32_451
  let v661 : BitVec 1 := Scalar.xori v659 v660
  let c0_i32_449 : BitVec 32 := 0#32
  let v658 : BitVec 1 := Scalar.cmpi .ne v657 c0_i32_449
  let v662 : BitVec 1 := Scalar.andi v661 v658
  let v663 : BitVec 32 := Scalar.addi v657 v656
  let v664 : BitVec 32 := Scalar.select v662 v663 v657
  let c8_i32_508 : BitVec 32 := 8#32
  let v749 : BitVec 32 := Scalar.muli v664 c8_i32_508
  let c7_i32_509 : BitVec 32 := 7#32
  let v750 : BitVec 32 := Scalar.addi v749 c7_i32_509
  let c1_i32_512 : BitVec 32 := 1#32
  let v753 : BitVec 32 := Scalar.muli v750 c1_i32_512
  let v754 : BitVec 32 := Scalar.addi c0_i32_513 v753
  v754.toNat
def k0_dev56 (d0 : Dev nD) : Nat :=
  let c0_i32_528 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_516 : BitVec 32 := 4#32
  let v761 : BitVec 32 := Scalar.addi v19 c4_i32_516
  let c4_i32_517 : BitVec 32 := 4#32
  let c0_i32_518 : BitVec 32 := 0#32
  let v762 : BitVec 1 := Scalar.cmpi .eq c4_i32_517 c0_i32_518
  let c1_i32_519 : BitVec 32 := 1#32
  let v763 : BitVec 32 := Scalar.select v762 c1_i32_519 c4_i32_517
  let v764 : BitVec 32 := Scalar.remsi v761 v763
  let c0_i32_521 : BitVec 32 := 0#32
  let v766 : BitVec 1 := Scalar.cmpi .slt v764 c0_i32_521
  let c0_i32_522 : BitVec 32 := 0#32
  let v767 : BitVec 1 := Scalar.cmpi .slt v763 c0_i32_522
  let v768 : BitVec 1 := Scalar.xori v766 v767
  let c0_i32_520 : BitVec 32 := 0#32
  let v765 : BitVec 1 := Scalar.cmpi .ne v764 c0_i32_520
  let v769 : BitVec 1 := Scalar.andi v768 v765
  let v770 : BitVec 32 := Scalar.addi v764 v763
  let v771 : BitVec 32 := Scalar.select v769 v770 v764
  let c8_i32_523 : BitVec 32 := 8#32
  let v772 : BitVec 32 := Scalar.muli v771 c8_i32_523
  let c0_i32_524 : BitVec 32 := 0#32
  let v773 : BitVec 32 := Scalar.addi v772 c0_i32_524
  let c1_i32_527 : BitVec 32 := 1#32
  let v776 : BitVec 32 := Scalar.muli v773 c1_i32_527
  let v777 : BitVec 32 := Scalar.addi c0_i32_528 v776
  v777.toNat
def k0_dev57 (d0 : Dev nD) : Nat :=
  let c0_i32_536 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_516 : BitVec 32 := 4#32
  let v761 : BitVec 32 := Scalar.addi v19 c4_i32_516
  let c4_i32_517 : BitVec 32 := 4#32
  let c0_i32_518 : BitVec 32 := 0#32
  let v762 : BitVec 1 := Scalar.cmpi .eq c4_i32_517 c0_i32_518
  let c1_i32_519 : BitVec 32 := 1#32
  let v763 : BitVec 32 := Scalar.select v762 c1_i32_519 c4_i32_517
  let v764 : BitVec 32 := Scalar.remsi v761 v763
  let c0_i32_521 : BitVec 32 := 0#32
  let v766 : BitVec 1 := Scalar.cmpi .slt v764 c0_i32_521
  let c0_i32_522 : BitVec 32 := 0#32
  let v767 : BitVec 1 := Scalar.cmpi .slt v763 c0_i32_522
  let v768 : BitVec 1 := Scalar.xori v766 v767
  let c0_i32_520 : BitVec 32 := 0#32
  let v765 : BitVec 1 := Scalar.cmpi .ne v764 c0_i32_520
  let v769 : BitVec 1 := Scalar.andi v768 v765
  let v770 : BitVec 32 := Scalar.addi v764 v763
  let v771 : BitVec 32 := Scalar.select v769 v770 v764
  let c8_i32_531 : BitVec 32 := 8#32
  let v784 : BitVec 32 := Scalar.muli v771 c8_i32_531
  let c1_i32_532 : BitVec 32 := 1#32
  let v785 : BitVec 32 := Scalar.addi v784 c1_i32_532
  let c1_i32_535 : BitVec 32 := 1#32
  let v788 : BitVec 32 := Scalar.muli v785 c1_i32_535
  let v789 : BitVec 32 := Scalar.addi c0_i32_536 v788
  v789.toNat
def k0_dev58 (d0 : Dev nD) : Nat :=
  let c0_i32_544 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_516 : BitVec 32 := 4#32
  let v761 : BitVec 32 := Scalar.addi v19 c4_i32_516
  let c4_i32_517 : BitVec 32 := 4#32
  let c0_i32_518 : BitVec 32 := 0#32
  let v762 : BitVec 1 := Scalar.cmpi .eq c4_i32_517 c0_i32_518
  let c1_i32_519 : BitVec 32 := 1#32
  let v763 : BitVec 32 := Scalar.select v762 c1_i32_519 c4_i32_517
  let v764 : BitVec 32 := Scalar.remsi v761 v763
  let c0_i32_521 : BitVec 32 := 0#32
  let v766 : BitVec 1 := Scalar.cmpi .slt v764 c0_i32_521
  let c0_i32_522 : BitVec 32 := 0#32
  let v767 : BitVec 1 := Scalar.cmpi .slt v763 c0_i32_522
  let v768 : BitVec 1 := Scalar.xori v766 v767
  let c0_i32_520 : BitVec 32 := 0#32
  let v765 : BitVec 1 := Scalar.cmpi .ne v764 c0_i32_520
  let v769 : BitVec 1 := Scalar.andi v768 v765
  let v770 : BitVec 32 := Scalar.addi v764 v763
  let v771 : BitVec 32 := Scalar.select v769 v770 v764
  let c8_i32_539 : BitVec 32 := 8#32
  let v796 : BitVec 32 := Scalar.muli v771 c8_i32_539
  let c2_i32_540 : BitVec 32 := 2#32
  let v797 : BitVec 32 := Scalar.addi v796 c2_i32_540
  let c1_i32_543 : BitVec 32 := 1#32
  let v800 : BitVec 32 := Scalar.muli v797 c1_i32_543
  let v801 : BitVec 32 := Scalar.addi c0_i32_544 v800
  v801.toNat
def k0_dev59 (d0 : Dev nD) : Nat :=
  let c0_i32_552 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_516 : BitVec 32 := 4#32
  let v761 : BitVec 32 := Scalar.addi v19 c4_i32_516
  let c4_i32_517 : BitVec 32 := 4#32
  let c0_i32_518 : BitVec 32 := 0#32
  let v762 : BitVec 1 := Scalar.cmpi .eq c4_i32_517 c0_i32_518
  let c1_i32_519 : BitVec 32 := 1#32
  let v763 : BitVec 32 := Scalar.select v762 c1_i32_519 c4_i32_517
  let v764 : BitVec 32 := Scalar.remsi v761 v763
  let c0_i32_521 : BitVec 32 := 0#32
  let v766 : BitVec 1 := Scalar.cmpi .slt v764 c0_i32_521
  let c0_i32_522 : BitVec 32 := 0#32
  let v767 : BitVec 1 := Scalar.cmpi .slt v763 c0_i32_522
  let v768 : BitVec 1 := Scalar.xori v766 v767
  let c0_i32_520 : BitVec 32 := 0#32
  let v765 : BitVec 1 := Scalar.cmpi .ne v764 c0_i32_520
  let v769 : BitVec 1 := Scalar.andi v768 v765
  let v770 : BitVec 32 := Scalar.addi v764 v763
  let v771 : BitVec 32 := Scalar.select v769 v770 v764
  let c8_i32_547 : BitVec 32 := 8#32
  let v808 : BitVec 32 := Scalar.muli v771 c8_i32_547
  let c3_i32_548 : BitVec 32 := 3#32
  let v809 : BitVec 32 := Scalar.addi v808 c3_i32_548
  let c1_i32_551 : BitVec 32 := 1#32
  let v812 : BitVec 32 := Scalar.muli v809 c1_i32_551
  let v813 : BitVec 32 := Scalar.addi c0_i32_552 v812
  v813.toNat
def k0_dev60 (d0 : Dev nD) : Nat :=
  let c0_i32_560 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_516 : BitVec 32 := 4#32
  let v761 : BitVec 32 := Scalar.addi v19 c4_i32_516
  let c4_i32_517 : BitVec 32 := 4#32
  let c0_i32_518 : BitVec 32 := 0#32
  let v762 : BitVec 1 := Scalar.cmpi .eq c4_i32_517 c0_i32_518
  let c1_i32_519 : BitVec 32 := 1#32
  let v763 : BitVec 32 := Scalar.select v762 c1_i32_519 c4_i32_517
  let v764 : BitVec 32 := Scalar.remsi v761 v763
  let c0_i32_521 : BitVec 32 := 0#32
  let v766 : BitVec 1 := Scalar.cmpi .slt v764 c0_i32_521
  let c0_i32_522 : BitVec 32 := 0#32
  let v767 : BitVec 1 := Scalar.cmpi .slt v763 c0_i32_522
  let v768 : BitVec 1 := Scalar.xori v766 v767
  let c0_i32_520 : BitVec 32 := 0#32
  let v765 : BitVec 1 := Scalar.cmpi .ne v764 c0_i32_520
  let v769 : BitVec 1 := Scalar.andi v768 v765
  let v770 : BitVec 32 := Scalar.addi v764 v763
  let v771 : BitVec 32 := Scalar.select v769 v770 v764
  let c8_i32_555 : BitVec 32 := 8#32
  let v820 : BitVec 32 := Scalar.muli v771 c8_i32_555
  let c4_i32_556 : BitVec 32 := 4#32
  let v821 : BitVec 32 := Scalar.addi v820 c4_i32_556
  let c1_i32_559 : BitVec 32 := 1#32
  let v824 : BitVec 32 := Scalar.muli v821 c1_i32_559
  let v825 : BitVec 32 := Scalar.addi c0_i32_560 v824
  v825.toNat
def k0_dev61 (d0 : Dev nD) : Nat :=
  let c0_i32_568 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_516 : BitVec 32 := 4#32
  let v761 : BitVec 32 := Scalar.addi v19 c4_i32_516
  let c4_i32_517 : BitVec 32 := 4#32
  let c0_i32_518 : BitVec 32 := 0#32
  let v762 : BitVec 1 := Scalar.cmpi .eq c4_i32_517 c0_i32_518
  let c1_i32_519 : BitVec 32 := 1#32
  let v763 : BitVec 32 := Scalar.select v762 c1_i32_519 c4_i32_517
  let v764 : BitVec 32 := Scalar.remsi v761 v763
  let c0_i32_521 : BitVec 32 := 0#32
  let v766 : BitVec 1 := Scalar.cmpi .slt v764 c0_i32_521
  let c0_i32_522 : BitVec 32 := 0#32
  let v767 : BitVec 1 := Scalar.cmpi .slt v763 c0_i32_522
  let v768 : BitVec 1 := Scalar.xori v766 v767
  let c0_i32_520 : BitVec 32 := 0#32
  let v765 : BitVec 1 := Scalar.cmpi .ne v764 c0_i32_520
  let v769 : BitVec 1 := Scalar.andi v768 v765
  let v770 : BitVec 32 := Scalar.addi v764 v763
  let v771 : BitVec 32 := Scalar.select v769 v770 v764
  let c8_i32_563 : BitVec 32 := 8#32
  let v832 : BitVec 32 := Scalar.muli v771 c8_i32_563
  let c5_i32_564 : BitVec 32 := 5#32
  let v833 : BitVec 32 := Scalar.addi v832 c5_i32_564
  let c1_i32_567 : BitVec 32 := 1#32
  let v836 : BitVec 32 := Scalar.muli v833 c1_i32_567
  let v837 : BitVec 32 := Scalar.addi c0_i32_568 v836
  v837.toNat
def k0_dev62 (d0 : Dev nD) : Nat :=
  let c0_i32_576 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_516 : BitVec 32 := 4#32
  let v761 : BitVec 32 := Scalar.addi v19 c4_i32_516
  let c4_i32_517 : BitVec 32 := 4#32
  let c0_i32_518 : BitVec 32 := 0#32
  let v762 : BitVec 1 := Scalar.cmpi .eq c4_i32_517 c0_i32_518
  let c1_i32_519 : BitVec 32 := 1#32
  let v763 : BitVec 32 := Scalar.select v762 c1_i32_519 c4_i32_517
  let v764 : BitVec 32 := Scalar.remsi v761 v763
  let c0_i32_521 : BitVec 32 := 0#32
  let v766 : BitVec 1 := Scalar.cmpi .slt v764 c0_i32_521
  let c0_i32_522 : BitVec 32 := 0#32
  let v767 : BitVec 1 := Scalar.cmpi .slt v763 c0_i32_522
  let v768 : BitVec 1 := Scalar.xori v766 v767
  let c0_i32_520 : BitVec 32 := 0#32
  let v765 : BitVec 1 := Scalar.cmpi .ne v764 c0_i32_520
  let v769 : BitVec 1 := Scalar.andi v768 v765
  let v770 : BitVec 32 := Scalar.addi v764 v763
  let v771 : BitVec 32 := Scalar.select v769 v770 v764
  let c8_i32_571 : BitVec 32 := 8#32
  let v844 : BitVec 32 := Scalar.muli v771 c8_i32_571
  let c6_i32_572 : BitVec 32 := 6#32
  let v845 : BitVec 32 := Scalar.addi v844 c6_i32_572
  let c1_i32_575 : BitVec 32 := 1#32
  let v848 : BitVec 32 := Scalar.muli v845 c1_i32_575
  let v849 : BitVec 32 := Scalar.addi c0_i32_576 v848
  v849.toNat
def k0_dev63 (d0 : Dev nD) : Nat :=
  let c0_i32_584 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c4_i32_516 : BitVec 32 := 4#32
  let v761 : BitVec 32 := Scalar.addi v19 c4_i32_516
  let c4_i32_517 : BitVec 32 := 4#32
  let c0_i32_518 : BitVec 32 := 0#32
  let v762 : BitVec 1 := Scalar.cmpi .eq c4_i32_517 c0_i32_518
  let c1_i32_519 : BitVec 32 := 1#32
  let v763 : BitVec 32 := Scalar.select v762 c1_i32_519 c4_i32_517
  let v764 : BitVec 32 := Scalar.remsi v761 v763
  let c0_i32_521 : BitVec 32 := 0#32
  let v766 : BitVec 1 := Scalar.cmpi .slt v764 c0_i32_521
  let c0_i32_522 : BitVec 32 := 0#32
  let v767 : BitVec 1 := Scalar.cmpi .slt v763 c0_i32_522
  let v768 : BitVec 1 := Scalar.xori v766 v767
  let c0_i32_520 : BitVec 32 := 0#32
  let v765 : BitVec 1 := Scalar.cmpi .ne v764 c0_i32_520
  let v769 : BitVec 1 := Scalar.andi v768 v765
  let v770 : BitVec 32 := Scalar.addi v764 v763
  let v771 : BitVec 32 := Scalar.select v769 v770 v764
  let c8_i32_579 : BitVec 32 := 8#32
  let v856 : BitVec 32 := Scalar.muli v771 c8_i32_579
  let c7_i32_580 : BitVec 32 := 7#32
  let v857 : BitVec 32 := Scalar.addi v856 c7_i32_580
  let c1_i32_583 : BitVec 32 := 1#32
  let v860 : BitVec 32 := Scalar.muli v857 c1_i32_583
  let v861 : BitVec 32 := Scalar.addi c0_i32_584 v860
  v861.toNat
def k0_off5 (d0 : Dev nD) (c0_i32_588 : BitVec 32) (c0_i32_596 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_587 : BitVec 32 := 1#32
  let v868 : BitVec 32 := Scalar.subi v19 c1_i32_587
  let v869 : BitVec 32 := Scalar.subi v868 c0_i32_588
  let c4_i32_589 : BitVec 32 := 4#32
  let c0_i32_590 : BitVec 32 := 0#32
  let v870 : BitVec 1 := Scalar.cmpi .eq c4_i32_589 c0_i32_590
  let c1_i32_591 : BitVec 32 := 1#32
  let v871 : BitVec 32 := Scalar.select v870 c1_i32_591 c4_i32_589
  let v872 : BitVec 32 := Scalar.remsi v869 v871
  let c0_i32_593 : BitVec 32 := 0#32
  let v874 : BitVec 1 := Scalar.cmpi .slt v872 c0_i32_593
  let c0_i32_594 : BitVec 32 := 0#32
  let v875 : BitVec 1 := Scalar.cmpi .slt v871 c0_i32_594
  let v876 : BitVec 1 := Scalar.xori v874 v875
  let c0_i32_592 : BitVec 32 := 0#32
  let v873 : BitVec 1 := Scalar.cmpi .ne v872 c0_i32_592
  let v877 : BitVec 1 := Scalar.andi v876 v873
  let v878 : BitVec 32 := Scalar.addi v872 v871
  let v879 : BitVec 32 := Scalar.select v877 v878 v872
  let c8_i32_595 : BitVec 32 := 8#32
  let v880 : BitVec 32 := Scalar.muli v879 c8_i32_595
  let v881 : BitVec 32 := Scalar.addi v880 c0_i32_596
  ![v881.toNat]
def k0_off6 (d0 : Dev nD) (c0_i32_588 : BitVec 32) (c0_i32_596 : BitVec 32) : Fin 2 → Nat :=
  let c0_i32_601 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_587 : BitVec 32 := 1#32
  let v868 : BitVec 32 := Scalar.subi v19 c1_i32_587
  let v869 : BitVec 32 := Scalar.subi v868 c0_i32_588
  let c4_i32_589 : BitVec 32 := 4#32
  let c0_i32_590 : BitVec 32 := 0#32
  let v870 : BitVec 1 := Scalar.cmpi .eq c4_i32_589 c0_i32_590
  let c1_i32_591 : BitVec 32 := 1#32
  let v871 : BitVec 32 := Scalar.select v870 c1_i32_591 c4_i32_589
  let v872 : BitVec 32 := Scalar.remsi v869 v871
  let c0_i32_593 : BitVec 32 := 0#32
  let v874 : BitVec 1 := Scalar.cmpi .slt v872 c0_i32_593
  let c0_i32_594 : BitVec 32 := 0#32
  let v875 : BitVec 1 := Scalar.cmpi .slt v871 c0_i32_594
  let v876 : BitVec 1 := Scalar.xori v874 v875
  let c0_i32_592 : BitVec 32 := 0#32
  let v873 : BitVec 1 := Scalar.cmpi .ne v872 c0_i32_592
  let v877 : BitVec 1 := Scalar.andi v876 v873
  let v878 : BitVec 32 := Scalar.addi v872 v871
  let v879 : BitVec 32 := Scalar.select v877 v878 v872
  let c8_i32_595 : BitVec 32 := 8#32
  let v880 : BitVec 32 := Scalar.muli v879 c8_i32_595
  let v881 : BitVec 32 := Scalar.addi v880 c0_i32_596
  let c128_i32_598 : BitVec 32 := 128#32
  let v883 : BitVec 32 := Scalar.muli v881 c128_i32_598
  ![0, v883.toNat]
def k0_off7 (d0 : Dev nD) (c0_i32_588 : BitVec 32) (c0_i32_596 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_587 : BitVec 32 := 1#32
  let v868 : BitVec 32 := Scalar.subi v19 c1_i32_587
  let v869 : BitVec 32 := Scalar.subi v868 c0_i32_588
  let c4_i32_589 : BitVec 32 := 4#32
  let c0_i32_590 : BitVec 32 := 0#32
  let v870 : BitVec 1 := Scalar.cmpi .eq c4_i32_589 c0_i32_590
  let c1_i32_591 : BitVec 32 := 1#32
  let v871 : BitVec 32 := Scalar.select v870 c1_i32_591 c4_i32_589
  let v872 : BitVec 32 := Scalar.remsi v869 v871
  let c0_i32_593 : BitVec 32 := 0#32
  let v874 : BitVec 1 := Scalar.cmpi .slt v872 c0_i32_593
  let c0_i32_594 : BitVec 32 := 0#32
  let v875 : BitVec 1 := Scalar.cmpi .slt v871 c0_i32_594
  let v876 : BitVec 1 := Scalar.xori v874 v875
  let c0_i32_592 : BitVec 32 := 0#32
  let v873 : BitVec 1 := Scalar.cmpi .ne v872 c0_i32_592
  let v877 : BitVec 1 := Scalar.andi v876 v873
  let v878 : BitVec 32 := Scalar.addi v872 v871
  let v879 : BitVec 32 := Scalar.select v877 v878 v872
  let c8_i32_595 : BitVec 32 := 8#32
  let v880 : BitVec 32 := Scalar.muli v879 c8_i32_595
  let v881 : BitVec 32 := Scalar.addi v880 c0_i32_596
  let c128_i32_597 : BitVec 32 := 128#32
  let v882 : BitVec 32 := Scalar.muli v881 c128_i32_597
  let c0_i32_602 : BitVec 32 := 0#32
  ![v882.toNat, 0]
def k0_off8 (d0 : Dev nD) (c0_i32_588 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_587 : BitVec 32 := 1#32
  let v868 : BitVec 32 := Scalar.subi v19 c1_i32_587
  let v869 : BitVec 32 := Scalar.subi v868 c0_i32_588
  let c4_i32_589 : BitVec 32 := 4#32
  let c0_i32_590 : BitVec 32 := 0#32
  let v870 : BitVec 1 := Scalar.cmpi .eq c4_i32_589 c0_i32_590
  let c1_i32_591 : BitVec 32 := 1#32
  let v871 : BitVec 32 := Scalar.select v870 c1_i32_591 c4_i32_589
  let v872 : BitVec 32 := Scalar.remsi v869 v871
  let c0_i32_593 : BitVec 32 := 0#32
  let v874 : BitVec 1 := Scalar.cmpi .slt v872 c0_i32_593
  let c0_i32_594 : BitVec 32 := 0#32
  let v875 : BitVec 1 := Scalar.cmpi .slt v871 c0_i32_594
  let v876 : BitVec 1 := Scalar.xori v874 v875
  let c0_i32_592 : BitVec 32 := 0#32
  let v873 : BitVec 1 := Scalar.cmpi .ne v872 c0_i32_592
  let v877 : BitVec 1 := Scalar.andi v876 v873
  let v878 : BitVec 32 := Scalar.addi v872 v871
  let v879 : BitVec 32 := Scalar.select v877 v878 v872
  ![v879.toNat]
def k0_off9 (d0 : Dev nD) (c0_i32_588 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_587 : BitVec 32 := 1#32
  let v868 : BitVec 32 := Scalar.subi v19 c1_i32_587
  let v869 : BitVec 32 := Scalar.subi v868 c0_i32_588
  let c4_i32_589 : BitVec 32 := 4#32
  let c0_i32_590 : BitVec 32 := 0#32
  let v870 : BitVec 1 := Scalar.cmpi .eq c4_i32_589 c0_i32_590
  let c1_i32_591 : BitVec 32 := 1#32
  let v871 : BitVec 32 := Scalar.select v870 c1_i32_591 c4_i32_589
  let v872 : BitVec 32 := Scalar.remsi v869 v871
  let c0_i32_593 : BitVec 32 := 0#32
  let v874 : BitVec 1 := Scalar.cmpi .slt v872 c0_i32_593
  let c0_i32_594 : BitVec 32 := 0#32
  let v875 : BitVec 1 := Scalar.cmpi .slt v871 c0_i32_594
  let v876 : BitVec 1 := Scalar.xori v874 v875
  let c0_i32_592 : BitVec 32 := 0#32
  let v873 : BitVec 1 := Scalar.cmpi .ne v872 c0_i32_592
  let v877 : BitVec 1 := Scalar.andi v876 v873
  let v878 : BitVec 32 := Scalar.addi v872 v871
  let v879 : BitVec 32 := Scalar.select v877 v878 v872
  let c1024_i32_660 : BitVec 32 := 1024#32
  let v961 : BitVec 32 := Scalar.muli v879 c1024_i32_660
  let c0_i32_661 : BitVec 32 := 0#32
  ![v961.toNat, 0]
def k0_off10 (d0 : Dev nD) (c0_i32_588 : BitVec 32) : Fin 2 → Nat :=
  let c0 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_587 : BitVec 32 := 1#32
  let v868 : BitVec 32 := Scalar.subi v19 c1_i32_587
  let v869 : BitVec 32 := Scalar.subi v868 c0_i32_588
  let c4_i32_589 : BitVec 32 := 4#32
  let c0_i32_590 : BitVec 32 := 0#32
  let v870 : BitVec 1 := Scalar.cmpi .eq c4_i32_589 c0_i32_590
  let c1_i32_591 : BitVec 32 := 1#32
  let v871 : BitVec 32 := Scalar.select v870 c1_i32_591 c4_i32_589
  let v872 : BitVec 32 := Scalar.remsi v869 v871
  let c0_i32_593 : BitVec 32 := 0#32
  let v874 : BitVec 1 := Scalar.cmpi .slt v872 c0_i32_593
  let c0_i32_594 : BitVec 32 := 0#32
  let v875 : BitVec 1 := Scalar.cmpi .slt v871 c0_i32_594
  let v876 : BitVec 1 := Scalar.xori v874 v875
  let c0_i32_592 : BitVec 32 := 0#32
  let v873 : BitVec 1 := Scalar.cmpi .ne v872 c0_i32_592
  let v877 : BitVec 1 := Scalar.andi v876 v873
  let v878 : BitVec 32 := Scalar.addi v872 v871
  let v879 : BitVec 32 := Scalar.select v877 v878 v872
  let c1024_i32_663 : BitVec 32 := 1024#32
  let v966 : BitVec 32 := Scalar.muli v879 c1024_i32_663
  let v967 : Index := Scalar.indexCast v966
  ![0, v967.toNat]
def k0_off11 (d0 : Dev nD) (c0_i32_588 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32 : BitVec 32 := 0#32
  let v4 : BitVec 1 := Scalar.cmpi .sgt v2 c0_i32
  let v5 : BitVec 32 := Scalar.extui v4
  let c0_i32_0 : BitVec 32 := 0#32
  let v6 : BitVec 1 := Scalar.cmpi .slt v2 c0_i32_0
  let v7 : BitVec 32 := Scalar.extui v6
  let v8 : BitVec 32 := Scalar.subi v5 v7
  let c8_i32 : BitVec 32 := 8#32
  let c0_i32_1 : BitVec 32 := 0#32
  let v9 : BitVec 1 := Scalar.cmpi .sgt c8_i32 c0_i32_1
  let v10 : BitVec 32 := Scalar.extui v9
  let c0_i32_2 : BitVec 32 := 0#32
  let v11 : BitVec 1 := Scalar.cmpi .slt c8_i32 c0_i32_2
  let v12 : BitVec 32 := Scalar.extui v11
  let v13 : BitVec 32 := Scalar.subi v10 v12
  let v14 : BitVec 1 := Scalar.cmpi .ne v8 v13
  let v15 : BitVec 32 := Scalar.remsi v2 c8_i32
  let c0_i32_3 : BitVec 32 := 0#32
  let v16 : BitVec 1 := Scalar.cmpi .ne v15 c0_i32_3
  let v17 : BitVec 1 := Scalar.andi v14 v16
  let v3 : BitVec 32 := Scalar.divsi v2 c8_i32
  let c1_i32_4 : BitVec 32 := 1#32
  let v18 : BitVec 32 := Scalar.subi v3 c1_i32_4
  let v19 : BitVec 32 := Scalar.select v17 v18 v3
  let c1_i32_587 : BitVec 32 := 1#32
  let v868 : BitVec 32 := Scalar.subi v19 c1_i32_587
  let v869 : BitVec 32 := Scalar.subi v868 c0_i32_588
  let c4_i32_589 : BitVec 32 := 4#32
  let c0_i32_590 : BitVec 32 := 0#32
  let v870 : BitVec 1 := Scalar.cmpi .eq c4_i32_589 c0_i32_590
  let c1_i32_591 : BitVec 32 := 1#32
  let v871 : BitVec 32 := Scalar.select v870 c1_i32_591 c4_i32_589
  let v872 : BitVec 32 := Scalar.remsi v869 v871
  let c0_i32_593 : BitVec 32 := 0#32
  let v874 : BitVec 1 := Scalar.cmpi .slt v872 c0_i32_593
  let c0_i32_594 : BitVec 32 := 0#32
  let v875 : BitVec 1 := Scalar.cmpi .slt v871 c0_i32_594
  let v876 : BitVec 1 := Scalar.xori v874 v875
  let c0_i32_592 : BitVec 32 := 0#32
  let v873 : BitVec 1 := Scalar.cmpi .ne v872 c0_i32_592
  let v877 : BitVec 1 := Scalar.andi v876 v873
  let v878 : BitVec 32 := Scalar.addi v872 v871
  let v879 : BitVec 32 := Scalar.select v877 v878 v872
  let c1024_i32_664 : BitVec 32 := 1024#32
  let v969 : BitVec 32 := Scalar.muli v879 c1024_i32_664
  let v970 : Index := Scalar.indexCast v969
  let c0_665 : Index := 0#32
  ![v970.toNat, 0]
abbrev stage0_0 : Fin 1 → Memref sig .tc .vmem S4096x128 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S1 : Shape := ⟨1, ![1]⟩
abbrev S1x1 : Shape := ⟨2, ![1, 1]⟩

abbrev nBuf : Space → Nat
  | .hbm => 13
  | .vmem => 0
  | .smem => 0
  | _ => 0

abbrev bufTy : (tb : Table) → Fin (tcTables nBuf tb) → BufTy
  | .hbm, ⟨0, _⟩ => ⟨S4096x4096, .i8⟩
  | .hbm, ⟨1, _⟩ => ⟨S4096x2048, .i8⟩
  | .hbm, ⟨2, _⟩ => ⟨S1, .f32⟩
  | .hbm, ⟨3, _⟩ => ⟨S1, .f32⟩
  | .hbm, ⟨4, _⟩ => ⟨S4096x4096, .i32⟩
  | .hbm, ⟨5, _⟩ => ⟨S4096x4096, .f32⟩
  | .hbm, ⟨6, _⟩ => ⟨S4096x2048, .i32⟩
  | .hbm, ⟨7, _⟩ => ⟨S4096x2048, .f32⟩
  | .hbm, ⟨8, _⟩ => ⟨S4096x2048, .f32⟩
  | .hbm, ⟨9, _⟩ => ⟨S1, .f32⟩
  | .hbm, ⟨10, _⟩ => ⟨S1x1, .f32⟩
  | .hbm, ⟨11, _⟩ => ⟨S4096x2048, .f32⟩
  | .hbm, ⟨12, _⟩ => ⟨S4096x2048, .f32⟩
  | _, _ => ⟨S4096x4096, .i8⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Proof.IntProduct.lean ====
/-
# Products of signed bytes, exactly

The integer product of two arrays of signed bytes, one factor never -128: its contraction over 1024 positions is exact, four
such sums added in any order give the sum over 4096 positions, and nothing of it wraps.
-/
module

public import Idealize.ShloMosaic.Lib.IntMxu
public import Idealize.ShloMosaic.Lib.MatmulPlain
public import Idealize.ShloMosaic.Lib.StackMember
public import Idealize.ShloMosaic.PureOps.Ideal.Laws

@[expose] public section

noncomputable section

namespace Cert.IntProduct

open Idealize.ShloMosaic Idealize.ShloMosaic.ValueIdx
open scoped BigOperators

/-- A plain product's sum over its contraction, by the contracted coordinate. -/
theorem sum_plain {M K N : ℕ} {R : Type} [AddCommMonoid R] (f : (⟨2, ![M, K]⟩ : Shape).Idx → (⟨2, ![K, N]⟩ : Shape).Idx → R) (r : Fin M) (c : Fin N) :
    (∑ k : (DotDims.plain M K N).contr.Idx, f ((DotDims.plain M K N).lhsIdx (ix2 r c) k) ((DotDims.plain M K N).rhsIdx (ix2 r c) k))
      = ∑ k : Fin K, f (ix2 r k) (ix2 k c) := by
  refine (Equiv.sum_comp (DotDims.plainContr M K N).symm _).symm.trans (Finset.sum_congr rfl fun k _ => ?_)
  have hk := contrEquiv1_symm_val _ K (DotDims.plain_contr_rank M K N) (DotDims.plain_contr_size M K N) k
  congr 1
  · exact funext fun a => Fin.ext (match a with
      | ⟨0, _⟩ => rfl
      | ⟨1, _⟩ => hk)
  · exact funext fun a => Fin.ext (match a with
      | ⟨0, _⟩ => hk
      | ⟨1, _⟩ => rfl)

/-- A signed byte other than -128 is at most 127 in magnitude. -/
theorem natAbs_le_of_ne (x : BitVec 8) (h : x ≠ 128#8) : x.toInt.natAbs ≤ 127 := by
  have h1 := natAbs_toInt_i8_le x
  have h2 := BitVec.toInt_lt (x := x)
  have h3 : x.toInt ≠ -128 := fun e => h (BitVec.eq_of_toInt_eq (e.trans (by decide)))
  omega

/-- The sum of the products of row `r` and column `c`, as an integer. -/
def dot {M K N : ℕ} (A : IVec ⟨2, ![M, K]⟩ 8) (B : IVec ⟨2, ![K, N]⟩ 8) (r : Fin M) (c : Fin N) : ℤ :=
  ∑ k : Fin K, (A (ix2 r k)).toInt * (B (ix2 k c)).toInt

/-- 1024 products, none with -128 on the right, are summed exactly. -/
theorem exact_1024 {M N : ℕ} (A : IVec ⟨2, ![M, 1024]⟩ 8) (B : IVec ⟨2, ![1024, N]⟩ 8) (acc : IVec ⟨2, ![M, N]⟩ 32)
    (hB : ∀ i, B i ≠ 128#8) (r : Fin M) (c : Fin N) (h0 : acc (ix2 r c) = 0) :
    matmulI8 IntMxuNumerics.v7x (DotDims.plain M 1024 N) A B acc (ix2 r c) = BitVec.ofInt 32 (dot A B r c) := by
  have hS : absDotI8 (DotDims.plain M 1024 N) A B (ix2 r c) ≤ 1024 * (128 * 127) := by
    unfold absDotI8
    rw [sum_plain (fun i j => ((A i).toInt * (B j).toInt).natAbs) r c]
    refine (Finset.sum_le_card_nsmul Finset.univ _ (128 * 127) fun k _ => ?_).trans (by simp)
    rw [Int.natAbs_mul]
    exact Nat.mul_le_mul (natAbs_toInt_i8_le _) (natAbs_le_of_ne _ (hB _))
  rw [matmulI8_exact _ _ _ _ _ _ h0 (hS.trans (by decide))]
  exact congrArg _ (sum_plain (fun i j => (A i).toInt * (B j).toInt) r c)

/-- A sum of 4096 products of signed bytes is its own signed 32-bit word. -/
theorem toInt_word {M N : ℕ} (A : IVec ⟨2, ![M, 4096]⟩ 8) (B : IVec ⟨2, ![4096, N]⟩ 8) (r : Fin M) (c : Fin N) :
    (BitVec.ofInt 32 (dot A B r c)).toInt = dot A B r c := by
  have h : |dot A B r c| ≤ 4096 * 16384 := by
    unfold dot
    refine (Finset.abs_sum_le_sum_abs _ _).trans ((Finset.sum_le_card_nsmul Finset.univ _ 16384 fun k _ => ?_).trans (by simp))
    have := Nat.mul_le_mul (natAbs_toInt_i8_le (A (ix2 r k))) (natAbs_toInt_i8_le (B (ix2 k c)))
    rw [← Int.natAbs_mul] at this
    rw [Int.abs_eq_natAbs]
    omega
  have h' := abs_le.mp h
  rw [BitVec.toInt_ofInt]
  apply Int.bmod_eq_of_le <;> omega

/-- A sum over 4096 positions, as four sums over 1024. -/
theorem sum_groups {R : Type} [AddCommMonoid R] (f : Fin 4096 → R) :
    ∑ g : Fin 4, ∑ k : Fin 1024, f ⟨1024 * g.val + k.val, by omega⟩ = ∑ k : Fin 4096, f k := by
  rw [← Finset.sum_product', ← Equiv.sum_comp (finProdFinEquiv (m := 4) (n := 1024)) f]
  refine Finset.sum_congr rfl fun p _ => congrArg f (Fin.ext ?_)
  show _ = p.2.val + 1024 * p.1.val
  exact Nat.add_comm _ _

/-- Four words, taken in any order of the groups, add up to the word of the whole sum. -/
theorem add_groups (s : Fin 4 → ℤ) (e : Fin 4 → Fin 4) (he : Function.Bijective e) :
    BitVec.ofInt 32 (s (e 0)) + BitVec.ofInt 32 (s (e 1)) + BitVec.ofInt 32 (s (e 2)) + BitVec.ofInt 32 (s (e 3))
      = BitVec.ofInt 32 (∑ g : Fin 4, s g) := by
  rw [← Equiv.sum_comp (Equiv.ofBijective e he) s, Fin.sum_univ_four]
  simp only [BitVec.ofInt_add, Equiv.ofBijective_apply]

/-- The integers of a sum of products, as ideal numbers. -/
theorem coe_sum {K : ℕ} (a b : Fin K → ℤ) :
    ∑ k : Fin K, (((a k : ℝ) : EReal) * ((b k : ℝ) : EReal)) = (((∑ k : Fin K, a k * b k : ℤ) : ℝ) : EReal) := by
  refine Finset.induction_on (Finset.univ : Finset (Fin K)) (by simp) ?_
  intro k s hk ih
  rw [Finset.sum_insert hk, Finset.sum_insert hk, ih, Int.cast_add, Int.cast_mul, EReal.coe_add, EReal.coe_mul]

/-- The product of two arrays of signed bytes, each read as ideal numbers, is the integer sum of products. -/
theorem ideal_dot {M K N : ℕ} (prec : Option ContractPrecision) (A : IVec ⟨2, ![M, K]⟩ 8) (B : IVec ⟨2, ![K, N]⟩ 8) (h : 8 < 32) (r : Fin M) (c : Fin N) :
    Host.dotGeneral (DotDims.plain M K N) prec (sitofp .f32 (extsi 32 A h) : FVec Ideal ⟨2, ![M, K]⟩ .f32)
        (sitofp .f32 (extsi 32 B h) : FVec Ideal ⟨2, ![K, N]⟩ .f32) (ix2 r c) = (((dot A B r c : ℤ) : ℝ) : EReal) := by
  have e := Ideal.dotGeneral_apply (DotDims.plain M K N) prec (.single) (sitofp .f32 (extsi 32 A h) : FVec Ideal ⟨2, ![M, K]⟩ .f32)
    (sitofp .f32 (extsi 32 B h) : FVec Ideal ⟨2, ![K, N]⟩ .f32) (ix2 r c)
  rw [sum_plain (fun i j => (sitofp .f32 (extsi 32 A h) : FVec Ideal ⟨2, ![M, K]⟩ .f32) i
    * (sitofp .f32 (extsi 32 B h) : FVec Ideal ⟨2, ![K, N]⟩ .f32) j) r c] at e
  refine Eq.trans e (Eq.trans (Finset.sum_congr rfl fun k _ => ?_) (coe_sum (fun k => (A (ix2 r k)).toInt) (fun k => (B (ix2 k c)).toInt)))
  show (((BitVec.signExtend 32 (A (ix2 r k))).toInt : ℝ) : EReal) * (((BitVec.signExtend 32 (B (ix2 k c))).toInt : ℝ) : EReal) = _
  rw [BitVec.toInt_signExtend_of_le (by omega), BitVec.toInt_signExtend_of_le (by omega)]

end Cert.IntProduct

end
-- ==== Proof.ReferenceRun.lean ====
/-
# The run of the reference

One device, nine operations in a line: the two integer arrays as floats, their matrix product, and the product of the two
scales spread over it.
-/
module

public import Idealize.ShloMosaic.Lib.StableHlo.Run
public import Idealize.ShloMosaic.Lib.Quiescent
public import proofs.«01_k».proof.Proof.Gen.ReferenceIdeal

@[expose] public section

noncomputable section

namespace Cert.ReferenceIdeal.Proto

open Cert.ReferenceIdeal Cert.ReferenceIdeal.Gen
open Idealize.ShloMosaic Idealize.ShloMosaic.TcCoe Idealize.ShloMosaic.StableHlo Idealize.SL.Sem

variable {F : FTy → Type} [FloatOps F]

/-- The product of the two arrays of integers, each read as floats. -/
def product (x : IVec S4096x4096 8) (w : IVec S4096x2048 8) : FVec F S4096x2048 .f32 :=
  Host.dotGeneral dot_S4096x4096_S4096x2048_S4096x2048_1_0_0_1_n_n none
    (sitofp .f32 (extsi 32 x natLt_8_32) : FVec F S4096x4096 .f32) (sitofp .f32 (extsi 32 w natLt_8_32) : FVec F S4096x2048 .f32)

/-- The product of the two scales, at every position of the result. -/
def scales (sx sw : FVec F S1 .f32) : FVec F S4096x2048 .f32 :=
  broadcastInDim S4096x2048 ![0, 1] bcast_S1x1_S4096x2048_0_1 (broadcastInDim S1x1 ![1] bcast_S1_S1x1_1 (mulf sx sw))

/-- The result of the reference, from its arguments. -/
def result (x : IVec S4096x4096 8) (w : IVec S4096x2048 8) (sx sw : FVec F S1 .f32) : FVec F S4096x2048 .f32 :=
  mulf (product x w) (scales sx sw)

/-- The operations of the program, in order. -/
abbrev steps : List (HloOp τ sig (Elt F)) :=
  [ unary main_arg0 main_v0 ((extsi 32 · natLt_8_32) : (⟨S4096x4096, .i8⟩ : BufTy).Contents (Elt F) → (⟨S4096x4096, .i32⟩ : BufTy).Contents (Elt F)),
    unary main_v0 main_v1 (sitofp .f32 : (⟨S4096x4096, .i32⟩ : BufTy).Contents (Elt F) → (⟨S4096x4096, .f32⟩ : BufTy).Contents (Elt F)),
    unary main_arg1 main_v2 ((extsi 32 · natLt_8_32) : (⟨S4096x2048, .i8⟩ : BufTy).Contents (Elt F) → (⟨S4096x2048, .i32⟩ : BufTy).Contents (Elt F)),
    unary main_v2 main_v3 (sitofp .f32 : (⟨S4096x2048, .i32⟩ : BufTy).Contents (Elt F) → (⟨S4096x2048, .f32⟩ : BufTy).Contents (Elt F)),
    binary main_v1 main_v3 main_v4 ((fun l r => Host.dotGeneral dot_S4096x4096_S4096x2048_S4096x2048_1_0_0_1_n_n none l r) : (⟨S4096x4096, .f32⟩ : BufTy).Contents (Elt F) → (⟨S4096x2048, .f32⟩ : BufTy).Contents (Elt F) → (⟨S4096x2048, .f32⟩ : BufTy).Contents (Elt F)),
    binary main_arg2 main_arg3 main_v5 (mulf : (⟨S1, .f32⟩ : BufTy).Contents (Elt F) → (⟨S1, .f32⟩ : BufTy).Contents (Elt F) → (⟨S1, .f32⟩ : BufTy).Contents (Elt F)),
    unary main_v5 main_v6 (broadcastInDim S1x1 ![1] bcast_S1_S1x1_1 : (⟨S1, .f32⟩ : BufTy).Contents (Elt F) → (⟨S1x1, .f32⟩ : BufTy).Contents (Elt F)),
    unary main_v6 main_v7 (broadcastInDim S4096x2048 ![0, 1] bcast_S1x1_S4096x2048_0_1 : (⟨S1x1, .f32⟩ : BufTy).Contents (Elt F) → (⟨S4096x2048, .f32⟩ : BufTy).Contents (Elt F)),
    binary main_v4 main_v7 main_v8 (mulf : (⟨S4096x2048, .f32⟩ : BufTy).Contents (Elt F) → (⟨S4096x2048, .f32⟩ : BufTy).Contents (Elt F) → (⟨S4096x2048, .f32⟩ : BufTy).Contents (Elt F)) ]

/-- The program runs exactly these. -/
theorem main_steps (c : Dev nD) : main (F := F) c = seq steps := rfl

/-- Their effect on the last buffer is the result of the arguments, -/
theorem after_v8 (V : Valuation τ sig (Elt F)) : after steps V (main_v8 : DevRef τ sig)
    = result (V (main_arg0 : DevRef τ sig)) (V (main_arg1 : DevRef τ sig)) (V (main_arg2 : DevRef τ sig)) (V (main_arg3 : DevRef τ sig)) := by
  after_results
  rfl
/-- and none of them writes an argument. -/
theorem after_arg0 (V : Valuation τ sig (Elt F)) : after steps V (main_arg0 : DevRef τ sig) = V (main_arg0 : DevRef τ sig) := by
  after_results
theorem after_arg1 (V : Valuation τ sig (Elt F)) : after steps V (main_arg1 : DevRef τ sig) = V (main_arg1 : DevRef τ sig) := by
  after_results
theorem after_arg2 (V : Valuation τ sig (Elt F)) : after steps V (main_arg2 : DevRef τ sig) = V (main_arg2 : DevRef τ sig) := by
  after_results
theorem after_arg3 (V : Valuation τ sig (Elt F)) : after steps V (main_arg3 : DevRef τ sig) = V (main_arg3 : DevRef τ sig) := by
  after_results

/-- No buffer and no semaphore of the program is scoped, and its steps stay on the program's own buffers. -/
theorem no_scoped_refs : (Finset.univ.filter fun b : Ref sig .tc => b.isScoped) = ∅ := by decide
theorem no_scoped_sems : (Finset.univ.filter fun sm : SemLoc sig => sm.isScoped .tc) = ∅ := by decide
theorem steps_within : (steps : List (HloOp τ sig (Elt F))).Forall fun op => op.bufs ⊆ tcRefs τ sig :=
  ⟨unary_bufs_sub .., unary_bufs_sub .., unary_bufs_sub .., unary_bufs_sub .., binary_bufs_sub .., binary_bufs_sub .., unary_bufs_sub ..,
    unary_bufs_sub .., binary_bufs_sub ..⟩

/-- What a whole run leaves: the result of the arguments, the arguments as they were, every semaphore at zero. -/
theorem run_all (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v8)
          = result (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3))
      ∧ r.2.sem = fun _ => 0 :=
  (θ_run defs _ _).mono (fun r h => ⟨fun c => ⟨(h c main_v8).trans (after_v8 _), (h c main_arg0).trans (after_arg0 _),
      (h c main_arg1).trans (after_arg1 _), (h c main_arg2).trans (after_arg2 _), (h c main_arg3).trans (after_arg3 _)⟩,
      sem_eq_zero_of_no_sems (by decide) r.2⟩)
    (run_seq no_scoped_refs no_scoped_sems defs main (fun _ => steps) main_steps (fun _ => steps_within) m ρ)

end Cert.ReferenceIdeal.Proto

end
-- ==== Proof.KernelIdealPeers.lean ====
/-
# The peers and the offsets of the kernel, in closed form

Every device number and every offset the kernel computes with 32-bit words, as plain arithmetic on the
device number: which device each of the 31 signals and the 32 transfers goes to, which semaphore, column
block or row block each operation names, and that each of the three orders visits every device once.
-/
module

public import proofs.«01_k».proof.Proof.Gen.KernelIdeal
public import proofs.«01_k».proof.Proof.Gen.KernelIdeal.Skeleton

@[expose] public section

noncomputable section

namespace Cert.KernelIdeal.Proto

open Cert.KernelIdeal Cert.KernelIdeal.Gen
open Idealize.ShloMosaic

/-- The device the `k`-th signal goes to (`k = 0` would be the device itself). -/
def sigPeer (c : Dev nD) (k : Fin 32) : Dev nD := ⟨(c.val + k.val) % 32, Nat.mod_lt _ (by decide)⟩
/-- The device the `i`-th transfer goes to. -/
def sendPeer (c : Dev nD) (i : Fin 32) : Dev nD := ⟨((c.val / 8 + 1 + i.val / 8) % 4) * 8 + i.val % 8, by
  have h1 : (c.val / 8 + 1 + i.val / 8) % 4 < 4 := Nat.mod_lt _ (by decide)
  have h2 : i.val % 8 < 8 := Nat.mod_lt _ (by decide)
  show _ < 32; omega⟩
/-- The group of eight devices whose blocks the `t`-th step of the product multiplies. -/
def grp (c : Dev nD) (t : Fin 4) : Fin 4 := ⟨(c.val / 8 + 3 + (4 - t.val)) % 4, Nat.mod_lt _ (by decide)⟩
/-- The device whose block the `k`-th receive wait is for. -/
def recvSrc (c : Dev nD) (k : Fin 32) : Dev nD := ⟨((c.val / 8 + 3 + (4 - k.val / 8)) % 4) * 8 + k.val % 8, by
  have h1 : (c.val / 8 + 3 + (4 - k.val / 8)) % 4 < 4 := Nat.mod_lt _ (by decide)
  have h2 : k.val % 8 < 8 := Nat.mod_lt _ (by decide)
  show _ < 32; omega⟩

theorem sigPeer_bij : ∀ c : Dev nD, Function.Bijective (sigPeer c) := by decide +kernel
theorem sendPeer_bij : ∀ c : Dev nD, Function.Bijective (sendPeer c) := by decide +kernel
theorem recvSrc_bij : ∀ c : Dev nD, Function.Bijective (recvSrc c) := by decide +kernel
theorem grp_bij : ∀ c : Dev nD, Function.Bijective (grp c) := by decide +kernel
theorem sigPeer_ne : ∀ c : Dev nD, ∀ k : Fin 32, k.val ≠ 0 → sigPeer c k ≠ c := by decide +kernel
theorem sigPeer_zero : ∀ c : Dev nD, sigPeer c 0 = c := by decide +kernel

/-- The devices the signals are addressed to, as the kernel computes them. -/
def sigDevs : List (Dev nD → ℕ) := [k0_dev1, k0_dev2, k0_dev3, k0_dev4, k0_dev5, k0_dev6, k0_dev7, k0_dev8, k0_dev9, k0_dev10, k0_dev11, k0_dev12, k0_dev13, k0_dev14, k0_dev15, k0_dev16, k0_dev17, k0_dev18, k0_dev19, k0_dev20, k0_dev21, k0_dev22, k0_dev23, k0_dev24, k0_dev25, k0_dev26, k0_dev27, k0_dev28, k0_dev29, k0_dev30, k0_dev31]
/-- The devices the transfers are addressed to, as the kernel computes them. -/
def sendDevs : List (Dev nD → ℕ) := [k0_dev32, k0_dev33, k0_dev34, k0_dev35, k0_dev36, k0_dev37, k0_dev38, k0_dev39, k0_dev40, k0_dev41, k0_dev42, k0_dev43, k0_dev44, k0_dev45, k0_dev46, k0_dev47, k0_dev48, k0_dev49, k0_dev50, k0_dev51, k0_dev52, k0_dev53, k0_dev54, k0_dev55, k0_dev56, k0_dev57, k0_dev58, k0_dev59, k0_dev60, k0_dev61, k0_dev62, k0_dev63]

theorem sigDevs_length : sigDevs.length = 31 := rfl
theorem sendDevs_length : sendDevs.length = 32 := rfl
theorem sigDevs_eq : ∀ c : Dev nD, ∀ k : Fin 31, (sigDevs[k.val]'(by rw [sigDevs_length]; exact k.isLt)) c = (sigPeer c k.succ).val := by decide +kernel
theorem sendDevs_eq : ∀ c : Dev nD, ∀ i : Fin 32, (sendDevs[i.val]'(by rw [sendDevs_length]; exact i.isLt)) c = (sendPeer c i).val := by decide +kernel

theorem off1_eq : ∀ c : Dev nD, ∀ (r : Fin 4) (u : Fin 8), k0_off1 c (BitVec.ofNat 32 (1 + r.val)) (BitVec.ofNat 32 u.val)
    = ![(sendPeer c ⟨8 * r.val + u.val, by omega⟩).val] := by decide +kernel
theorem off2_eq : ∀ c : Dev nD, k0_off2 c = ![c.val] := k0_off2_eq
theorem off3_eq : ∀ c : Dev nD, k0_off3 c = ![0, 128 * c.val] := k0_off3_eq
theorem off4_eq : ∀ c : Dev nD, ∀ (r : Fin 4) (u : Fin 8), k0_off4 c (BitVec.ofNat 32 (1 + r.val)) (BitVec.ofNat 32 u.val)
    = ![128 * (sendPeer c ⟨8 * r.val + u.val, by omega⟩).val, 0] := by decide +kernel
theorem off5_eq : ∀ c : Dev nD, ∀ (r : Fin 4) (u : Fin 8), k0_off5 c (BitVec.ofNat 32 r.val) (BitVec.ofNat 32 u.val)
    = ![(recvSrc c ⟨8 * r.val + u.val, by omega⟩).val] := by decide +kernel
theorem off6_eq : ∀ c : Dev nD, ∀ (r : Fin 4) (u : Fin 8), k0_off6 c (BitVec.ofNat 32 r.val) (BitVec.ofNat 32 u.val)
    = ![0, 128 * (recvSrc c ⟨8 * r.val + u.val, by omega⟩).val] := by decide +kernel
theorem off8_eq : ∀ c : Dev nD, ∀ (r : Fin 4), k0_off8 c (BitVec.ofNat 32 r.val) = ![(grp c r).val] := by decide +kernel
theorem off9_eq : ∀ c : Dev nD, ∀ (r : Fin 4), k0_off9 c (BitVec.ofNat 32 r.val) = ![1024 * (grp c r).val, 0] := by decide +kernel
theorem off10_eq : ∀ c : Dev nD, ∀ (r : Fin 4), k0_off10 c (BitVec.ofNat 32 r.val) = ![0, 1024 * (grp c r).val] := by decide +kernel
theorem off11_eq : ∀ c : Dev nD, ∀ (r : Fin 4), k0_off11 c (BitVec.ofNat 32 r.val) = ![1024 * (grp c r).val, 0] := by decide +kernel

end Cert.KernelIdeal.Proto

end
-- ==== Proof.KernelIdealProto.lean ====
/-
# The protocol of the exchange

Who waits on which semaphore, who credits it, by how much, and the contents each landing hands over.
Device `c`:

* **barrier cell of `p`**, 31 units: every other device `d` signals one unit, and its signal hands `p` the
  column block `p` of `d`'s gathering buffer, which `p`'s transfer to `d` will write. `p` waits for all 31.
* **send cell `p` of `c`**, the credit of one 128x128 block: the transfer of row block `p` of `c`'s `x` to device
  `p` credits it when the block has been read, and hands the row block back to `c`.
* **receive cell `s` of `d`**, the credit of one 128x128 block: the transfer of device `s` credits it when its block has
  landed, and hands `d` the column block `s` of its gathering buffer holding row block `d` of `s`'s `x`.
* **weight cell `p` of `c`**, the credit of one 1024x2048 block: the local copy of row block `p` of the weights
  credits it, and hands `c` that block of its weight buffer holding the weights, and of the array itself.

The cells are one-round cells of the rounds library; a duty is named by the device paying it on a barrier cell,
by device 0 on the others.
-/
module

public import proofs.«01_k».proof.Proof.KernelIdealPeers
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.RefSig (tileCredit)

variable {F : FTy → Type} [FloatOps F]

/-! ## The resource algebra -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR
abbrev 𝒱₀ : Variants := Variants.none

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The buffers -/

abbrev xM : Memref sig .tc .vmem S4096x128 .i8 := Memref.whole cc0_stg0_0
abbrev hM : Memref sig .tc .hbm S4096x2048 .i8 := Memref.whole main_arg1
abbrev sxM : Memref sig .tc .smem S1 .f32 := Memref.whole cc0_stg1_0
abbrev swM : Memref sig .tc .smem S1 .f32 := Memref.whole cc0_stg2_0
abbrev oM : Memref sig .tc .vmem S128x2048 .f32 := Memref.whole cc0_stg3_0
abbrev gM : Memref sig .tc .vmem S128x4096 .i8 := Memref.whole cc0_scratch0
abbrev wM : Memref sig .tc .vmem S4096x2048 .i8 := Memref.whole cc0_scratch1
abbrev aM : Memref sig .tc .vmem S128x2048 .i32 := Memref.whole cc0_scratch5

/-! ## The cells -/

/-- The runtime's barrier semaphore, and the transfers' semaphores. -/
abbrev barS : Sem sig := (SemArray.scalar (sig.barrier 0 rfl) : Sems sig S_).sem
abbrev sendS (p : Fin 32) : DmaSem sig := ⟨4 + p.val, by have := p.isLt; show _ < 72; omega⟩
abbrev recvS (s : Fin 32) : DmaSem sig := ⟨36 + s.val, by have := s.isLt; show _ < 72; omega⟩
abbrev wS (p : Fin 4) : DmaSem sig := ⟨68 + p.val, by have := p.isLt; show _ < 72; omega⟩

abbrev OK : Type := Fin 32 ⊕ Fin 32 ⊕ Fin 4
abbrev CK : Type := Unit ⊕ OK
/-- The kernel's own (scoped) semaphores, and with the barrier all of them. -/
abbrev osem : OK → SemLoc sig
  | .inl p => .dma (sendS p)
  | .inr (.inl s) => .dma (recvS s)
  | .inr (.inr p) => .dma (wS p)
abbrev csem : CK → SemLoc sig
  | .inl _ => .reg barS
  | .inr k => osem k
abbrev kcell (ck : Dev nD × CK) : GSem nD τ sig := ((ck.1 : Thread nD τ), csem ck.2)

abbrev barCell (c : Dev nD) : GSem nD τ sig := ((c : Thread nD τ), .reg barS)
abbrev sendCell (c : Dev nD) (p : Fin 32) : GSem nD τ sig := ((c : Thread nD τ), .dma (sendS p))
abbrev recvCell (c : Dev nD) (s : Fin 32) : GSem nD τ sig := ((c : Thread nD τ), .dma (recvS s))
abbrev wCell (c : Dev nD) (p : Fin 4) : GSem nD τ sig := ((c : Thread nD τ), .dma (wS p))

/-- The credit of a block of `x`, and of a block of the weights. -/
abbrev NX : ℕ := tileCredit S128x128 .i8
abbrev NW : ℕ := tileCredit S1024x2048 .i8
theorem NX_pos : 0 < NX := RefSig.tileCredit_pos _ _ (by decide)
theorem NW_pos : 0 < NW := RefSig.tileCredit_pos _ _ (by decide)

/-! ## The blocks -/

/-- Row block `p` of `x`, column block `s` of the gathering buffer, row block `p` of the weights. -/
def rowS (p : ℕ) : Finset S4096x128.Idx := Finset.univ.filter fun i => (i 0).val / 128 = p
def colS (s : ℕ) : Finset S128x4096.Idx := Finset.univ.filter fun i => (i 1).val / 128 = s
def wrowS (p : ℕ) : Finset S4096x2048.Idx := Finset.univ.filter fun i => (i 0).val / 1024 = p

/-! ## The contents -/

/-- Device `c`'s staged block of `x`, and its copy of the weights. -/
def X (c : Dev nD) : S4096x128.Idx → Elt F .i8 :=
  (win0_0.blk (0 : Fin 1)).view.read (Elt F) (m ((c : Thread nD τ).loc main_arg0))
def W (c : Dev nD) : S4096x2048.Idx → Elt F .i8 := m ((c : Thread nD τ).loc main_arg1)

/-- The index of device `s`'s `x` whose element lands at index `i` of device `d`'s gathering buffer. -/
def srcIx (d : Dev nD) (i : S128x4096.Idx) : S4096x128.Idx := fun
  | ⟨0, _⟩ => (⟨128 * d.val + (i 0).val, by have h1 := d.isLt; have h2 : (i 0).val < 128 := (i 0).isLt; show _ < 4096; change d.val < 32 at h1; omega⟩ : Fin 4096)
  | ⟨1, _⟩ => (⟨(i 1).val % 128, Nat.mod_lt _ (by decide)⟩ : Fin 128)
/-- The device whose block holds index `i` of the gathering buffer. -/
def srcDev (i : S128x4096.Idx) : Dev nD := ⟨(i 1).val / 128, by have h : (i 1).val < 4096 := (i 1).isLt; show _ < 32; omega⟩
/-- Device `d`'s gathering buffer when every block has landed: its rows of every device's `x`. -/
def XG (d : Dev nD) : S128x4096.Idx → Elt F .i8 := fun i => X m (srcDev i) (srcIx d i)

/-! ## What each landing hands over -/

def xPts (c : Dev nD) (p : ℕ) : sProp 𝕄 := ((c : Thread nD τ).loc cc0_stg0_0) ↦[rowS p]{fullShare} (X m c)
def gPts (d : Dev nD) (s : ℕ) : sProp 𝕄 := iprop(∃ f, ((d : Thread nD τ).loc cc0_scratch0) ↦[colS s]{fullShare} f)
def gHas (d : Dev nD) (s : ℕ) : sProp 𝕄 := ((d : Thread nD τ).loc cc0_scratch0) ↦[colS s]{fullShare} (XG m d)
def wPts (c : Dev nD) (p : ℕ) : sProp 𝕄 := iprop(∃ f, ((c : Thread nD τ).loc cc0_scratch1) ↦[wrowS p]{fullShare} f)
def wHas (c : Dev nD) (p : ℕ) : sProp 𝕄 := ((c : Thread nD τ).loc cc0_scratch1) ↦[wrowS p]{fullShare} (W m c)
def hPts (c : Dev nD) (p : ℕ) : sProp 𝕄 := ((c : Thread nD τ).loc main_arg1) ↦[wrowS p]{fullShare} (W m c)

instance xPts_storable (c : Dev nD) (p : ℕ) : BI.Storable (upEmb : UEmb _ 𝕄) (xPts m c p) := by unfold xPts; infer_instance
instance gPts_storable (c : Dev nD) (p : ℕ) : BI.Storable (upEmb : UEmb _ 𝕄) (gPts (F := F) c p) := by unfold gPts; infer_instance
instance gHas_storable (c : Dev nD) (p : ℕ) : BI.Storable (upEmb : UEmb _ 𝕄) (gHas m c p) := by unfold gHas; infer_instance
instance wHas_storable (c : Dev nD) (p : ℕ) : BI.Storable (upEmb : UEmb _ 𝕄) (wHas m c p) := by unfold wHas; infer_instance
instance hPts_storable (c : Dev nD) (p : ℕ) : BI.Storable (upEmb : UEmb _ 𝕄) (hPts m c p) := by unfold hPts; infer_instance

/-! ## The schedule -/

/-- What a landing on DMA semaphore `j` of device `c` hands `c`. -/
def dmaPay (c : Dev nD) (j : ℕ) : sProp 𝕄 :=
  if j < 36 then xPts m c (j - 4) else if j < 68 then gHas m c (j - 36) else iprop(wHas m c (j - 68) ∗ hPts m c (j - 68))
instance dmaPay_storable (c : Dev nD) (j : ℕ) : BI.Storable (upEmb : UEmb _ 𝕄) (dmaPay m c j) := by
  unfold dmaPay; (repeat' split) <;> infer_instance

/-- The duties of a cell at round 0: every other device's signal on a barrier cell, one landing on each of the
    transfers' semaphores. -/
def dutiesOf (g : GSem nD τ sig) : Finset (Dev nD) :=
  if g.1.2 = .tc then (match g.2 with
    | .reg _ => Finset.univ.erase g.1.1
    | .dma j => if 4 ≤ j.val then {(0 : Fin 32)} else ∅)
  else ∅

def Rd : Rounds.Schedule (GSem nD τ sig) (Dev nD) 𝕄 where
  duties g r := if r = 0 then dutiesOf g else ∅
  unitless _ := False
  amount g _ _ := match g.2 with
    | .reg _ => 1
    | .dma j => if j.val < 68 then NX else NW
  payload g _ d := match g.2 with
    | .reg _ => gPts d g.1.1.val
    | .dma j => dmaPay m g.1.1 j.val
  amount_pos g _ _ _ := by
    rcases g with ⟨t, s | j⟩
    · exact Nat.one_pos
    · dsimp only; split
      · exact NX_pos
      · exact NW_pos

instance Rd_payload_storable (g : GSem nD τ sig) (r : ℕ) (d : Dev nD) :
    BI.Storable (upEmb : UEmb _ 𝕄) ((Rd (F := F) m).payload g r d) := by
  rcases g with ⟨t, s | j⟩
  · exact gPts_storable d t.1.val
  · exact dmaPay_storable m t.1 j.val

section Sched
variable (c : Dev nD)

theorem duties_bar : (Rd m).duties (barCell c) 0 = Finset.univ.erase c := rfl
theorem duties_send (p : Fin 32) : (Rd m).duties (sendCell c p) 0 = {(0 : Fin 32)} := if_pos (Nat.le_add_right 4 p.val)
theorem duties_recv (p : Fin 32) : (Rd m).duties (recvCell c p) 0 = {(0 : Fin 32)} := if_pos (by show 4 ≤ 36 + p.val; omega)
theorem duties_w (p : Fin 4) : (Rd m).duties (wCell c p) 0 = {(0 : Fin 32)} := if_pos (by show 4 ≤ 68 + p.val; omega)
theorem duties_later (g : GSem nD τ sig) : ∀ r, 1 ≤ r → (Rd m).duties g r = ∅ := fun r hr => if_neg (by omega)

theorem amount_bar (d : Dev nD) : (Rd m).amount (barCell c) 0 d = 1 := rfl
theorem amount_send (p : Fin 32) (d : Dev nD) : (Rd m).amount (sendCell c p) 0 d = NX := if_pos (by have := p.isLt; show 4 + p.val < 68; omega)
theorem amount_recv (p : Fin 32) (d : Dev nD) : (Rd m).amount (recvCell c p) 0 d = NX := if_pos (by have := p.isLt; show 36 + p.val < 68; omega)
theorem amount_w (p : Fin 4) (d : Dev nD) : (Rd m).amount (wCell c p) 0 d = NW := if_neg (by show ¬ 68 + p.val < 68; omega)

theorem expect_bar : (Rd m).expect (barCell c) 0 = 31 := by
  unfold Schedule.expect Schedule.amountOf
  rw [duties_bar, Finset.sum_congr rfl fun d _ => amount_bar m c d, Finset.sum_const, Finset.card_erase_of_mem (Finset.mem_univ _), Finset.card_univ,
    Fintype.card_fin, smul_eq_mul]
  rfl
theorem expect_send (p : Fin 32) : (Rd m).expect (sendCell c p) 0 = NX := by
  unfold Schedule.expect Schedule.amountOf; rw [duties_send, Finset.sum_singleton, amount_send]
theorem expect_recv (p : Fin 32) : (Rd m).expect (recvCell c p) 0 = NX := by
  unfold Schedule.expect Schedule.amountOf; rw [duties_recv, Finset.sum_singleton, amount_recv]
theorem expect_w (p : Fin 4) : (Rd m).expect (wCell c p) 0 = NW := by
  unfold Schedule.expect Schedule.amountOf; rw [duties_w, Finset.sum_singleton, amount_w]

theorem payload_bar (d : Dev nD) : (Rd m).payload (barCell c) 0 d = gPts d c.val := rfl
theorem payload_send (p : Fin 32) (d : Dev nD) : (Rd m).payload (sendCell c p) 0 d = xPts m c p.val := by
  show dmaPay m c (4 + p.val) = _
  unfold dmaPay; rw [if_pos (by have := p.isLt; omega), Nat.add_sub_cancel_left]
theorem payload_recv (s : Fin 32) (d : Dev nD) : (Rd m).payload (recvCell c s) 0 d = gHas m c s.val := by
  show dmaPay m c (36 + s.val) = _
  unfold dmaPay; rw [if_neg (by omega), if_pos (by have := s.isLt; omega), Nat.add_sub_cancel_left]
theorem payload_w (p : Fin 4) (d : Dev nD) : (Rd m).payload (wCell c p) 0 d = iprop(wHas m c p.val ∗ hPts m c p.val) := by
  show dmaPay m c (68 + p.val) = _
  unfold dmaPay; rw [if_neg (by omega), if_neg (by omega), Nat.add_sub_cancel_left]

theorem rest_bar : bigSep ((Rd m).duties (barCell c) 0 \ ∅) (fun d => (Rd m).payload (barCell c) 0 d) = bigSep (Finset.univ.erase c) (fun d => gPts d c.val) := by
  rw [Finset.sdiff_empty, duties_bar]; rfl
theorem rest_send (p : Fin 32) : bigSep ((Rd m).duties (sendCell c p) 0 \ ∅) (fun d => (Rd m).payload (sendCell c p) 0 d) = xPts m c p.val := by
  rw [Finset.sdiff_empty, duties_send, bigSep_singleton, payload_send]
theorem rest_recv (s : Fin 32) : bigSep ((Rd m).duties (recvCell c s) 0 \ ∅) (fun d => (Rd m).payload (recvCell c s) 0 d) = gHas m c s.val := by
  rw [Finset.sdiff_empty, duties_recv, bigSep_singleton, payload_recv]
theorem rest_w (p : Fin 4) : bigSep ((Rd m).duties (wCell c p) 0 \ ∅) (fun d => (Rd m).payload (wCell c p) 0 d) = iprop(wHas m c p.val ∗ hPts m c p.val) := by
  rw [Finset.sdiff_empty, duties_w, bigSep_singleton, payload_w]

end Sched

/-! ## Families in order: what is still to do, what is done -/

/-- The members of a family from the `n`-th on, and those before it. -/
def Todo {N : ℕ} (n : ℕ) (Φ : Fin N → sProp 𝕄) : sProp 𝕄 := bigSep (Finset.univ.filter fun i => n ≤ i.val) Φ
def Done {N : ℕ} (n : ℕ) (Φ : Fin N → sProp 𝕄) : sProp 𝕄 := bigSep (Finset.univ.filter fun i => i.val < n) Φ

theorem todo_step {N n : ℕ} (h : n < N) (Φ : Fin N → sProp 𝕄) : Todo n Φ = iprop(Φ ⟨n, h⟩ ∗ Todo (n + 1) Φ) := by
  refine Eq.trans (congrArg (fun s => bigSep s Φ) (?_ : _ = insert (⟨n, h⟩ : Fin N) (Finset.univ.filter fun i : Fin N => n + 1 ≤ i.val)))
    (BI.bigSep_insert (by rw [Finset.mem_filter]; rintro ⟨-, h'⟩; exact absurd h' (Nat.not_succ_le_self n)))
  ext i
  simp only [Finset.mem_filter, Finset.mem_univ, true_and, Finset.mem_insert, Fin.ext_iff]
  omega
theorem done_step {N n : ℕ} (h : n < N) (Φ : Fin N → sProp 𝕄) : Done (n + 1) Φ = iprop(Φ ⟨n, h⟩ ∗ Done n Φ) := by
  refine Eq.trans (congrArg (fun s => bigSep s Φ) (?_ : _ = insert (⟨n, h⟩ : Fin N) (Finset.univ.filter fun i : Fin N => i.val < n)))
    (BI.bigSep_insert (by rw [Finset.mem_filter]; rintro ⟨-, h'⟩; exact absurd h' (Nat.lt_irrefl n)))
  ext i
  simp only [Finset.mem_filter, Finset.mem_univ, true_and, Finset.mem_insert, Fin.ext_iff]
  omega
theorem todo_zero {N : ℕ} (Φ : Fin N → sProp 𝕄) : Todo 0 Φ = bigSep Finset.univ Φ := by
  unfold Todo; rw [Finset.filter_true_of_mem fun i _ => Nat.zero_le _]
theorem done_zero {N : ℕ} (Φ : Fin N → sProp 𝕄) : Done 0 Φ = iprop(emp) := by
  unfold Done; rw [Finset.filter_false_of_mem fun i _ => Nat.not_lt_zero _]; exact BI.bigSep_empty
theorem done_end {N : ℕ} (Φ : Fin N → sProp 𝕄) : Done N Φ = bigSep Finset.univ Φ := by
  unfold Done; rw [Finset.filter_true_of_mem fun i _ => i.isLt]

/-! ## What each device owes; the levels -/

/-- The units still owed to the barrier cells from the `n`-th signal on, the credits from the `n`-th transfer on. -/
def Ob (c : Dev nD) (n : ℕ) : CellTallies nD τ sig Unit := ∑ k ∈ Finset.univ.filter (fun k : Fin 32 => n ≤ k.val), tallyAt (barCell (sigPeer c k)) () 1
def Or' (c : Dev nD) (n : ℕ) : CellTallies nD τ sig Unit := ∑ i ∈ Finset.univ.filter (fun i : Fin 32 => n ≤ i.val), tallyAt (recvCell (sendPeer c i) c) () NX
def O₀ (c : Dev nD) : CellTallies nD τ sig Unit := Or' c 0 + Ob c 1

theorem sum_step {n : ℕ} (h : n < 32) (f : Fin 32 → CellTallies nD τ sig Unit) :
    ∑ k ∈ Finset.univ.filter (fun k : Fin 32 => n ≤ k.val), f k = (∑ k ∈ Finset.univ.filter (fun k : Fin 32 => n + 1 ≤ k.val), f k) + f ⟨n, h⟩ := by
  rw [add_comm, ← Finset.sum_insert (by rw [Finset.mem_filter]; rintro ⟨-, h'⟩; exact absurd h' (Nat.not_succ_le_self n))]
  congr 1; ext i
  simp only [Finset.mem_filter, Finset.mem_univ, true_and, Finset.mem_insert, Fin.ext_iff]
  omega
theorem sum_end (f : Fin 32 → CellTallies nD τ sig Unit) : ∑ k ∈ Finset.univ.filter (fun k : Fin 32 => 32 ≤ k.val), f k = 0 := by
  rw [Finset.filter_false_of_mem fun i _ => Nat.not_le.mpr i.isLt, Finset.sum_empty]
theorem Ob_step (c : Dev nD) {n : ℕ} (h : n < 32) : Ob c n = Ob c (n + 1) + tallyAt (barCell (sigPeer c ⟨n, h⟩)) () 1 := sum_step h _
theorem Or_step (c : Dev nD) {n : ℕ} (h : n < 32) : Or' c n = Or' c (n + 1) + tallyAt (recvCell (sendPeer c ⟨n, h⟩) c) () NX := sum_step h _
theorem Ob_end (c : Dev nD) : Ob c 32 = 0 := sum_end _
theorem Or_end (c : Dev nD) : Or' c 32 = 0 := sum_end _

def L (g : GSem nD τ sig) : Finset Unit := if g.1.2 = .tc then {()} else ∅
/-- Barrier cells at 1, receive cells at 2, everything else at 0. -/
def lv (g : GSem nD τ sig) (_ : Unit) : ℕ := match g.2 with
  | .reg _ => 1
  | .dma j => if 36 ≤ j.val ∧ j.val < 68 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (c : Dev nD) (s : Fin 32) (u : Unit) : lv (recvCell c s) u = 2 := if_pos ⟨by show 36 ≤ 36 + s.val; omega, by have := s.isLt; show 36 + s.val < 68; omega⟩

theorem sum_pos {n : ℕ} {cell : Fin 32 → GSem nD τ sig} {k : ℕ} {g : GSem nD τ sig} {u : Unit}
    (h : 0 < (∑ i ∈ Finset.univ.filter (fun i : Fin 32 => n ≤ i.val), (tallyAt (cell i) () k : CellTallies nD τ sig Unit)) g u) : ∃ i, g = cell i := by
  by_contra hn
  rw [Finset.sum_apply, Finsupp.finsetSum_apply, Finset.sum_eq_zero] at h
  · exact Nat.lt_irrefl 0 h
  · intro i _
    rw [tallyAt_apply, if_neg]
    rintro ⟨h1, -⟩; exact hn ⟨i, h1⟩

theorem Or_pos {c : Dev nD} {n : ℕ} {g : GSem nD τ sig} {u : Unit} (h : 0 < Or' c n g u) : ∃ d s, g = recvCell d s := by
  obtain ⟨i, hi⟩ := sum_pos h; exact ⟨_, _, hi⟩
theorem O₀_pos {c : Dev nD} {g : GSem nD τ sig} {u : Unit} (h : 0 < O₀ c g u) : (∃ d s, g = recvCell d s) ∨ ∃ d, g = barCell d := by
  unfold O₀ at h
  rw [Pi.add_apply, Finsupp.add_apply] at h
  rcases Nat.pos_iff_ne_zero.mpr (Nat.ne_of_gt h) |> Nat.add_pos_iff_pos_or_pos.mp with h | h
  · exact .inl (Or_pos h)
  · obtain ⟨i, hi⟩ := sum_pos h; exact .inr ⟨_, hi⟩

/-- At its barrier wait a device owes receive cells only, which lie above. -/
theorem mayWait_bar (c : Dev nD) : (levAts L lv : sProp 𝕄) ⊢ MayWait (c : Thread nD τ) (.reg barS) () (Or' c 0) :=
  MayOwe.of_cut (L := L) (lev := lv) 1 (fun p hp => by rw [Finset.mem_singleton.mp hp, L_tc]; exact Finset.mem_singleton_self _)
    (fun g u hg => by obtain ⟨d, s, rfl⟩ := Or_pos hg; exact Finset.mem_singleton_self _)
    (fun p hp => by rw [Finset.mem_singleton.mp hp]; exact Nat.le_refl 1)
    (fun g u hg => by obtain ⟨d, s, rfl⟩ := Or_pos hg; rw [lv_recv]; decide)

/-- A staging semaphore's waits lie below everything a device owes. -/
theorem mayWait_stage (c : Dev nD) (q : DmaSem sig) (hq : q.val < 36) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨d, s, rfl⟩ | ⟨d, rfl⟩ <;> exact Finset.mem_singleton_self _)
      (fun p hp => by rw [Finset.mem_singleton.mp hp]; exact Nat.le_of_eq (if_neg (fun h => by have := h.1; omega)))
      (fun g u hg => by
        rcases O₀_pos hg with ⟨d, s, rfl⟩ | ⟨d, rfl⟩
        · rw [lv_recv]; decide
        · rw [lv_bar]; decide)
  · rw [MayWait_zero]; iintro -; iempintro

/-! ## The records -/

theorem kcell_injective : Function.Injective (kcell : Dev nD × CK → GSem nD τ sig) := by
  have hc : Function.Injective csem := by
    rintro (_ | p | s | p) (_ | p' | s' | p') h
    all_goals first
      | rfl
      | exact absurd h (by intro h; cases h)
      | (have h' : (_ : ℕ) = _ := congrArg (fun x : SemLoc sig => match x with | .reg _ => 0 | .dma j => j.val) h
         dsimp only at h'
         first | (have e : p = p' := Fin.ext (by omega); rw [e]) | (have e : s = s' := Fin.ext (by omega); rw [e]) | omega)
  rintro ⟨c, k⟩ ⟨c', k'⟩ h
  have h1 : c = c' := congrArg (fun g : GSem nD τ sig => g.1.1) h
  have h2 : k = k' := hc (congrArg Prod.snd h)
  rw [h1, h2]

/-- Every cell's invariant under the names `K`, and that every cell has reached round 0. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

theorem inv_all (K : Dev nD × CK → ℕ) (ck : Dev nD × CK) :
    (bigSep Finset.univ fun ck : Dev nD × CK => (cellInv ER (Rd m) (K ck) (kcell ck) : sProp 𝕄)) ⊢ cellInv ER (Rd m) (K ck) (kcell ck) :=
  bigSep_elim (Finset.mem_univ ck)
theorem reached_all (ck : Dev nD × CK) :
    (bigSep Finset.univ fun ck : Dev nD × CK => (reached ER (kcell ck) 0 : sProp 𝕄)) ⊢ reached ER (kcell ck) 0 :=
  bigSep_elim (Finset.mem_univ ck)
theorem inv_at (K : Dev nD × CK → ℕ) (ck : Dev nD × CK) : (records m K : sProp 𝕄) ⊢ cellInv ER (Rd m) (K ck) (kcell ck) := by
  unfold records
  iintro ⟨H, -⟩
  iapply (inv_all m K ck); iexact H
theorem reached_at (K : Dev nD × CK → ℕ) (ck : Dev nD × CK) : (records m K : sProp 𝕄) ⊢ reached ER (kcell ck) 0 := by
  unfold records
  iintro ⟨-, H⟩
  iapply (reached_all ck); iexact H

end Cert.KernelIdeal.Proto

end
-- ==== Proof.KernelIdealCells.lean ====
/-
# The blocks as the kernel spells them

The semaphores, element sets and contents of the slices the kernel passes to its transfers, waits and loads, in
the protocol's terms; how the column blocks of the gathering buffer grow together as they land.
-/
module

public import proofs.«01_k».proof.Proof.KernelIdealProto

@[expose] public section

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.RefSig (tileCredit)

variable {F : FTy → Type} [FloatOps F]

local notation "𝕄" => MT nD τ sig Unit (Elt F) ℕ UU ℕ

variable (m : (ℓ : Loc nD τ sig) → Buf (Elt F) ℓ) (ρ : Dev nD → PrngReg)

/-! ## Semaphores -/

theorem inbS (p : Fin 32) : ∀ a : Fin S32.rank, (![p.val] : Fin 1 → ℕ) a + S1.size a ≤ S32.size a := by
  intro a; fin_cases a; have := p.isLt; show p.val + 1 ≤ 32; omega
theorem inbW (p : Fin 4) : ∀ a : Fin S4.rank, (![p.val] : Fin 1 → ℕ) a + S1.size a ≤ S4.size a := by
  intro a; fin_cases a; have := p.isLt; show p.val + 1 ≤ 4; omega

theorem sem_send0 : ∀ p : Fin 32, (((SemArray.consecutive 4 S32 hcc0_scratch2 : DmaSems sig S32).slice (Rect.unit (s := S32) ![p.val] S1.size (inbS p))).squeeze S_ squeezes_S1_S_).sem = sendS p := by
  decide +kernel
theorem sem_recv0 : ∀ p : Fin 32, (((SemArray.consecutive 36 S32 hcc0_scratch3 : DmaSems sig S32).slice (Rect.unit (s := S32) ![p.val] S1.size (inbS p))).squeeze S_ squeezes_S1_S_).sem = recvS p := by
  decide +kernel
theorem sem_w0 : ∀ p : Fin 4, (((SemArray.consecutive 68 S4 hcc0_scratch4 : DmaSems sig S4).slice (Rect.unit (s := S4) ![p.val] S1.size (inbW p))).squeeze S_ squeezes_S1_S_).sem = wS p := by
  decide +kernel

theorem sem_send {o : Fin 1 → ℕ} {h : ∀ a : Fin S32.rank, o a + S1.size a ≤ S32.size a} (p : Fin 32) (ho : o = ![p.val]) :
    (((SemArray.consecutive 4 S32 hcc0_scratch2 : DmaSems sig S32).slice (Rect.unit (s := S32) o S1.size h)).squeeze S_ squeezes_S1_S_).sem = sendS p := by
  subst ho; exact sem_send0 p
theorem sem_recv {o : Fin 1 → ℕ} {h : ∀ a : Fin S32.rank, o a + S1.size a ≤ S32.size a} (p : Fin 32) (ho : o = ![p.val]) :
    (((SemArray.consecutive 36 S32 hcc0_scratch3 : DmaSems sig S32).slice (Rect.unit (s := S32) o S1.size h)).squeeze S_ squeezes_S1_S_).sem = recvS p := by
  subst ho; exact sem_recv0 p
theorem sem_w {o : Fin 1 → ℕ} {h : ∀ a : Fin S4.rank, o a + S1.size a ≤ S4.size a} (p : Fin 4) (ho : o = ![p.val]) :
    (((SemArray.consecutive 68 S4 hcc0_scratch4 : DmaSems sig S4).slice (Rect.unit (s := S4) o S1.size h)).squeeze S_ squeezes_S1_S_).sem = wS p := by
  subst ho; exact sem_w0 p

/-! ## Element sets -/

theorem mem_rect2 {R C r0 c0 : ℕ} {o : Fin 2 → ℕ} {h : ∀ a : Fin 2, o a + (⟨2, ![r0, c0]⟩ : Shape).size a ≤ (⟨2, ![R, C]⟩ : Shape).size a}
    (i : (⟨2, ![R, C]⟩ : Shape).Idx) :
    i ∈ (Rect.unit (s := ⟨2, ![R, C]⟩) o (⟨2, ![r0, c0]⟩ : Shape).size h).set
      ↔ (o 0 ≤ (i 0).val ∧ (i 0).val < o 0 + r0) ∧ (o 1 ≤ (i 1).val ∧ (i 1).val < o 1 + c0) := by
  rw [Rect.mem_set_unit]; exact Fin.forall_fin_two

theorem xset {o : Fin 2 → ℕ} {h : ∀ a : Fin S4096x128.rank, o a + S128x128.size a ≤ S4096x128.size a} (p : ℕ) (ho : o = ![128 * p, 0]) :
    (Rect.unit (s := S4096x128) o S128x128.size h).set = rowS p := by
  subst ho; ext i
  have h1 : (i 1).val < 128 := (i 1).isLt
  unfold rowS
  rw [mem_rect2, Finset.mem_filter]
  simp only [Finset.mem_univ, true_and, Matrix.cons_val_zero, Matrix.cons_val_one]
  omega
theorem gset {o : Fin 2 → ℕ} {h : ∀ a : Fin S128x4096.rank, o a + S128x128.size a ≤ S128x4096.size a} (p : ℕ) (ho : o = ![0, 128 * p]) :
    (Rect.unit (s := S128x4096) o S128x128.size h).set = colS p := by
  subst ho; ext i
  have h1 : (i 0).val < 128 := (i 0).isLt
  unfold colS
  rw [mem_rect2, Finset.mem_filter]
  simp only [Finset.mem_univ, true_and, Matrix.cons_val_zero, Matrix.cons_val_one]
  omega
theorem wset {o : Fin 2 → ℕ} {h : ∀ a : Fin S4096x2048.rank, o a + S1024x2048.size a ≤ S4096x2048.size a} (p : ℕ) (ho : o = ![1024 * p, 0]) :
    (Rect.unit (s := S4096x2048) o S1024x2048.size h).set = wrowS p := by
  subst ho; ext i
  have h1 : (i 1).val < 2048 := (i 1).isLt
  unfold wrowS
  rw [mem_rect2, Finset.mem_filter]
  simp only [Finset.mem_univ, true_and, Matrix.cons_val_zero, Matrix.cons_val_one]
  omega

/-! ## The gathering buffer and the weight buffer as they fill -/

/-- The columns landed after the first `n` receive waits; the rows of the weights after the first `t`. -/
def got (c : Dev nD) (n : ℕ) : Finset S128x4096.Idx := Finset.univ.filter fun i => ∃ k : Fin 32, k.val < n ∧ (i 1).val / 128 = (recvSrc c k).val
def wgot (c : Dev nD) (n : ℕ) : Finset S4096x2048.Idx := Finset.univ.filter fun i => ∃ k : Fin 4, k.val < n ∧ (i 0).val / 1024 = (grp c k).val

theorem got_zero (c : Dev nD) : got c 0 = ∅ := by
  unfold got; exact Finset.filter_false_of_mem fun i _ ⟨k, h, _⟩ => Nat.not_lt_zero _ h
theorem wgot_zero (c : Dev nD) : wgot c 0 = ∅ := by
  unfold wgot; exact Finset.filter_false_of_mem fun i _ ⟨k, h, _⟩ => Nat.not_lt_zero _ h
theorem got_succ (c : Dev nD) {n : ℕ} (h : n < 32) : got c (n + 1) = colS (recvSrc c ⟨n, h⟩).val ∪ got c n := by
  ext i
  simp only [got, colS, Finset.mem_union, Finset.mem_filter, Finset.mem_univ, true_and]
  constructor
  · rintro ⟨k, hk, e⟩
    rcases Nat.lt_succ_iff_lt_or_eq.mp hk with hk | hk
    · exact .inr ⟨k, hk, e⟩
    · left; rw [e]; congr 2; exact Fin.ext hk
  · rintro (e | ⟨k, hk, e⟩)
    · exact ⟨⟨n, h⟩, Nat.lt_succ_self n, e⟩
    · exact ⟨k, Nat.lt_succ_of_lt hk, e⟩
theorem wgot_succ (c : Dev nD) {n : ℕ} (h : n < 4) : wgot c (n + 1) = wrowS (grp c ⟨n, h⟩).val ∪ wgot c n := by
  ext i
  simp only [wgot, wrowS, Finset.mem_union, Finset.mem_filter, Finset.mem_univ, true_and]
  constructor
  · rintro ⟨k, hk, e⟩
    rcases Nat.lt_succ_iff_lt_or_eq.mp hk with hk | hk
    · exact .inr ⟨k, hk, e⟩
    · left; rw [e]; congr 2; exact Fin.ext hk
  · rintro (e | ⟨k, hk, e⟩)
    · exact ⟨⟨n, h⟩, Nat.lt_succ_self n, e⟩
    · exact ⟨k, Nat.lt_succ_of_lt hk, e⟩
theorem got_disj (c : Dev nD) {n : ℕ} (h : n < 32) : Disjoint (colS (recvSrc c ⟨n, h⟩).val) (got c n) := by
  rw [Finset.disjoint_left]
  simp only [got, colS, Finset.mem_filter, Finset.mem_univ, true_and]
  rintro i e ⟨k, hk, e'⟩
  have := congrArg Fin.val ((recvSrc_bij c).injective (Fin.ext (e.symm.trans e')))
  simp only at this; omega
theorem wgot_disj (c : Dev nD) {n : ℕ} (h : n < 4) : Disjoint (wrowS (grp c ⟨n, h⟩).val) (wgot c n) := by
  rw [Finset.disjoint_left]
  simp only [wgot, wrowS, Finset.mem_filter, Finset.mem_univ, true_and]
  rintro i e ⟨k, hk, e'⟩
  have := congrArg Fin.val ((grp_bij c).injective (Fin.ext (e.symm.trans e')))
  simp only at this; omega
theorem got_pts (c : Dev nD) {n : ℕ} (h : n < 32) (f : S128x4096.Idx → Elt F .i8) :
    ((((c : Thread nD τ).loc cc0_scratch0) ↦[got c (n + 1)]{fullShare} f) : sProp 𝕄)
      = iprop((((c : Thread nD τ).loc cc0_scratch0) ↦[colS (recvSrc c ⟨n, h⟩).val]{fullShare} f) ∗ (((c : Thread nD τ).loc cc0_scratch0) ↦[got c n]{fullShare} f)) := by
  rw [got_succ c h]
  exact BI.equiv_iff.mp ⟨(pointsTo_union (got_disj c h)).1, (pointsTo_union (got_disj c h)).2⟩
theorem wgot_pts (c : Dev nD) {n : ℕ} (h : n < 4) (f : S4096x2048.Idx → Elt F .i8) :
    ((((c : Thread nD τ).loc cc0_scratch1) ↦[wgot c (n + 1)]{fullShare} f) : sProp 𝕄)
      = iprop((((c : Thread nD τ).loc cc0_scratch1) ↦[wrowS (grp c ⟨n, h⟩).val]{fullShare} f) ∗ (((c : Thread nD τ).loc cc0_scratch1) ↦[wgot c n]{fullShare} f)) := by
  rw [wgot_succ c h]
  exact BI.equiv_iff.mp ⟨(pointsTo_union (wgot_disj c h)).1, (pointsTo_union (wgot_disj c h)).2⟩
theorem got_end (c : Dev nD) : got c 32 = Finset.univ := by
  unfold got
  refine Finset.filter_true_of_mem fun i _ => ?_
  obtain ⟨k, hk⟩ := (recvSrc_bij c).surjective (srcDev i)
  exact ⟨k, k.isLt, by rw [hk]; rfl⟩
theorem wgot_end (c : Dev nD) : wgot c 4 = Finset.univ := by
  unfold wgot
  refine Finset.filter_true_of_mem fun i _ => ?_
  have hi : (i 0).val < 4096 := (i 0).isLt
  obtain ⟨k, hk⟩ := (grp_bij c).surjective ⟨(i 0).val / 1024, by omega⟩
  exact ⟨k, k.isLt, by rw [hk]⟩

/-- The columns the `t`-th step loads have landed after its eight waits; its rows of the weights likewise. -/
theorem load_got (c : Dev nD) (t : Fin 4) {n : ℕ} (hn : n = 8 * t.val + 8) {o : Fin 2 → ℕ} {h : ∀ a : Fin S128x4096.rank, o a + S128x1024.size a ≤ S128x4096.size a}
    (ho : o = ![0, 1024 * (grp c t).val]) : (Rect.unit (s := S128x4096) o S128x1024.size h).set ⊆ got c n := by
  subst ho; subst hn; intro i hi
  rw [mem_rect2] at hi
  simp only [Matrix.cons_val_zero, Matrix.cons_val_one] at hi
  simp only [got, Finset.mem_filter, Finset.mem_univ, true_and]
  have ht := t.isLt
  refine ⟨⟨8 * t.val + (i 1).val / 128 % 8, by omega⟩, by show 8 * t.val + (i 1).val / 128 % 8 < _; omega, ?_⟩
  have hg : (grp c t).val = (c.val / 8 + 3 + (4 - t.val)) % 4 := rfl
  show (i 1).val / 128 = ((c.val / 8 + 3 + (4 - (8 * t.val + (i 1).val / 128 % 8) / 8)) % 4) * 8 + (8 * t.val + (i 1).val / 128 % 8) % 8
  have e : (8 * t.val + (i 1).val / 128 % 8) / 8 = t.val := by omega
  rw [e, ← hg]; omega
theorem load_wgot (c : Dev nD) (t : Fin 4) {n : ℕ} (hn : n = t.val + 1) {o : Fin 2 → ℕ} {h : ∀ a : Fin S4096x2048.rank, o a + S1024x2048.size a ≤ S4096x2048.size a}
    (ho : o = ![1024 * (grp c t).val, 0]) : (Rect.unit (s := S4096x2048) o S1024x2048.size h).set ⊆ wgot c n := by
  subst hn; rw [wset (grp c t).val ho]
  intro i hi
  simp only [wrowS, wgot, Finset.mem_filter, Finset.mem_univ, true_and] at hi ⊢
  exact ⟨t, Nat.lt_succ_self _, hi⟩

/-! ## Contents -/

/-- A block that has landed is that block of the gathering buffer's final contents. -/
theorem landed {ox og : Fin 2 → ℕ} {hx : ∀ a : Fin S4096x128.rank, ox a + S128x128.size a ≤ S4096x128.size a}
    {hg : ∀ a : Fin S128x4096.rank, og a + S128x128.size a ≤ S128x4096.size a} (s d : Dev nD)
    (hox : ox = ![128 * d.val, 0]) (hog : og = ![0, 128 * s.val]) (fd : S128x4096.Idx → Elt F .i8) :
    ∀ i ∈ (((View.whole cc0_scratch0 : View sig .tc _ _ _).slice (Rect.unit (s := S128x4096) og S128x128.size hg))).set,
      ((View.whole cc0_scratch0 : View sig .tc _ _ _).slice (Rect.unit (s := S128x4096) og S128x128.size hg)).write (Elt F) fd
        (((View.whole cc0_stg0_0 : View sig .tc _ _ _).slice (Rect.unit (s := S4096x128) ox S128x128.size hx)).read (Elt F) (X m s)) Finset.univ i
      = XG m d i := by
  intro i hi
  obtain ⟨j, -, rfl⟩ := Finset.mem_map.mp hi
  refine (View.write_emb_of_mem (v := (View.whole cc0_scratch0 : View sig .tc _ _ _).slice (Rect.unit (s := S128x4096) og S128x128.size hg)) fd _ (Finset.mem_univ j)).trans ?_
  subst hox; subst hog
  have hj0 : (j 0).val < 128 := (j 0).isLt
  have hj1 : (j 1).val < 128 := (j 1).isLt
  have e0 : ((Rect.unit (s := S128x4096) ![0, 128 * s.val] S128x128.size hg).emb j 0).val = (j 0).val := by
    rw [Rect.emb_apply]; show 0 + 1 * (j 0).val = _; omega
  have e1 : ((Rect.unit (s := S128x4096) ![0, 128 * s.val] S128x128.size hg).emb j 1).val = 128 * s.val + (j 1).val := by
    rw [Rect.emb_apply]; show 128 * s.val + 1 * (j 1).val = _; omega
  show X m s ((Rect.unit (s := S4096x128) ![128 * d.val, 0] S128x128.size hx).emb j)
    = X m (srcDev ((Rect.unit (s := S128x4096) ![0, 128 * s.val] S128x128.size hg).emb j)) (srcIx d ((Rect.unit (s := S128x4096) ![0, 128 * s.val] S128x128.size hg).emb j))
  have hs : srcDev ((Rect.unit (s := S128x4096) ![0, 128 * s.val] S128x128.size hg).emb j) = s := by
    refine Fin.ext ?_
    show ((Rect.unit (s := S128x4096) ![0, 128 * s.val] S128x128.size hg).emb j 1).val / 128 = s.val
    rw [e1]; omega
  rw [hs]; congr 1
  funext a
  fin_cases a
  · refine Fin.ext ?_
    show 128 * d.val + 1 * (j 0).val = 128 * d.val + ((Rect.unit (s := S128x4096) ![0, 128 * s.val] S128x128.size hg).emb j 0).val
    rw [e0]; omega
  · refine Fin.ext ?_
    show 0 + 1 * (j 1).val = ((Rect.unit (s := S128x4096) ![0, 128 * s.val] S128x128.size hg).emb j 1).val % 128
    rw [e1]; omega

/-- A copied block of the weights is that block. -/
theorem wlanded {o : Fin 2 → ℕ} {h : ∀ a : Fin S4096x2048.rank, o a + S1024x2048.size a ≤ S4096x2048.size a} (c : Dev nD) (fd : S4096x2048.Idx → Elt F .i8) :
    ∀ i ∈ (((View.whole cc0_scratch1 : View sig .tc _ _ _).slice (Rect.unit (s := S4096x2048) o S1024x2048.size h))).set,
      ((View.whole cc0_scratch1 : View sig .tc _ _ _).slice (Rect.unit (s := S4096x2048) o S1024x2048.size h)).write (Elt F) fd
        (((View.whole main_arg1 : View sig .tc _ _ _).slice (Rect.unit (s := S4096x2048) o S1024x2048.size h)).read (Elt F) (W m c)) Finset.univ i
      = W m c i := by
  intro i hi
  obtain ⟨j, -, rfl⟩ := Finset.mem_map.mp hi
  exact View.write_emb_of_mem (v := (View.whole cc0_scratch1 : View sig .tc _ _ _).slice (Rect.unit (s := S4096x2048) o S1024x2048.size h)) fd _ (Finset.mem_univ j)

/-! ## Whole buffers from their blocks -/

theorem row_disj : ∀ t ∈ (Finset.univ : Finset (Fin 32)), ∀ t' ∈ (Finset.univ : Finset (Fin 32)), t ≠ t' → Disjoint (rowS t.val) (rowS t'.val) := by
  intro t _ t' _ h
  rw [Finset.disjoint_left]; simp only [rowS, Finset.mem_filter, Finset.mem_univ, true_and]
  intro i e e'; exact h (Fin.ext (e.symm.trans e'))
theorem col_disj : ∀ t ∈ (Finset.univ : Finset (Fin 32)), ∀ t' ∈ (Finset.univ : Finset (Fin 32)), t ≠ t' → Disjoint (colS t.val) (colS t'.val) := by
  intro t _ t' _ h
  rw [Finset.disjoint_left]; simp only [colS, Finset.mem_filter, Finset.mem_univ, true_and]
  intro i e e'; exact h (Fin.ext (e.symm.trans e'))
theorem wrow_disj : ∀ t ∈ (Finset.univ : Finset (Fin 4)), ∀ t' ∈ (Finset.univ : Finset (Fin 4)), t ≠ t' → Disjoint (wrowS t.val) (wrowS t'.val) := by
  intro t _ t' _ h
  rw [Finset.disjoint_left]; simp only [wrowS, Finset.mem_filter, Finset.mem_univ, true_and]
  intro i e e'; exact h (Fin.ext (e.symm.trans e'))
theorem row_cover : (Finset.univ : Finset (Fin 32)).biUnion (fun t => rowS t.val) = Finset.univ := by
  ext i; have h : (i 0).val < 4096 := (i 0).isLt
  simp only [rowS, Finset.mem_biUnion, Finset.mem_filter, Finset.mem_univ, true_and, iff_true]
  exact ⟨⟨(i 0).val / 128, by omega⟩, rfl⟩
theorem col_cover : (Finset.univ : Finset (Fin 32)).biUnion (fun t => colS t.val) = Finset.univ := by
  ext i; have h : (i 1).val < 4096 := (i 1).isLt
  simp only [colS, Finset.mem_biUnion, Finset.mem_filter, Finset.mem_univ, true_and, iff_true]
  exact ⟨⟨(i 1).val / 128, by omega⟩, rfl⟩
theorem wrow_cover : (Finset.univ : Finset (Fin 4)).biUnion (fun t => wrowS t.val) = Finset.univ := by
  ext i; have h : (i 0).val < 4096 := (i 0).isLt
  simp only [wrowS, Finset.mem_biUnion, Finset.mem_filter, Finset.mem_univ, true_and, iff_true]
  exact ⟨⟨(i 0).val / 1024, by omega⟩, rfl⟩

/-- The staged block of `x`, and the weights, are their row blocks. -/
theorem x_blocks (c : Dev nD) : ((((c : Thread nD τ).loc cc0_stg0_0) ↦{fullShare} (X m c)) : sProp 𝕄) = bigSep Finset.univ fun p : Fin 32 => xPts m c p.val := by
  show ((((c : Thread nD τ).loc cc0_stg0_0) ↦[Finset.univ]{fullShare} (X m c)) : sProp 𝕄) = _
  rw [← row_cover]; exact pointsTo_biUnion _ _ row_disj
theorem h_blocks (c : Dev nD) : ((((c : Thread nD τ).loc main_arg1) ↦{fullShare} (W m c)) : sProp 𝕄) = bigSep Finset.univ fun p : Fin 4 => hPts m c p.val := by
  show ((((c : Thread nD τ).loc main_arg1) ↦[Finset.univ]{fullShare} (W m c)) : sProp 𝕄) = _
  rw [← wrow_cover]; exact pointsTo_biUnion _ _ wrow_disj
theorem gPts_intro (c : Dev nD) (s : ℕ) (f : S128x4096.Idx → Elt F .i8) :
    ((((c : Thread nD τ).loc cc0_scratch0) ↦[colS s]{fullShare} f) : sProp 𝕄) ⊢ gPts c s := by
  unfold gPts; iintro H; iexists f; iexact H
theorem wPts_intro (c : Dev nD) (s : ℕ) (f : S4096x2048.Idx → Elt F .i8) :
    ((((c : Thread nD τ).loc cc0_scratch1) ↦[wrowS s]{fullShare} f) : sProp 𝕄) ⊢ wPts c s := by
  unfold wPts; iintro H; iexists f; iexact H
theorem g_blocks (c : Dev nD) (f : S128x4096.Idx → Elt F .i8) :
    ((((c : Thread nD τ).loc cc0_scratch0) ↦{fullShare} f) : sProp 𝕄) ⊢ bigSep Finset.univ fun s : Fin 32 => gPts c s.val := by
  show ((((c : Thread nD τ).loc cc0_scratch0) ↦[Finset.univ]{fullShare} f) : sProp 𝕄) ⊢ _
  rw [← col_cover, pointsTo_biUnion _ _ col_disj]
  exact BI.bigSep_mono fun s _ => gPts_intro c s.val f
theorem w_blocks (c : Dev nD) (f : S4096x2048.Idx → Elt F .i8) :
    ((((c : Thread nD τ).loc cc0_scratch1) ↦{fullShare} f) : sProp 𝕄) ⊢ bigSep Finset.univ fun s : Fin 4 => wPts c s.val := by
  show ((((c : Thread nD τ).loc cc0_scratch1) ↦[Finset.univ]{fullShare} f) : sProp 𝕄) ⊢ _
  rw [← wrow_cover, pointsTo_biUnion _ _ wrow_disj]
  exact BI.bigSep_mono fun s _ => wPts_intro c s.val f

end Cert.KernelIdeal.Proto

end
-- ==== Proof.KernelIdealSteps.lean ====
/-
# One step of each kind

What device `c` holds between two steps of each phase of the kernel, and the rule for one step of the phase: a
signal, the barrier wait, a transfer, a copy, and the waits for each of the three kinds of landing.
-/
module

public import proofs.«01_k».proof.Proof.KernelIdealCells

@[expose] public section

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.RefSig (tileCredit)

variable {F : FTy → Type} [FloatOps F]

local notation "𝕄" => MT nD τ sig Unit (Elt F) ℕ UU ℕ

variable (m : (ℓ : Loc nD τ sig) → Buf (Elt F) ℓ) (ρ : Dev nD → PrngReg)

/-- What device `c` owes, under whatever waits it has done. -/
def Ow (c : Dev nD) (O : CellTallies nD τ sig Unit) : sProp 𝕄 := iprop(∃ Wt, owes (c : Thread nD τ) O Wt)

/-- The token of the `n`-th signal, and the column block it hands over. -/
def sigItem (c : Dev nD) (k : Fin 32) : sProp 𝕄 := iprop(dutyTok ER (barCell (sigPeer c k)) 0 c ∗ gPts c (sigPeer c k).val)
/-- Before the `n`-th signal. -/
def Sg (c : Dev nD) (n : ℕ) : sProp 𝕄 := iprop(Ow c (Or' c 0 + Ob c n) ∗ Todo n (sigItem c))

/-- The tokens of the `i`-th transfer, the row block it reads and the column block it writes. -/
def sendItem (c : Dev nD) (i : Fin 32) : sProp 𝕄 :=
  iprop(dutyTok ER (sendCell c (sendPeer c i)) 0 (0 : Fin 32) ∗ dutyTok ER (recvCell (sendPeer c i) c) 0 (0 : Fin 32)
    ∗ xPts m c (sendPeer c i).val ∗ gPts (sendPeer c i) c.val)
def sentItem (c : Dev nD) (i : Fin 32) : sProp 𝕄 := cred (tallyAt (sendCell c (sendPeer c i)) () NX)
/-- Before the `n`-th transfer. -/
def Sn (c : Dev nD) (n : ℕ) : sProp 𝕄 := iprop(Ow c (Or' c n) ∗ Todo n (sendItem m c) ∗ Done n (sentItem c))

/-- The token of the `p`-th copy of the weights, the rows it writes and the rows it reads. -/
def copyItem (c : Dev nD) (p : Fin 4) : sProp 𝕄 := iprop(dutyTok ER (wCell c p) 0 (0 : Fin 32) ∗ wPts c p.val ∗ hPts m c p.val)
def copiedItem (c : Dev nD) (p : Fin 4) : sProp 𝕄 := cred (tallyAt (wCell c p) () NW)
/-- Before the `n`-th copy. -/
def Wc (c : Dev nD) (n : ℕ) : sProp 𝕄 := iprop(Todo n (copyItem m c) ∗ Done n (copiedItem c))

def recvItem (c : Dev nD) (k : Fin 32) : sProp 𝕄 :=
  iprop(atPos ER (recvCell c (recvSrc c k)) 0 ∅ 0 ∗ cred (tallyAt (recvCell c (recvSrc c k)) () NX))
def recvdItem (c : Dev nD) (k : Fin 32) : sProp 𝕄 := semVal (recvCell c (recvSrc c k)) 0
/-- Before the `n`-th receive wait: the blocks landed so far. -/
def Rv (c : Dev nD) (n : ℕ) : sProp 𝕄 :=
  iprop(Ow c 0 ∗ Todo n (recvItem c) ∗ (((c : Thread nD τ).loc cc0_scratch0) ↦[got c n]{fullShare} (XG m c)) ∗ Done n (recvdItem c))

def wItem (c : Dev nD) (k : Fin 4) : sProp 𝕄 := iprop(atPos ER (wCell c (grp c k)) 0 ∅ 0 ∗ cred (tallyAt (wCell c (grp c k)) () NW))
def wdItem (c : Dev nD) (k : Fin 4) : sProp 𝕄 := iprop(semVal (wCell c (grp c k)) 0 ∗ hPts m c (grp c k).val)
/-- Before the `n`-th wait for the weights: the rows landed so far. -/
def Wv (c : Dev nD) (n : ℕ) : sProp 𝕄 :=
  iprop(Todo n (wItem c) ∗ (((c : Thread nD τ).loc cc0_scratch1) ↦[wgot c n]{fullShare} (W m c)) ∗ Done n (wdItem m c))

def sendwItem (c : Dev nD) (i : Fin 32) : sProp 𝕄 :=
  iprop(atPos ER (sendCell c (sendPeer c i)) 0 ∅ 0 ∗ cred (tallyAt (sendCell c (sendPeer c i)) () NX))
def sendwdItem (c : Dev nD) (i : Fin 32) : sProp 𝕄 := iprop(semVal (sendCell c (sendPeer c i)) 0 ∗ xPts m c (sendPeer c i).val)
/-- Before the `n`-th wait for a transfer's reading end: the row blocks back so far. -/
def Sv (c : Dev nD) (n : ℕ) : sProp 𝕄 := iprop(Ow c 0 ∗ Todo n (sendwItem c) ∗ Done n (sendwdItem m c))

section Steps

variable (K : Dev nD × CK → ℕ) (c : Dev nD)

/-- A signal: the column block goes to the device signalled. -/
theorem sig_step {α : Type} {Q : α → sProp 𝕄} {k : PUnit → Prog (TpuEff nD τ sig (Elt F) Λ₀ .tc) α} {n : ℕ} (hn : n < 32) (h1 : n ≠ 0) (p : Dev nD) (hp : p = sigPeer c ⟨n, hn⟩) :
    iprop(records m K ∗ Sg (F := F) c n)
      ⊢ iprop((Sg (F := F) c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal ((p : Dev nD) : Thread nD τ) barS (1#32).toInt) k) Q) := by
  subst hp
  rw [show (1#32).toInt = ((1 : ℕ) : ℤ) by decide]
  have hO : Or' c 0 + Ob c n = (Or' c 0 + Ob c (n + 1)) + tallyAt (barCell (sigPeer c ⟨n, hn⟩)) () 1 := by rw [Ob_step c hn, add_assoc]
  unfold Sg Ow
  rw [todo_step hn]; unfold sigItem
  iintro ⟨#HR, ⟨%Wt, HO⟩, ⟨Htok, Hg⟩, Hrest⟩ Hk
  iapply (Rounds.wp_signal 𝒱₀ ER (Rd m) (c : Thread nD τ) none (dst := (sigPeer c ⟨n, hn⟩ : Thread nD τ)) (κ := K (sigPeer c ⟨n, hn⟩, .inl ()))
      (d := c) (by rw [duties_bar]; exact Finset.mem_erase.mpr ⟨(sigPeer_ne c ⟨n, hn⟩ h1).symm, Finset.mem_univ _⟩) (amount_bar m (sigPeer c ⟨n, hn⟩) c) ()
      (Or' c 0 + Ob c (n + 1)) hO)
    $$ [HO Htok Hg]
  · isplitr; · iapply (inv_at m K (sigPeer c ⟨n, hn⟩, .inl ())); iexact HR
    isplitl [HO]; · iexact HO
    isplitl [Htok]; · iexact Htok
    isplitl [Hg]; · rw [payload_bar]; iexact Hg
    iapply (reached_at m K (sigPeer c ⟨n, hn⟩, .inl ())); iexact HR
  iintro HO
  iapply Hk
  isplitl [HO]; · iexists Wt; iexact HO
  iexact Hrest

/-- The barrier wait: every other device's column block `c`. -/
theorem bar_step {α : Type} {Q : α → sProp 𝕄} {k : PUnit → Prog (TpuEff nD τ sig (Elt F) Λ₀ .tc) α} :
    iprop(records m K ∗ levAts L lv ∗ Sg (F := F) c 32 ∗ cred (tallyAt (barCell c) () 31) ∗ atPos ER (barCell c) 0 ∅ 0)
      ⊢ iprop(((Ow c (Or' c 0) ∗ semVal (barCell c) 0 ∗ bigSep (Finset.univ.erase c) fun d => gPts d c.val)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (31#32).toInt) k) Q) := by
  rw [show (31#32).toInt = ((31 : ℕ) : ℤ) by decide]
  unfold Sg Ow
  rw [Ob_end, add_zero]
  iintro ⟨#HR, #Hlev, ⟨⟨%Wt, HO⟩, -⟩, Hc, Hat⟩ Hk
  ihave #HI := (inv_at m K (c, .inl ())) $$ HR
  iapply (Rounds.wp_wait_rest_token 𝒱₀ ER (Rd m) (c : Thread nD τ) none (κ := K (c, .inl ()))
      (wpE_semWait_eq 𝒱₀ (c : Thread nD τ) none Set.univ) (Set.mem_univ _) () (O := Or' c 0) (W := Wt) (R := 0) (m := 0) (T := ∅)
      (by rw [expect_bar])) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hp := (Entails.of_eq (rest_bar m c)) $$ Hpay
  imod (Rounds.cell_close ER (Rd m) (Set.mem_univ (K (c, .inl ()))) (fun h => h) (R := 0 + 1) (duties_later m (barCell c))) $$ [Hat] with Hz
  · isplitr; · iexact HI
    iexact Hat
  iapply Hk
  isplitl [HO]; · iexists _; iexact HO
  isplitl [Hz]; · iexact Hz
  iexact Hp

/-- A transfer: block `p` of `x` is on its way to column block `c` of device `p`. -/
theorem send_step {α : Type} {Q : α → sProp 𝕄} {k : PUnit → Prog (TpuEff nD τ sig (Elt F) Λ₀ .tc) α} {n : ℕ} (hn : n < 32) (p : Dev nD) (hp : p = sendPeer c ⟨n, hn⟩) {o1 o2 : Fin 1 → ℕ} {o3 o4 : Fin 2 → ℕ}
    (h1 : o1 = ![(sendPeer c ⟨n, hn⟩).val]) (h2 : o2 = ![c.val]) (h3 : o3 = ![0, 128 * c.val]) (h4 : o4 = ![128 * (sendPeer c ⟨n, hn⟩).val, 0])
    {b1 : ∀ a : Fin S32.rank, o1 a + S1.size a ≤ S32.size a} {b2 : ∀ a : Fin S32.rank, o2 a + S1.size a ≤ S32.size a}
    {b3 : ∀ a : Fin S128x4096.rank, o3 a + S128x128.size a ≤ S128x4096.size a} {b4 : ∀ a : Fin S4096x128.rank, o4 a + S128x128.size a ≤ S4096x128.size a}
    {hs3} {hs4} {hsc} {hsrc} {hdst} {hsem} :
    iprop(records m K ∗ Sn m c n)
      ⊢ iprop((Sn m c (n + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (xM.slice (Rect.unit (s := S4096x128) o4 S128x128.size b4) hs4)
              (.remote (Dev.tc p : Thread nD τ) (gM.slice (Rect.unit (s := S128x4096) o3 S128x128.size b3) hs3)
                (.dma ((cc0_scratch2.slice (Rect.unit (s := S32) o1 S1.size b1)).squeeze S_ squeezes_S1_S_).sem) hsc)
              (.dma ((cc0_scratch3.slice (Rect.unit (s := S32) o2 S1.size b2)).squeeze S_ squeezes_S1_S_).sem) hsrc hdst hsem) k) Q) := by
  have hS := sem_send (h := b1) (sendPeer c ⟨n, hn⟩) h1
  have hV := sem_recv (h := b2) c h2
  revert hsem
  generalize ((cc0_scratch2.slice (Rect.unit (s := S32) o1 S1.size b1)).squeeze S_ squeezes_S1_S_).sem = sS at hS ⊢
  generalize ((cc0_scratch3.slice (Rect.unit (s := S32) o2 S1.size b2)).squeeze S_ squeezes_S1_S_).sem = sV at hV ⊢
  intro hsem
  subst hp; subst hS; subst hV
  unfold Sn Ow
  rw [todo_step hn, done_step hn]
  unfold sendItem gPts
  iintro ⟨#HR, ⟨%Wt, HO⟩, ⟨⟨HtS, HtV, Hx, ⟨%fd, Hg⟩⟩, Hrest⟩, Hdone⟩ Hk
  have ex : (((xM.slice (Rect.unit (s := S4096x128) o4 S128x128.size b4) hs4).view.loc (c : Thread nD τ) ↦[(xM.slice (Rect.unit (s := S4096x128) o4 S128x128.size b4) hs4).view.set]{fullShare} (X m c)) : sProp 𝕄)
      = xPts m c (sendPeer c ⟨n, hn⟩).val := by
    unfold xPts
    rw [show (xM.slice (Rect.unit (s := S4096x128) o4 S128x128.size b4) hs4).view.set = rowS (sendPeer c ⟨n, hn⟩).val from (View.set_slice_whole _ _).trans (xset _ h4)]
  have eg : ∀ f : S128x4096.Idx → Elt F .i8, (((gM.slice (Rect.unit (s := S128x4096) o3 S128x128.size b3) hs3).view.loc (sendPeer c ⟨n, hn⟩ : Thread nD τ) ↦[(gM.slice (Rect.unit (s := S128x4096) o3 S128x128.size b3) hs3).view.set]{fullShare} f) : sProp 𝕄)
      = (((sendPeer c ⟨n, hn⟩ : Thread nD τ).loc cc0_scratch0) ↦[colS c.val]{fullShare} f) := by
    intro f
    rw [show (gM.slice (Rect.unit (s := S128x4096) o3 S128x128.size b3) hs3).view.set = colS c.val from (View.set_slice_whole _ _).trans (gset _ h3)]
  iapply (Rounds.wp_send_pointsTo 𝒱₀ ER (Rd m) (c : Thread nD τ) none (c' := (sendPeer c ⟨n, hn⟩ : Thread nD τ))
      (κ₁ := K (c, .inr (.inl (sendPeer c ⟨n, hn⟩)))) (κ₂ := K (sendPeer c ⟨n, hn⟩, .inr (.inr (.inl c))))
      (r₁ := 0) (r₂ := 0) (d₁ := (0 : Fin 32)) (d₂ := (0 : Fin 32)) (fs := X m c) (fd := fd)
      (by rw [duties_send]; exact Finset.mem_singleton_self _) (by rw [duties_recv]; exact Finset.mem_singleton_self _)
      () () NX rfl (amount_send m c _ _) (amount_recv m _ _ _) (Or' c (n + 1)) (Or_step c hn) (W := Wt)
      (by rw [payload_send, ex])
      (by rw [payload_recv]; unfold gHas; rw [← eg]; exact Entails.of_eq (pointsTo_congr (landed m c (sendPeer c ⟨n, hn⟩) h4 h3 fd)))) $$ [HO HtS HtV Hx Hg]
  · isplitr; · iapply (inv_at m K (c, .inr (.inl (sendPeer c ⟨n, hn⟩)))); iexact HR
    isplitr; · iapply (inv_at m K (sendPeer c ⟨n, hn⟩, .inr (.inr (.inl c)))); iexact HR
    isplitl [Hx]; · rw [ex]; iexact Hx
    isplitl [Hg]; · rw [eg]; iexact Hg
    isplitl [HO]; · iexact HO
    isplitl [HtS]; · iexact HtS
    isplitr; · iapply (reached_at m K (c, .inr (.inl (sendPeer c ⟨n, hn⟩)))); iexact HR
    isplitl [HtV]; · iexact HtV
    iapply (reached_at m K (sendPeer c ⟨n, hn⟩, .inr (.inr (.inl c)))); iexact HR
  iintro ⟨Hc, HO⟩
  iapply Hk
  isplitl [HO]; · iexists Wt; iexact HO
  isplitl [Hrest]; · iexact Hrest
  isplitl [Hc]; · unfold sentItem; iexact Hc
  iexact Hdone

/-- A copy of a row block of the weights begins. -/
theorem copy_step {α : Type} {Q : α → sProp 𝕄} {k : PUnit → Prog (TpuEff nD τ sig (Elt F) Λ₀ .tc) α} {n : ℕ} (hn : n < 4) {o1 : Fin 1 → ℕ} {o2 : Fin 2 → ℕ}
    (h1 : o1 = ![n]) (h2 : o2 = ![1024 * n, 0])
    {b1 : ∀ a : Fin S4.rank, o1 a + S1.size a ≤ S4.size a} {b2 : ∀ a : Fin S4096x2048.rank, o2 a + S1024x2048.size a ≤ S4096x2048.size a}
    {hs} {hs'} {hsrc} {hdst} {hsem} :
    iprop(records m K ∗ Wc m c n)
      ⊢ iprop((Wc m c (n + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.enqueueDma (hM.slice (Rect.unit (s := S4096x2048) o2 S1024x2048.size b2) hs)
              (.here (wM.slice (Rect.unit (s := S4096x2048) o2 S1024x2048.size b2) hs'))
              (.dma ((cc0_scratch4.slice (Rect.unit (s := S4) o1 S1.size b1)).squeeze S_ squeezes_S1_S_).sem) hsrc hdst hsem) k) Q) := by
  have hS := sem_w (h := b1) ⟨n, hn⟩ h1
  revert hsem
  generalize ((cc0_scratch4.slice (Rect.unit (s := S4) o1 S1.size b1)).squeeze S_ squeezes_S1_S_).sem = sS at hS ⊢
  intro hsem
  subst hS
  unfold Wc
  rw [todo_step hn, done_step hn]
  unfold copyItem wPts
  iintro ⟨#HR, ⟨⟨Ht, ⟨%fd, Hw⟩, Hh⟩, Hrest⟩, Hdone⟩ Hk
  have eh : (((hM.slice (Rect.unit (s := S4096x2048) o2 S1024x2048.size b2) hs).view.loc (c : Thread nD τ) ↦[(hM.slice (Rect.unit (s := S4096x2048) o2 S1024x2048.size b2) hs).view.set]{fullShare} (W m c)) : sProp 𝕄)
      = hPts m c n := by
    unfold hPts
    rw [show (hM.slice (Rect.unit (s := S4096x2048) o2 S1024x2048.size b2) hs).view.set = wrowS n from (View.set_slice_whole _ _).trans (wset _ h2)]
  have ew : ∀ f : S4096x2048.Idx → Elt F .i8, (((wM.slice (Rect.unit (s := S4096x2048) o2 S1024x2048.size b2) hs').view.loc (c : Thread nD τ) ↦[(wM.slice (Rect.unit (s := S4096x2048) o2 S1024x2048.size b2) hs').view.set]{fullShare} f) : sProp 𝕄)
      = (((c : Thread nD τ).loc cc0_scratch1) ↦[wrowS n]{fullShare} f) := by
    intro f
    rw [show (wM.slice (Rect.unit (s := S4096x2048) o2 S1024x2048.size b2) hs').view.set = wrowS n from (View.set_slice_whole _ _).trans (wset _ h2)]
  iapply (Rounds.wp_copy_pointsTo 𝒱₀ ER (Rd m) (c : Thread nD τ) none (κ := K (c, .inr (.inr (.inr ⟨n, hn⟩)))) (r := 0) (d := (0 : Fin 32)) (fs := W m c) (fd := fd)
      (by rw [duties_w]; exact Finset.mem_singleton_self _) () NW rfl (amount_w m c _ _)
      (by rw [payload_w, eh]; unfold wHas; rw [← ew]; exact sep_mono_left (Entails.of_eq (pointsTo_congr (wlanded m c fd))))) $$ [Ht Hw Hh]
  · isplitr; · iapply (inv_at m K (c, .inr (.inr (.inr ⟨n, hn⟩)))); iexact HR
    isplitl [Hh]; · rw [eh]; iexact Hh
    isplitl [Hw]; · rw [ew]; iexact Hw
    isplitl [Ht]; · iexact Ht
    iapply (reached_at m K (c, .inr (.inr (.inr ⟨n, hn⟩)))); iexact HR
  iintro Hc
  iapply Hk
  isplitl [Hrest]; · iexact Hrest
  isplitl [Hc]; · unfold copiedItem; iexact Hc
  iexact Hdone

/-- A receive wait: one more block has landed. -/
theorem recv_step {α : Type} {Q : α → sProp 𝕄} {k : PUnit → Prog (TpuEff nD τ sig (Elt F) Λ₀ .tc) α} {n : ℕ} (hn : n < 32) {o1 : Fin 1 → ℕ} (h1 : o1 = ![(recvSrc c ⟨n, hn⟩).val])
    {b1 : ∀ a : Fin S32.rank, o1 a + S1.size a ≤ S32.size a} {sp sp' : Space} {s : Memref sig .tc sp S128x128 .i8} {d : Memref sig .tc sp' S128x128 .i8} {hs} {hd} :
    iprop(records m K ∗ Rv m c n)
      ⊢ iprop((Rv m c (n + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 ((cc0_scratch3.slice (Rect.unit (s := S32) o1 S1.size b1)).squeeze S_ squeezes_S1_S_).sem s d hs hd) k) Q) := by
  have hS := sem_recv (h := b1) (recvSrc c ⟨n, hn⟩) h1
  generalize ((cc0_scratch3.slice (Rect.unit (s := S32) o1 S1.size b1)).squeeze S_ squeezes_S1_S_).sem = sS at hS ⊢
  subst hS
  unfold Rv Ow
  rw [todo_step hn, done_step hn, got_pts c hn]
  unfold recvItem
  iintro ⟨#HR, ⟨%Wt, HO⟩, ⟨⟨Hat, Hc⟩, Hrest⟩, Hg, Hdone⟩ Hk
  ihave #HI := (inv_at m K (c, .inr (.inr (.inl (recvSrc c ⟨n, hn⟩))))) $$ HR
  iapply (Rounds.wp_wait_rest_token 𝒱₀ ER (Rd m) (c : Thread nD τ) none (κ := K (c, .inr (.inr (.inl (recvSrc c ⟨n, hn⟩)))))
      (wpE_waitDma2_eq 𝒱₀ (c : Thread nD τ) none Set.univ) (Set.mem_univ _) () (O := 0) (W := Wt) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_recv m c (recvSrc c ⟨n, hn⟩))) $$ Hpay
  imod (Rounds.cell_close ER (Rd m) (Set.mem_univ (K (c, .inr (.inr (.inl (recvSrc c ⟨n, hn⟩)))))) (fun h => h) (R := 0 + 1) (duties_later m (recvCell c (recvSrc c ⟨n, hn⟩)))) $$ [Hat] with Hz
  · isplitr; · iexact HI
    iexact Hat
  iapply Hk
  isplitl [HO]; · iexists _; iexact HO
  isplitl [Hrest]; · iexact Hrest
  isplitl [Hp Hg]
  · isplitl [Hp]; · unfold gHas; iexact Hp
    iexact Hg
  isplitl [Hz]; · unfold recvdItem; iexact Hz
  iexact Hdone

/-- A wait for a block of the weights. -/
theorem w_step {α : Type} {Q : α → sProp 𝕄} {k : PUnit → Prog (TpuEff nD τ sig (Elt F) Λ₀ .tc) α} {n : ℕ} (hn : n < 4) {o1 : Fin 1 → ℕ} (h1 : o1 = ![(grp c ⟨n, hn⟩).val])
    {b1 : ∀ a : Fin S4.rank, o1 a + S1.size a ≤ S4.size a} {sp sp' : Space} {s : Memref sig .tc sp S1024x2048 .i8} {d : Memref sig .tc sp' S1024x2048 .i8} {hs} {hd} :
    iprop(records m K ∗ Ow c 0 ∗ Wv m c n)
      ⊢ iprop(((Ow c 0 ∗ Wv m c (n + 1)) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 ((cc0_scratch4.slice (Rect.unit (s := S4) o1 S1.size b1)).squeeze S_ squeezes_S1_S_).sem s d hs hd) k) Q) := by
  have hS := sem_w (h := b1) (grp c ⟨n, hn⟩) h1
  generalize ((cc0_scratch4.slice (Rect.unit (s := S4) o1 S1.size b1)).squeeze S_ squeezes_S1_S_).sem = sS at hS ⊢
  subst hS
  unfold Wv Ow
  rw [todo_step hn, done_step hn, wgot_pts c hn]
  unfold wItem wdItem
  iintro ⟨#HR, ⟨%Wt, HO⟩, ⟨⟨Hat, Hc⟩, Hrest⟩, Hg, Hdone⟩ Hk
  ihave #HI := (inv_at m K (c, .inr (.inr (.inr (grp c ⟨n, hn⟩))))) $$ HR
  iapply (Rounds.wp_wait_rest_token 𝒱₀ ER (Rd m) (c : Thread nD τ) none (κ := K (c, .inr (.inr (.inr (grp c ⟨n, hn⟩)))))
      (wpE_waitDma2_eq 𝒱₀ (c : Thread nD τ) none Set.univ) (Set.mem_univ _) () (O := 0) (W := Wt) (R := 0) (m := 0) (T := ∅)
      (by rw [Nat.zero_add, expect_w])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_w m c (grp c ⟨n, hn⟩))) $$ Hpay
  icases Hp with ⟨Hw, Hh⟩
  imod (Rounds.cell_close ER (Rd m) (Set.mem_univ (K (c, .inr (.inr (.inr (grp c ⟨n, hn⟩)))))) (fun h => h) (R := 0 + 1) (duties_later m (wCell c (grp c ⟨n, hn⟩)))) $$ [Hat] with Hz
  · isplitr; · iexact HI
    iexact Hat
  iapply Hk
  isplitl [HO]; · iexists _; iexact HO
  isplitl [Hrest]; · iexact Hrest
  isplitl [Hw Hg]
  · isplitl [Hw]; · unfold wHas; iexact Hw
    iexact Hg
  isplitl [Hz Hh]
  · isplitl [Hz]; · iexact Hz
    iexact Hh
  iexact Hdone

/-- A wait for a transfer's reading end: its row block is back. -/
theorem sendw_step {α : Type} {Q : α → sProp 𝕄} {k : PUnit → Prog (TpuEff nD τ sig (Elt F) Λ₀ .tc) α} {n : ℕ} (hn : n < 32) {o1 : Fin 1 → ℕ} (h1 : o1 = ![(sendPeer c ⟨n, hn⟩).val])
    {b1 : ∀ a : Fin S32.rank, o1 a + S1.size a ≤ S32.size a} {sp sp' : Space} {s : Memref sig .tc sp S128x128 .i8} {d : Memref sig .tc sp' S128x128 .i8} {hs} {hd} :
    iprop(records m K ∗ Sv m c n)
      ⊢ iprop((Sv m c (n + 1) -∗ wp frame (wpE (defs₀ (F := F)) 𝒱₀ (c : Thread nD τ) none) Set.univ (k ⟨⟩) Q)
          -∗ wp frame (wpE (defs₀ (F := F)) 𝒱₀ (c : Thread nD τ) none) Set.univ
            (.op (.waitDma2 ((cc0_scratch2.slice (Rect.unit (s := S32) o1 S1.size b1)).squeeze S_ squeezes_S1_S_).sem s d hs hd) k) Q) := by
  have hS := sem_send (h := b1) (sendPeer c ⟨n, hn⟩) h1
  generalize ((cc0_scratch2.slice (Rect.unit (s := S32) o1 S1.size b1)).squeeze S_ squeezes_S1_S_).sem = sS at hS ⊢
  subst hS
  unfold Sv Ow
  rw [todo_step hn, done_step hn]
  unfold sendwItem sendwdItem
  iintro ⟨#HR, ⟨%Wt, HO⟩, ⟨⟨Hat, Hc⟩, Hrest⟩, Hdone⟩ Hk
  ihave #HI := (inv_at m K (c, .inr (.inl (sendPeer c ⟨n, hn⟩)))) $$ HR
  iapply (Rounds.wp_wait_rest_token 𝒱₀ ER (Rd m) (c : Thread nD τ) none (κ := K (c, .inr (.inl (sendPeer c ⟨n, hn⟩))))
      (wpE_waitDma2_eq 𝒱₀ (c : Thread nD τ) none Set.univ) (Set.mem_univ _) () (O := 0) (W := Wt) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (rest_send m c (sendPeer c ⟨n, hn⟩))) $$ Hpay
  imod (Rounds.cell_close ER (Rd m) (Set.mem_univ (K (c, .inr (.inl (sendPeer c ⟨n, hn⟩))))) (fun h => h) (R := 0 + 1) (duties_later m (sendCell c (sendPeer c ⟨n, hn⟩)))) $$ [Hat] with Hz
  · isplitr; · iexact HI
    iexact Hat
  iapply Hk
  isplitl [HO]; · iexists _; iexact HO
  isplitl [Hrest]; · iexact Hrest
  isplitl [Hz Hp]
  · isplitl [Hz]; · iexact Hz
    iexact Hp
  iexact Hdone

end Steps

end Cert.KernelIdeal.Proto

end
-- ==== Proof.KernelIdealChains.lean ====
/-
# Steps in a program

Each step at the head of a program, with the rest of what the device holds around it; the loads and stores of the
product; and how parts of the kernel follow each other.
-/
module

public import proofs.«01_k».proof.Proof.KernelIdealSteps
public import proofs.«01_k».proof.Proof.Gen.KernelIdeal.Skeleton

@[expose] public section

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.RefSig (tileCredit)

variable {F : FTy → Type} [FloatOps F]

local notation "𝕄" => MT nD τ sig Unit (Elt F) ℕ UU ℕ

variable (m : (ℓ : Loc nD τ sig) → Buf (Elt F) ℓ) (ρ : Dev nD → PrngReg)

/-! ## Contents the product reads, and what it accumulates -/

def SX (c : Dev nD) : S1.Idx → Elt F .f32 := (win0_1.blk (0 : Fin 1)).view.read (Elt F) (m ((c : Thread nD τ).loc main_arg2))
def SW (c : Dev nD) : S1.Idx → Elt F .f32 := (win0_2.blk (0 : Fin 1)).view.read (Elt F) (m ((c : Thread nD τ).loc main_arg3))

theorem inbX (t : Fin 4) : ∀ a : Fin S128x4096.rank, (![0, 1024 * t.val] : Fin 2 → ℕ) a + S128x1024.size a ≤ S128x4096.size a := by
  intro a; have := t.isLt; fin_cases a
  · show 0 + 128 ≤ 128; omega
  · show 1024 * t.val + 1024 ≤ 4096; omega
theorem inbWr (t : Fin 4) : ∀ a : Fin S4096x2048.rank, (![1024 * t.val, 0] : Fin 2 → ℕ) a + S1024x2048.size a ≤ S4096x2048.size a := by
  intro a; have := t.isLt; fin_cases a
  · show 1024 * t.val + 1024 ≤ 4096; omega
  · show 0 + 2048 ≤ 2048; omega

/-- The columns of the gathered block, and the rows of the weights, of group `g`. -/
def xgl (c : Dev nD) (g : Fin 4) : Vec F S128x1024 .i8 :=
  (gM : Memref sig .tc .vmem S128x4096 .i8).view.readAt (Elt F) (Rect.unit (s := S128x4096) ![0, 1024 * g.val] S128x1024.size (inbX g)).toLoadRect (XG m c)
def wl (c : Dev nD) (g : Fin 4) : Vec F S1024x2048 .i8 :=
  (wM : Memref sig .tc .vmem S4096x2048 .i8).view.readAt (Elt F) (Rect.unit (s := S4096x2048) ![1024 * g.val, 0] S1024x2048.size (inbWr g)).toLoadRect (W m c)

/-- The accumulator after each of the four steps, and the result. -/
def ac1 (c : Dev nD) : Vec F S128x2048 .i32 := k0_pay1 (F := F) (xgl m c (grp c 0)) (wl m c (grp c 0))
def ac2 (c : Dev nD) : Vec F S128x2048 .i32 := k0_pay2 (F := F) (xgl m c (grp c 1)) (wl m c (grp c 1)) (ac1 m c)
def ac3 (c : Dev nD) : Vec F S128x2048 .i32 := k0_pay3 (F := F) (xgl m c (grp c 2)) (wl m c (grp c 2)) (ac2 m c)
def ac4 (c : Dev nD) : Vec F S128x2048 .i32 := k0_pay4 (F := F) (xgl m c (grp c 3)) (wl m c (grp c 3)) (ac3 m c)
/-- The one position of a scale. -/
def ix1 : S1.Idx := fun _ => ⟨0, by simp⟩
theorem ix1_eq (x : S1.Idx) : x = ix1 := by
  funext a
  have h := (x a).isLt
  fin_cases a
  exact Fin.ext (Nat.lt_one_iff.mp h)

def outAt (c : Dev nD) : S128x2048.Idx → Elt F .f32 := k0_pay5 (F := F) (ac4 m c) (SX m c ix1) (SW m c ix1)

/-- The accumulator, the scales and the output buffer. -/
def Ac (c : Dev nD) (f : S128x2048.Idx → Elt F .i32) : sProp 𝕄 := ((c : Thread nD τ).loc cc0_scratch5) ↦{fullShare} f
def Sc (c : Dev nD) : sProp 𝕄 := iprop((((c : Thread nD τ).loc cc0_stg1_0) ↦{fullShare} (SX m c)) ∗ (((c : Thread nD τ).loc cc0_stg2_0) ↦{fullShare} (SW m c)))
def Out (c : Dev nD) (f : S128x2048.Idx → Elt F .f32) : sProp 𝕄 := ((c : Thread nD τ).loc cc0_stg3_0) ↦{fullShare} f

section Chains

variable (K : Dev nD × CK → ℕ) (c : Dev nD)

/-! ## A step with the rest of what the device holds around it -/

/-- A signal at the head of a program. -/
theorem sig_chain {α : Type} {Q : α → sProp 𝕄} {R : sProp 𝕄} {k : PUnit → Prog (TpuEff nD τ sig (Elt F) Λ₀ .tc) α} {n : ℕ} (hn : n < 32) (h1 : n ≠ 0) (p : Dev nD) (hp : p = sigPeer c ⟨n, hn⟩)
    (h : iprop(records m K ∗ Sg (F := F) c (n + 1) ∗ R) ⊢ wp frame (wpE (defs₀ (F := F)) 𝒱₀ (c : Thread nD τ) none) Set.univ (k ⟨⟩) Q) :
    iprop(records m K ∗ Sg (F := F) c n ∗ R) ⊢ wp frame (wpE (defs₀ (F := F)) 𝒱₀ (c : Thread nD τ) none) Set.univ (.op (.semSignal ((p : Dev nD) : Thread nD τ) barS (1#32).toInt) k) Q := by
  iintro ⟨#HR, H, HF⟩
  iapply (sig_step m K c hn h1 p hp) $$ [H]
  · isplitr; · iexact HR
    iexact H
  iintro H
  iapply h
  isplitr; · iexact HR
  isplitl [H]; · iexact H
  iexact HF

/-- The barrier wait at the head of a program. -/
theorem bar_chain {α : Type} {Q : α → sProp 𝕄} {R : sProp 𝕄} {k : PUnit → Prog (TpuEff nD τ sig (Elt F) Λ₀ .tc) α}
    (h : iprop(records m K ∗ (Ow c (Or' c 0) ∗ semVal (barCell c) 0 ∗ bigSep (Finset.univ.erase c) fun d => gPts d c.val) ∗ R) ⊢ wp frame (wpE (defs₀ (F := F)) 𝒱₀ (c : Thread nD τ) none) Set.univ (k ⟨⟩) Q) :
    iprop(records m K ∗ (levAts L lv ∗ Sg (F := F) c 32 ∗ cred (tallyAt (barCell c) () 31) ∗ atPos ER (barCell c) 0 ∅ 0) ∗ R) ⊢ wp frame (wpE (defs₀ (F := F)) 𝒱₀ (c : Thread nD τ) none) Set.univ (.op (.semWait barS (31#32).toInt) k) Q := by
  iintro ⟨#HR, H, HF⟩
  iapply (bar_step m K c) $$ [H]
  · isplitr; · iexact HR
    iexact H
  iintro H
  iapply h
  isplitr; · iexact HR
  isplitl [H]; · iexact H
  iexact HF

/-- A transfer at the head of a program. -/
theorem send_chain {α : Type} {Q : α → sProp 𝕄} {R : sProp 𝕄} {k : PUnit → Prog (TpuEff nD τ sig (Elt F) Λ₀ .tc) α} {n : ℕ} (hn : n < 32) (p : Dev nD) (hp : p = sendPeer c ⟨n, hn⟩) {o1 o2 : Fin 1 → ℕ} {o3 o4 : Fin 2 → ℕ}
    (h1 : o1 = ![(sendPeer c ⟨n, hn⟩).val]) (h2 : o2 = ![c.val]) (h3 : o3 = ![0, 128 * c.val]) (h4 : o4 = ![128 * (sendPeer c ⟨n, hn⟩).val, 0])
    {b1 : ∀ a : Fin S32.rank, o1 a + S1.size a ≤ S32.size a} {b2 : ∀ a : Fin S32.rank, o2 a + S1.size a ≤ S32.size a}
    {b3 : ∀ a : Fin S128x4096.rank, o3 a + S128x128.size a ≤ S128x4096.size a} {b4 : ∀ a : Fin S4096x128.rank, o4 a + S128x128.size a ≤ S4096x128.size a}
    {hs3} {hs4} {hsc} {hsrc} {hdst} {hsem}
    (h : iprop(records m K ∗ Sn m c (n + 1) ∗ R) ⊢ wp frame (wpE (defs₀ (F := F)) 𝒱₀ (c : Thread nD τ) none) Set.univ (k ⟨⟩) Q) :
    iprop(records m K ∗ Sn m c n ∗ R) ⊢ wp frame (wpE (defs₀ (F := F)) 𝒱₀ (c : Thread nD τ) none) Set.univ (.op (.enqueueDma (xM.slice (Rect.unit (s := S4096x128) o4 S128x128.size b4) hs4)
              (.remote (Dev.tc p : Thread nD τ) (gM.slice (Rect.unit (s := S128x4096) o3 S128x128.size b3) hs3)
                (.dma ((cc0_scratch2.slice (Rect.unit (s := S32) o1 S1.size b1)).squeeze S_ squeezes_S1_S_).sem) hsc)
              (.dma ((cc0_scratch3.slice (Rect.unit (s := S32) o2 S1.size b2)).squeeze S_ squeezes_S1_S_).sem) hsrc hdst hsem) k) Q := by
  iintro ⟨#HR, H, HF⟩
  iapply (send_step m K c hn p hp h1 h2 h3 h4) $$ [H]
  · isplitr; · iexact HR
    iexact H
  iintro H
  iapply h
  isplitr; · iexact HR
  isplitl [H]; · iexact H
  iexact HF

/-- A copy at the head of a program. -/
theorem copy_chain {α : Type} {Q : α → sProp 𝕄} {R : sProp 𝕄} {k : PUnit → Prog (TpuEff nD τ sig (Elt F) Λ₀ .tc) α} {n : ℕ} (hn : n < 4) {o1 : Fin 1 → ℕ} {o2 : Fin 2 → ℕ}
    (h1 : o1 = ![n]) (h2 : o2 = ![1024 * n, 0])
    {b1 : ∀ a : Fin S4.rank, o1 a + S1.size a ≤ S4.size a} {b2 : ∀ a : Fin S4096x2048.rank, o2 a + S1024x2048.size a ≤ S4096x2048.size a}
    {hs} {hs'} {hsrc} {hdst} {hsem}
    (h : iprop(records m K ∗ Wc m c (n + 1) ∗ R) ⊢ wp frame (wpE (defs₀ (F := F)) 𝒱₀ (c : Thread nD τ) none) Set.univ (k ⟨⟩) Q) :
    iprop(records m K ∗ Wc m c n ∗ R) ⊢ wp frame (wpE (defs₀ (F := F)) 𝒱₀ (c : Thread nD τ) none) Set.univ (.op (.enqueueDma (hM.slice (Rect.unit (s := S4096x2048) o2 S1024x2048.size b2) hs)
              (.here (wM.slice (Rect.unit (s := S4096x2048) o2 S1024x2048.size b2) hs'))
              (.dma ((cc0_scratch4.slice (Rect.unit (s := S4) o1 S1.size b1)).squeeze S_ squeezes_S1_S_).sem) hsrc hdst hsem) k) Q := by
  iintro ⟨#HR, H, HF⟩
  iapply (copy_step m K c hn h1 h2) $$ [H]
  · isplitr; · iexact HR
    iexact H
  iintro H
  iapply h
  isplitr; · iexact HR
  isplitl [H]; · iexact H
  iexact HF

/-- A receive wait at the head of a program. -/
theorem recv_chain {α : Type} {Q : α → sProp 𝕄} {R : sProp 𝕄} {k : PUnit → Prog (TpuEff nD τ sig (Elt F) Λ₀ .tc) α} {n : ℕ} (hn : n < 32) {o1 : Fin 1 → ℕ} (h1 : o1 = ![(recvSrc c ⟨n, hn⟩).val])
    {b1 : ∀ a : Fin S32.rank, o1 a + S1.size a ≤ S32.size a} {sp sp' : Space} {s : Memref sig .tc sp S128x128 .i8} {d : Memref sig .tc sp' S128x128 .i8} {hs} {hd}
    (h : iprop(records m K ∗ Rv m c (n + 1) ∗ R) ⊢ wp frame (wpE (defs₀ (F := F)) 𝒱₀ (c : Thread nD τ) none) Set.univ (k ⟨⟩) Q) :
    iprop(records m K ∗ Rv m c n ∗ R) ⊢ wp frame (wpE (defs₀ (F := F)) 𝒱₀ (c : Thread nD τ) none) Set.univ (.op (.waitDma2 ((cc0_scratch3.slice (Rect.unit (s := S32) o1 S1.size b1)).squeeze S_ squeezes_S1_S_).sem s d hs hd) k) Q := by
  iintro ⟨#HR, H, HF⟩
  iapply (recv_step m K c hn h1) $$ [H]
  · isplitr; · iexact HR
    iexact H
  iintro H
  iapply h
  isplitr; · iexact HR
  isplitl [H]; · iexact H
  iexact HF

/-- A wait for the weights at the head of a program. -/
theorem w_chain {α : Type} {Q : α → sProp 𝕄} {R : sProp 𝕄} {k : PUnit → Prog (TpuEff nD τ sig (Elt F) Λ₀ .tc) α} {n : ℕ} (hn : n < 4) {o1 : Fin 1 → ℕ} (h1 : o1 = ![(grp c ⟨n, hn⟩).val])
    {b1 : ∀ a : Fin S4.rank, o1 a + S1.size a ≤ S4.size a} {sp sp' : Space} {s : Memref sig .tc sp S1024x2048 .i8} {d : Memref sig .tc sp' S1024x2048 .i8} {hs} {hd}
    (h : iprop(records m K ∗ (Ow c 0 ∗ Wv m c (n + 1)) ∗ R) ⊢ wp frame (wpE (defs₀ (F := F)) 𝒱₀ (c : Thread nD τ) none) Set.univ (k ⟨⟩) Q) :
    iprop(records m K ∗ (Ow c 0 ∗ Wv m c n) ∗ R) ⊢ wp frame (wpE (defs₀ (F := F)) 𝒱₀ (c : Thread nD τ) none) Set.univ (.op (.waitDma2 ((cc0_scratch4.slice (Rect.unit (s := S4) o1 S1.size b1)).squeeze S_ squeezes_S1_S_).sem s d hs hd) k) Q := by
  iintro ⟨#HR, H, HF⟩
  iapply (w_step m K c hn h1) $$ [H]
  · isplitr; · iexact HR
    iexact H
  iintro H
  iapply h
  isplitr; · iexact HR
  isplitl [H]; · iexact H
  iexact HF

/-- A wait for a reading end at the head of a program. -/
theorem sendw_chain {α : Type} {Q : α → sProp 𝕄} {R : sProp 𝕄} {k : PUnit → Prog (TpuEff nD τ sig (Elt F) Λ₀ .tc) α} {n : ℕ} (hn : n < 32) {o1 : Fin 1 → ℕ} (h1 : o1 = ![(sendPeer c ⟨n, hn⟩).val])
    {b1 : ∀ a : Fin S32.rank, o1 a + S1.size a ≤ S32.size a} {sp sp' : Space} {s : Memref sig .tc sp S128x128 .i8} {d : Memref sig .tc sp' S128x128 .i8} {hs} {hd}
    (h : iprop(records m K ∗ Sv m c (n + 1) ∗ R) ⊢ wp frame (wpE (defs₀ (F := F)) 𝒱₀ (c : Thread nD τ) none) Set.univ (k ⟨⟩) Q) :
    iprop(records m K ∗ Sv m c n ∗ R) ⊢ wp frame (wpE (defs₀ (F := F)) 𝒱₀ (c : Thread nD τ) none) Set.univ (.op (.waitDma2 ((cc0_scratch2.slice (Rect.unit (s := S32) o1 S1.size b1)).squeeze S_ squeezes_S1_S_).sem s d hs hd) k) Q := by
  iintro ⟨#HR, H, HF⟩
  iapply (sendw_step m K c hn h1) $$ [H]
  · isplitr; · iexact HR
    iexact H
  iintro H
  iapply h
  isplitr; · iexact HR
  isplitl [H]; · iexact H
  iexact HF

/-- A load of the `t`-th step's columns of the gathered block. -/
theorem loadg_chain {α : Type} {Q : α → sProp 𝕄} {R : sProp 𝕄} {k : Vec F S128x1024 .i8 → Prog (TpuEff nD τ sig (Elt F) Λ₀ .tc) α} (t : Fin 4) {n : ℕ} (hn : n = 8 * t.val + 8) {o : Fin 2 → ℕ} (ho : o = ![0, 1024 * (grp c t).val]) {b : ∀ a : Fin S128x4096.rank, o a + S128x1024.size a ≤ S128x4096.size a} {hl}
    (h : iprop(records m K ∗ (((c : Thread nD τ).loc cc0_scratch0) ↦[got c n]{fullShare} (XG m c)) ∗ R) ⊢ wp frame (wpE (defs₀ (F := F)) 𝒱₀ (c : Thread nD τ) none) Set.univ (k (xgl m c (grp c t))) Q) :
    iprop(records m K ∗ (((c : Thread nD τ).loc cc0_scratch0) ↦[got c n]{fullShare} (XG m c)) ∗ R) ⊢ wp frame (wpE (defs₀ (F := F)) 𝒱₀ (c : Thread nD τ) none) Set.univ (.op (.load gM (Rect.unit (s := S128x4096) o S128x1024.size b).toLoadRect hl) k) Q := by
  have hs : (gM).view.setOn ((Rect.unit (s := S128x4096) o S128x1024.size b)).toLoadRect.set ⊆ got c n := by
    intro i hi; obtain ⟨j, hj, rfl⟩ := Finset.mem_map.mp hi
    exact load_got c t hn ho hj
  subst ho
  iintro ⟨#HR, H, HF⟩
  iapply (wp_load 𝒱₀ (c : Thread nD τ) none Set.univ (m := gM) hs) $$ H
  iintro H
  iapply h
  isplitr; · iexact HR
  isplitl [H]; · iexact H
  iexact HF

/-- A load of the `t`-th step's rows of the weights. -/
theorem loadw_chain {α : Type} {Q : α → sProp 𝕄} {R : sProp 𝕄} {k : Vec F S1024x2048 .i8 → Prog (TpuEff nD τ sig (Elt F) Λ₀ .tc) α} (t : Fin 4) {n : ℕ} (hn : n = t.val + 1) {o : Fin 2 → ℕ} (ho : o = ![1024 * (grp c t).val, 0]) {b : ∀ a : Fin S4096x2048.rank, o a + S1024x2048.size a ≤ S4096x2048.size a} {hl}
    (h : iprop(records m K ∗ (((c : Thread nD τ).loc cc0_scratch1) ↦[wgot c n]{fullShare} (W m c)) ∗ R) ⊢ wp frame (wpE (defs₀ (F := F)) 𝒱₀ (c : Thread nD τ) none) Set.univ (k (wl m c (grp c t))) Q) :
    iprop(records m K ∗ (((c : Thread nD τ).loc cc0_scratch1) ↦[wgot c n]{fullShare} (W m c)) ∗ R) ⊢ wp frame (wpE (defs₀ (F := F)) 𝒱₀ (c : Thread nD τ) none) Set.univ (.op (.load wM (Rect.unit (s := S4096x2048) o S1024x2048.size b).toLoadRect hl) k) Q := by
  have hs : (wM).view.setOn ((Rect.unit (s := S4096x2048) o S1024x2048.size b)).toLoadRect.set ⊆ wgot c n := by
    intro i hi; obtain ⟨j, hj, rfl⟩ := Finset.mem_map.mp hi
    exact load_wgot c t hn ho hj
  subst ho
  iintro ⟨#HR, H, HF⟩
  iapply (wp_load 𝒱₀ (c : Thread nD τ) none Set.univ (m := wM) hs) $$ H
  iintro H
  iapply h
  isplitr; · iexact HR
  isplitl [H]; · iexact H
  iexact HF

theorem hz : (![0, 0] : Fin 2 → Nat) = fun _ => 0 := funext fun a => by fin_cases a <;> rfl
theorem hz1 : (![0] : Fin 1 → Nat) = fun _ => 0 := funext fun a => by fin_cases a; rfl

/-- A load of the whole accumulator. -/
theorem loada_chain {α : Type} {Q : α → sProp 𝕄} {R : sProp 𝕄} {k : Vec F S128x2048 .i32 → Prog (TpuEff nD τ sig (Elt F) Λ₀ .tc) α} (f : S128x2048.Idx → Elt F .i32) {hl}
    (h : iprop(records m K ∗ Ac c f ∗ R) ⊢ wp frame (wpE (defs₀ (F := F)) 𝒱₀ (c : Thread nD τ) none) Set.univ (k f) Q) :
    iprop(records m K ∗ Ac c f ∗ R) ⊢ wp frame (wpE (defs₀ (F := F)) 𝒱₀ (c : Thread nD τ) none) Set.univ
      (.op (.load aM (Rect.unit (s := S128x2048) ![0, 0] S128x2048.size inb_S128x2048_S128x2048_0_0).toLoadRect hl) k) Q := by
  have e : (aM).view.readAt (Elt F) (Rect.unit (s := S128x2048) ![0, 0] S128x2048.size inb_S128x2048_S128x2048_0_0).toLoadRect f = f :=
    Memref.readAt_unit_zero (Elt F) cc0_scratch5 hz inb_S128x2048_S128x2048_0_0 f
  unfold Ac at h ⊢
  iintro ⟨#HR, H, HF⟩
  iapply (wp_load 𝒱₀ (c : Thread nD τ) none Set.univ (m := aM) (Finset.subset_univ _)) $$ H
  iintro H
  rw [e]
  iapply h
  isplitr; · iexact HR
  isplitl [H]; · iexact H
  iexact HF

/-- A store to the whole accumulator. -/
theorem storea_chain {α : Type} {Q : α → sProp 𝕄} {R : sProp 𝕄} {k : PUnit → Prog (TpuEff nD τ sig (Elt F) Λ₀ .tc) α} (f w : S128x2048.Idx → Elt F .i32) {hx} {hm}
    (h : iprop(records m K ∗ Ac c w ∗ R) ⊢ wp frame (wpE (defs₀ (F := F)) 𝒱₀ (c : Thread nD τ) none) Set.univ (k ⟨⟩) Q) :
    iprop(records m K ∗ Ac c f ∗ R) ⊢ wp frame (wpE (defs₀ (F := F)) 𝒱₀ (c : Thread nD τ) none) Set.univ
      (.op (.store aM (Rect.unit (s := S128x2048) ![0, 0] S128x2048.size inb_S128x2048_S128x2048_0_0) w Finset.univ hx hm) k) Q := by
  have e : View.write (Elt F) ((aM).access (Rect.unit (s := S128x2048) ![0, 0] S128x2048.size inb_S128x2048_S128x2048_0_0)) f w Finset.univ = w :=
    Memref.write_access_unit_zero_univ (Elt F) cc0_scratch5 hz inb_S128x2048_S128x2048_0_0 f w
  unfold Ac at h ⊢
  iintro ⟨#HR, H, HF⟩
  iapply (wp_store 𝒱₀ (c : Thread nD τ) none Set.univ (m := aM) (r := Rect.unit (s := S128x2048) ![0, 0] S128x2048.size inb_S128x2048_S128x2048_0_0) (Mk := Finset.univ) (Finset.subset_univ _)) $$ H
  iintro H
  rw [e]
  iapply h
  isplitr; · iexact HR
  isplitl [H]; · iexact H
  iexact HF

/-- A load of the whole output buffer, whatever it holds. -/
theorem loado_chain {α : Type} {Q : α → sProp 𝕄} {R : sProp 𝕄} {k : Vec F S128x2048 .f32 → Prog (TpuEff nD τ sig (Elt F) Λ₀ .tc) α} (f : S128x2048.Idx → Elt F .f32) {hl}
    (h : ∀ v, iprop(records m K ∗ Out c f ∗ R) ⊢ wp frame (wpE (defs₀ (F := F)) 𝒱₀ (c : Thread nD τ) none) Set.univ (k v) Q) :
    iprop(records m K ∗ Out c f ∗ R) ⊢ wp frame (wpE (defs₀ (F := F)) 𝒱₀ (c : Thread nD τ) none) Set.univ
      (.op (.load oM (Rect.unit (s := S128x2048) ![0, 0] S128x2048.size inb_S128x2048_S128x2048_0_0).toLoadRect hl) k) Q := by
  unfold Out at h ⊢
  iintro ⟨#HR, H, HF⟩
  iapply (wp_load 𝒱₀ (c : Thread nD τ) none Set.univ (m := oM) (Finset.subset_univ _)) $$ H
  iintro H
  iapply (h _)
  isplitr; · iexact HR
  isplitl [H]; · iexact H
  iexact HF

/-- A store to the whole output buffer. -/
theorem storeo_chain {α : Type} {Q : α → sProp 𝕄} {R : sProp 𝕄} {k : PUnit → Prog (TpuEff nD τ sig (Elt F) Λ₀ .tc) α} (f w : S128x2048.Idx → Elt F .f32) {hx} {hm}
    (h : iprop(records m K ∗ Out c w ∗ R) ⊢ wp frame (wpE (defs₀ (F := F)) 𝒱₀ (c : Thread nD τ) none) Set.univ (k ⟨⟩) Q) :
    iprop(records m K ∗ Out c f ∗ R) ⊢ wp frame (wpE (defs₀ (F := F)) 𝒱₀ (c : Thread nD τ) none) Set.univ
      (.op (.store oM (Rect.unit (s := S128x2048) ![0, 0] S128x2048.size inb_S128x2048_S128x2048_0_0) w Finset.univ hx hm) k) Q := by
  have e : View.write (Elt F) ((oM).access (Rect.unit (s := S128x2048) ![0, 0] S128x2048.size inb_S128x2048_S128x2048_0_0)) f w Finset.univ = w :=
    Memref.write_access_unit_zero_univ (Elt F) cc0_stg3_0 hz inb_S128x2048_S128x2048_0_0 f w
  unfold Out at h ⊢
  iintro ⟨#HR, H, HF⟩
  iapply (wp_store 𝒱₀ (c : Thread nD τ) none Set.univ (m := oM) (r := Rect.unit (s := S128x2048) ![0, 0] S128x2048.size inb_S128x2048_S128x2048_0_0) (Mk := Finset.univ) (Finset.subset_univ _)) $$ H
  iintro H
  rw [e]
  iapply h
  isplitr; · iexact HR
  isplitl [H]; · iexact H
  iexact HF

/-- Loads of the two scales. -/
theorem loads1_chain {α : Type} {Q : α → sProp 𝕄} {R : sProp 𝕄} {k : Elt F .f32 → Prog (TpuEff nD τ sig (Elt F) Λ₀ .tc) α} {hw} {x}
    (h : iprop(records m K ∗ Sc m c ∗ R) ⊢ wp frame (wpE (defs₀ (F := F)) 𝒱₀ (c : Thread nD τ) none) Set.univ (k (SX m c ix1)) Q) :
    iprop(records m K ∗ Sc m c ∗ R) ⊢ wp frame (wpE (defs₀ (F := F)) 𝒱₀ (c : Thread nD τ) none) Set.univ
      (smemLoadElt sxM (Rect.unit (s := S1) ![0] S1.size inb_S1_S1_0) hw x k) Q := by
  have e : View.read (Elt F) ((sxM).access (Rect.unit (s := S1) ![0] S1.size inb_S1_S1_0)) (SX m c) x = SX m c x :=
    congrFun (Memref.read_access_unit_zero (Elt F) cc0_stg1_0 hz1 inb_S1_S1_0 (SX m c)) x
  have ex : x = ix1 := ix1_eq x
  unfold Sc at h ⊢
  iintro ⟨#HR, ⟨H, H'⟩, HF⟩
  iapply (wp_smemLoadElt 𝒱₀ (c : Thread nD τ) none Set.univ (m := sxM) (r := Rect.unit (s := S1) ![0] S1.size inb_S1_S1_0) (Finset.subset_univ _)) $$ H
  iintro H
  rw [e, ex]
  iapply h
  isplitr; · iexact HR
  isplitr [HF]
  · isplitl [H]; · iexact H
    iexact H'
  iexact HF
theorem loads2_chain {α : Type} {Q : α → sProp 𝕄} {R : sProp 𝕄} {k : Elt F .f32 → Prog (TpuEff nD τ sig (Elt F) Λ₀ .tc) α} {hw} {x}
    (h : iprop(records m K ∗ Sc m c ∗ R) ⊢ wp frame (wpE (defs₀ (F := F)) 𝒱₀ (c : Thread nD τ) none) Set.univ (k (SW m c ix1)) Q) :
    iprop(records m K ∗ Sc m c ∗ R) ⊢ wp frame (wpE (defs₀ (F := F)) 𝒱₀ (c : Thread nD τ) none) Set.univ
      (smemLoadElt swM (Rect.unit (s := S1) ![0] S1.size inb_S1_S1_0) hw x k) Q := by
  have e : View.read (Elt F) ((swM).access (Rect.unit (s := S1) ![0] S1.size inb_S1_S1_0)) (SW m c) x = SW m c x :=
    congrFun (Memref.read_access_unit_zero (Elt F) cc0_stg2_0 hz1 inb_S1_S1_0 (SW m c)) x
  have ex : x = ix1 := ix1_eq x
  unfold Sc at h ⊢
  iintro ⟨#HR, ⟨H', H⟩, HF⟩
  iapply (wp_smemLoadElt 𝒱₀ (c : Thread nD τ) none Set.univ (m := swM) (r := Rect.unit (s := S1) ![0] S1.size inb_S1_S1_0) (Finset.subset_univ _)) $$ H
  iintro H
  rw [e, ex]
  iapply h
  isplitr; · iexact HR
  isplitr [HF]
  · isplitl [H']; · iexact H'
    iexact H
  iexact HF

/-- The read of a scale, as the kernel writes it. -/
theorem smem1_chain {α : Type} {Q : α → sProp 𝕄} {R : sProp 𝕄} {k : Elt F .f32 → Prog (TpuEff nD τ sig (Elt F) Λ₀ .tc) α} {hp}
    (h : iprop(records m K ∗ Sc m c ∗ R) ⊢ wp frame (wpE (defs₀ (F := F)) 𝒱₀ (c : Thread nD τ) none) Set.univ (k (SX m c ix1)) Q) :
    iprop(records m K ∗ Sc m c ∗ R) ⊢ wp frame (wpE (defs₀ (F := F)) 𝒱₀ (c : Thread nD τ) none) Set.univ
      (smemLoad sxM (Rect.unit (s := S1) ![0] S1.size inb_S1_S1_0) numel1_S1 hp >>= k) Q := by
  unfold smemLoad
  exact loads1_chain m K c (hw := View.loads_smem_one hp numel1_S1) h

/-- The read of a scale, as the kernel writes it. -/
theorem smem2_chain {α : Type} {Q : α → sProp 𝕄} {R : sProp 𝕄} {k : Elt F .f32 → Prog (TpuEff nD τ sig (Elt F) Λ₀ .tc) α} {hp}
    (h : iprop(records m K ∗ Sc m c ∗ R) ⊢ wp frame (wpE (defs₀ (F := F)) 𝒱₀ (c : Thread nD τ) none) Set.univ (k (SW m c ix1)) Q) :
    iprop(records m K ∗ Sc m c ∗ R) ⊢ wp frame (wpE (defs₀ (F := F)) 𝒱₀ (c : Thread nD τ) none) Set.univ
      (smemLoad swM (Rect.unit (s := S1) ![0] S1.size inb_S1_S1_0) numel1_S1 hp >>= k) Q := by
  unfold smemLoad
  exact loads2_chain m K c (hw := View.loads_smem_one hp numel1_S1) h

/-- A part of the kernel ends: the rest goes on from what it leaves. -/
theorem fin_chain {α : Type} {Q : α → sProp 𝕄} {S : sProp 𝕄} (r : α) :
    iprop(records m K ∗ S ∗ (∀ r, S -∗ Q r)) ⊢ wp frame (wpE (defs₀ (F := F)) 𝒱₀ (c : Thread nD τ) none) Set.univ (.ret r) Q := by
  iintro ⟨-, H, HF⟩
  rw [wp_ret]; imodintro
  iapply HF; iexact H

/-- A part of the kernel, then the rest. -/
theorem seq_chain {α β : Type} {Q : β → sProp 𝕄} {S S' R : sProp 𝕄} {p : Prog (TpuEff nD τ sig (Elt F) Λ₀ .tc) α} {k : α → Prog (TpuEff nD τ sig (Elt F) Λ₀ .tc) β}
    (hp : ∀ Q : α → sProp 𝕄, iprop(records m K ∗ S ∗ (∀ r, S' -∗ Q r)) ⊢ wp frame (wpE (defs₀ (F := F)) 𝒱₀ (c : Thread nD τ) none) Set.univ p Q)
    (h : ∀ r, iprop(records m K ∗ S' ∗ R) ⊢ wp frame (wpE (defs₀ (F := F)) 𝒱₀ (c : Thread nD τ) none) Set.univ (k r) Q) :
    iprop(records m K ∗ S ∗ R) ⊢ wp frame (wpE (defs₀ (F := F)) 𝒱₀ (c : Thread nD τ) none) Set.univ (p >>= k) Q := by
  rw [wp_bind]
  iintro ⟨#HR, H, HF⟩
  iapply (hp _)
  isplitr; · iexact HR
  isplitl [H]; · iexact H
  iintro %r H
  iapply (h r)
  isplitr; · iexact HR
  isplitl [H]; · iexact H
  iexact HF

/-- A part of the kernel whose result is known, then the rest. -/
theorem seqp_chain {α β : Type} {Q : β → sProp 𝕄} {S S' R : sProp 𝕄} {φ : α → Prop} {p : Prog (TpuEff nD τ sig (Elt F) Λ₀ .tc) α} {k : α → Prog (TpuEff nD τ sig (Elt F) Λ₀ .tc) β}
    (hp : ∀ Q : α → sProp 𝕄, iprop(records m K ∗ S ∗ (∀ r, ⌜φ r⌝ -∗ S' -∗ Q r)) ⊢ wp frame (wpE (defs₀ (F := F)) 𝒱₀ (c : Thread nD τ) none) Set.univ p Q)
    (h : ∀ r, φ r → iprop(records m K ∗ S' ∗ R) ⊢ wp frame (wpE (defs₀ (F := F)) 𝒱₀ (c : Thread nD τ) none) Set.univ (k r) Q) :
    iprop(records m K ∗ S ∗ R) ⊢ wp frame (wpE (defs₀ (F := F)) 𝒱₀ (c : Thread nD τ) none) Set.univ (p >>= k) Q := by
  rw [wp_bind]
  iintro ⟨#HR, H, HF⟩
  iapply (hp _)
  isplitr; · iexact HR
  isplitl [H]; · iexact H
  iintro %r %hr H
  iapply (h r hr)
  isplitr; · iexact HR
  isplitl [H]; · iexact H
  iexact HF

/-- What the device holds, put another way. -/
theorem re_chain {S S' G : sProp 𝕄} (e : S ⊢ S') (h : iprop(records m K ∗ S') ⊢ G) : iprop(records m K ∗ S) ⊢ G :=
  (sep_mono_right e).trans h

end Chains

end Cert.KernelIdeal.Proto

end
-- ==== Proof.KernelIdealPartsA.lean ====
/-
# The kernel's parts: the barrier

Each theorem walks one part of the kernel: what the device holds before it and after it.  Here the parts that signal the
barrier, wait at it and start the copies of the weights.
-/
module

public import proofs.«01_k».proof.Proof.KernelIdealChains

@[expose] public section

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.RefSig (tileCredit)

variable {F : FTy → Type} [FloatOps F]

local notation "𝕄" => MT nD τ sig Unit (Elt F) ℕ UU ℕ

variable (m : (ℓ : Loc nD τ sig) → Buf (Elt F) ℓ) (ρ : Dev nD → PrngReg)

/-- A part of the kernel: from `S` it comes to `S'`, whatever follows. -/
def Part {α : Type} (K : Dev nD × CK → ℕ) (c : Dev nD) (S S' : sProp 𝕄) (p : Prog (TpuEff nD τ sig (Elt F) Λ₀ .tc) α) : Prop :=
  ∀ Q : α → sProp 𝕄, iprop(records m K ∗ S ∗ (∀ r, S' -∗ Q r)) ⊢ wp frame (wpE (defs₀ (F := F)) 𝒱₀ (c : Thread nD τ) none) Set.univ p Q

section Parts

variable (K : Dev nD × CK → ℕ) (c : Dev nD)
variable (hx : (xM).IsWhole) (hh : (hM).IsWhole) (h1 : (sxM).IsWhole) (h2 : (swM).IsWhole) (ho : (oM).IsWhole)
  (hg : (gM).IsWhole) (hw : (wM).IsWhole) (ha : (aM).IsWhole)

/-! ## The barrier's signals and wait, and the copies of the weights -/

/-- The first part also names the device and the barrier's semaphore. -/
theorem part1 (Q : _ → sProp 𝕄) :
    iprop(records m K ∗ Sg (F := F) c 1 ∗ (∀ r, ⌜r.1 = c ∧ r.2.2.2.1 = SemArray.scalar (sig.barrier 0 rfl)⌝ -∗ Sg (F := F) c 2 -∗ Q r))
      ⊢ wp frame (wpE (defs₀ (F := F)) 𝒱₀ (c : Thread nD τ) none) Set.univ (k0_part1 (F := F) xM hx hM hh sxM h1 swM h2 oM ho gM hg wM hw cc0_scratch2 cc0_scratch3 cc0_scratch4 aM ha) Q := by
  rw [k0_part1_eq_skeleton]; unfold k0_part1_skel; simp only [semSignalWord, semWaitWord, Prog.lift, Prog.bind_op, Prog.bind_ret, Prog.pure_eq_ret, wp_deviceId]
  refine sig_chain m K c (by decide : 1 < 32) (by decide) _ (Fin.ext (sigDevs_eq c 0)) ?_
  iintro ⟨-, H, HF⟩
  rw [wp_ret]; imodintro
  iapply HF $$ %_ [] H
  ipureintro; exact ⟨rfl, rfl⟩

theorem part2 {v2 : BitVec 32} {v34 : BitVec 32} {c32_i32_15 : BitVec 32} {v35 : BitVec 1} :
    Part m K c (Sg (F := F) c 2) (Sg (F := F) c 4) (k0_part2 (F := F) xM hx hM hh sxM h1 swM h2 oM ho gM hg wM hw cc0_scratch2 cc0_scratch3 cc0_scratch4 aM ha c v2 (SemArray.scalar (sig.barrier 0 rfl)) v34 c32_i32_15 v35) := by
  rw [k0_part2_eq_skeleton]; unfold k0_part2_skel Part; simp only [semSignalWord, semWaitWord, Prog.lift, Prog.bind_op, Prog.bind_ret, Prog.pure_eq_ret]; intro Q
  refine sig_chain m K c (by decide : 2 < 32) (by decide) _ (Fin.ext (sigDevs_eq c 1)) ?_
  refine sig_chain m K c (by decide : 3 < 32) (by decide) _ (Fin.ext (sigDevs_eq c 2)) ?_
  exact fin_chain m K c _

theorem part3 {v2 : BitVec 32} {v63 : BitVec 32} {v68 : BitVec 1} {v69 : BitVec 32} :
    Part m K c (Sg (F := F) c 4) (Sg (F := F) c 7) (k0_part3 (F := F) xM hx hM hh sxM h1 swM h2 oM ho gM hg wM hw cc0_scratch2 cc0_scratch3 cc0_scratch4 aM ha c v2 (SemArray.scalar (sig.barrier 0 rfl)) v63 v68 v69) := by
  rw [k0_part3_eq_skeleton]; unfold k0_part3_skel Part; simp only [semSignalWord, semWaitWord, Prog.lift, Prog.bind_op, Prog.bind_ret, Prog.pure_eq_ret]; intro Q
  refine sig_chain m K c (by decide : 4 < 32) (by decide) _ (Fin.ext (sigDevs_eq c 3)) ?_
  refine sig_chain m K c (by decide : 5 < 32) (by decide) _ (Fin.ext (sigDevs_eq c 4)) ?_
  refine sig_chain m K c (by decide : 6 < 32) (by decide) _ (Fin.ext (sigDevs_eq c 5)) ?_
  exact fin_chain m K c _

theorem part4 {v2 : BitVec 32} {v99 : BitVec 32} {c32_i32_60 : BitVec 32} {v100 : BitVec 1} :
    Part m K c (Sg (F := F) c 7) (Sg (F := F) c 9) (k0_part4 (F := F) xM hx hM hh sxM h1 swM h2 oM ho gM hg wM hw cc0_scratch2 cc0_scratch3 cc0_scratch4 aM ha c v2 (SemArray.scalar (sig.barrier 0 rfl)) v99 c32_i32_60 v100) := by
  rw [k0_part4_eq_skeleton]; unfold k0_part4_skel Part; simp only [semSignalWord, semWaitWord, Prog.lift, Prog.bind_op, Prog.bind_ret, Prog.pure_eq_ret]; intro Q
  refine sig_chain m K c (by decide : 7 < 32) (by decide) _ (Fin.ext (sigDevs_eq c 6)) ?_
  refine sig_chain m K c (by decide : 8 < 32) (by decide) _ (Fin.ext (sigDevs_eq c 7)) ?_
  exact fin_chain m K c _

theorem part5 {v2 : BitVec 32} {v128 : BitVec 32} {v133 : BitVec 1} {v134 : BitVec 32} :
    Part m K c (Sg (F := F) c 9) (Sg (F := F) c 12) (k0_part5 (F := F) xM hx hM hh sxM h1 swM h2 oM ho gM hg wM hw cc0_scratch2 cc0_scratch3 cc0_scratch4 aM ha c v2 (SemArray.scalar (sig.barrier 0 rfl)) v128 v133 v134) := by
  rw [k0_part5_eq_skeleton]; unfold k0_part5_skel Part; simp only [semSignalWord, semWaitWord, Prog.lift, Prog.bind_op, Prog.bind_ret, Prog.pure_eq_ret]; intro Q
  refine sig_chain m K c (by decide : 9 < 32) (by decide) _ (Fin.ext (sigDevs_eq c 8)) ?_
  refine sig_chain m K c (by decide : 10 < 32) (by decide) _ (Fin.ext (sigDevs_eq c 9)) ?_
  refine sig_chain m K c (by decide : 11 < 32) (by decide) _ (Fin.ext (sigDevs_eq c 10)) ?_
  exact fin_chain m K c _

theorem part6 {v2 : BitVec 32} {v164 : BitVec 32} {c32_i32_106 : BitVec 32} {v165 : BitVec 1} :
    Part m K c (Sg (F := F) c 12) (Sg (F := F) c 14) (k0_part6 (F := F) xM hx hM hh sxM h1 swM h2 oM ho gM hg wM hw cc0_scratch2 cc0_scratch3 cc0_scratch4 aM ha c v2 (SemArray.scalar (sig.barrier 0 rfl)) v164 c32_i32_106 v165) := by
  rw [k0_part6_eq_skeleton]; unfold k0_part6_skel Part; simp only [semSignalWord, semWaitWord, Prog.lift, Prog.bind_op, Prog.bind_ret, Prog.pure_eq_ret]; intro Q
  refine sig_chain m K c (by decide : 12 < 32) (by decide) _ (Fin.ext (sigDevs_eq c 11)) ?_
  refine sig_chain m K c (by decide : 13 < 32) (by decide) _ (Fin.ext (sigDevs_eq c 12)) ?_
  exact fin_chain m K c _

theorem part7 {v2 : BitVec 32} {v193 : BitVec 32} {v198 : BitVec 1} {v199 : BitVec 32} :
    Part m K c (Sg (F := F) c 14) (Sg (F := F) c 17) (k0_part7 (F := F) xM hx hM hh sxM h1 swM h2 oM ho gM hg wM hw cc0_scratch2 cc0_scratch3 cc0_scratch4 aM ha c v2 (SemArray.scalar (sig.barrier 0 rfl)) v193 v198 v199) := by
  rw [k0_part7_eq_skeleton]; unfold k0_part7_skel Part; simp only [semSignalWord, semWaitWord, Prog.lift, Prog.bind_op, Prog.bind_ret, Prog.pure_eq_ret]; intro Q
  refine sig_chain m K c (by decide : 14 < 32) (by decide) _ (Fin.ext (sigDevs_eq c 13)) ?_
  refine sig_chain m K c (by decide : 15 < 32) (by decide) _ (Fin.ext (sigDevs_eq c 14)) ?_
  refine sig_chain m K c (by decide : 16 < 32) (by decide) _ (Fin.ext (sigDevs_eq c 15)) ?_
  exact fin_chain m K c _

theorem part8 {v2 : BitVec 32} {v229 : BitVec 32} {c32_i32_151 : BitVec 32} {v230 : BitVec 1} :
    Part m K c (Sg (F := F) c 17) (Sg (F := F) c 19) (k0_part8 (F := F) xM hx hM hh sxM h1 swM h2 oM ho gM hg wM hw cc0_scratch2 cc0_scratch3 cc0_scratch4 aM ha c v2 (SemArray.scalar (sig.barrier 0 rfl)) v229 c32_i32_151 v230) := by
  rw [k0_part8_eq_skeleton]; unfold k0_part8_skel Part; simp only [semSignalWord, semWaitWord, Prog.lift, Prog.bind_op, Prog.bind_ret, Prog.pure_eq_ret]; intro Q
  refine sig_chain m K c (by decide : 17 < 32) (by decide) _ (Fin.ext (sigDevs_eq c 16)) ?_
  refine sig_chain m K c (by decide : 18 < 32) (by decide) _ (Fin.ext (sigDevs_eq c 17)) ?_
  exact fin_chain m K c _

theorem part9 {v2 : BitVec 32} {v258 : BitVec 32} {v263 : BitVec 1} {v264 : BitVec 32} :
    Part m K c (Sg (F := F) c 19) (Sg (F := F) c 22) (k0_part9 (F := F) xM hx hM hh sxM h1 swM h2 oM ho gM hg wM hw cc0_scratch2 cc0_scratch3 cc0_scratch4 aM ha c v2 (SemArray.scalar (sig.barrier 0 rfl)) v258 v263 v264) := by
  rw [k0_part9_eq_skeleton]; unfold k0_part9_skel Part; simp only [semSignalWord, semWaitWord, Prog.lift, Prog.bind_op, Prog.bind_ret, Prog.pure_eq_ret]; intro Q
  refine sig_chain m K c (by decide : 19 < 32) (by decide) _ (Fin.ext (sigDevs_eq c 18)) ?_
  refine sig_chain m K c (by decide : 20 < 32) (by decide) _ (Fin.ext (sigDevs_eq c 19)) ?_
  refine sig_chain m K c (by decide : 21 < 32) (by decide) _ (Fin.ext (sigDevs_eq c 20)) ?_
  exact fin_chain m K c _

theorem part10 {v2 : BitVec 32} {v294 : BitVec 32} {c32_i32_196 : BitVec 32} {v295 : BitVec 1} :
    Part m K c (Sg (F := F) c 22) (Sg (F := F) c 24) (k0_part10 (F := F) xM hx hM hh sxM h1 swM h2 oM ho gM hg wM hw cc0_scratch2 cc0_scratch3 cc0_scratch4 aM ha c v2 (SemArray.scalar (sig.barrier 0 rfl)) v294 c32_i32_196 v295) := by
  rw [k0_part10_eq_skeleton]; unfold k0_part10_skel Part; simp only [semSignalWord, semWaitWord, Prog.lift, Prog.bind_op, Prog.bind_ret, Prog.pure_eq_ret]; intro Q
  refine sig_chain m K c (by decide : 22 < 32) (by decide) _ (Fin.ext (sigDevs_eq c 21)) ?_
  refine sig_chain m K c (by decide : 23 < 32) (by decide) _ (Fin.ext (sigDevs_eq c 22)) ?_
  exact fin_chain m K c _

theorem part11 {v2 : BitVec 32} {v323 : BitVec 32} {v328 : BitVec 1} {v329 : BitVec 32} :
    Part m K c (Sg (F := F) c 24) (Sg (F := F) c 27) (k0_part11 (F := F) xM hx hM hh sxM h1 swM h2 oM ho gM hg wM hw cc0_scratch2 cc0_scratch3 cc0_scratch4 aM ha c v2 (SemArray.scalar (sig.barrier 0 rfl)) v323 v328 v329) := by
  rw [k0_part11_eq_skeleton]; unfold k0_part11_skel Part; simp only [semSignalWord, semWaitWord, Prog.lift, Prog.bind_op, Prog.bind_ret, Prog.pure_eq_ret]; intro Q
  refine sig_chain m K c (by decide : 24 < 32) (by decide) _ (Fin.ext (sigDevs_eq c 23)) ?_
  refine sig_chain m K c (by decide : 25 < 32) (by decide) _ (Fin.ext (sigDevs_eq c 24)) ?_
  refine sig_chain m K c (by decide : 26 < 32) (by decide) _ (Fin.ext (sigDevs_eq c 25)) ?_
  exact fin_chain m K c _

theorem part12 {v2 : BitVec 32} {v359 : BitVec 32} {c32_i32_241 : BitVec 32} {v360 : BitVec 1} :
    Part m K c (Sg (F := F) c 27) (Sg (F := F) c 29) (k0_part12 (F := F) xM hx hM hh sxM h1 swM h2 oM ho gM hg wM hw cc0_scratch2 cc0_scratch3 cc0_scratch4 aM ha c v2 (SemArray.scalar (sig.barrier 0 rfl)) v359 c32_i32_241 v360) := by
  rw [k0_part12_eq_skeleton]; unfold k0_part12_skel Part; simp only [semSignalWord, semWaitWord, Prog.lift, Prog.bind_op, Prog.bind_ret, Prog.pure_eq_ret]; intro Q
  refine sig_chain m K c (by decide : 27 < 32) (by decide) _ (Fin.ext (sigDevs_eq c 26)) ?_
  refine sig_chain m K c (by decide : 28 < 32) (by decide) _ (Fin.ext (sigDevs_eq c 27)) ?_
  exact fin_chain m K c _

theorem part13 {v2 : BitVec 32} {v388 : BitVec 32} {v393 : BitVec 1} {v394 : BitVec 32} :
    Part m K c iprop(Sg (F := F) c 29 ∗ levAts L lv ∗ cred (tallyAt (barCell c) () 31) ∗ atPos ER (barCell c) 0 ∅ 0) iprop(Ow c (Or' c 0) ∗ semVal (barCell c) 0 ∗ bigSep (Finset.univ.erase c) fun d => gPts d c.val) (k0_part13 (F := F) xM hx hM hh sxM h1 swM h2 oM ho gM hg wM hw cc0_scratch2 cc0_scratch3 cc0_scratch4 aM ha c v2 (SemArray.scalar (sig.barrier 0 rfl)) v388 v393 v394) := by
  rw [k0_part13_eq_skeleton]; unfold k0_part13_skel Part; simp only [semSignalWord, semWaitWord, Prog.lift, Prog.bind_op, Prog.bind_ret, Prog.pure_eq_ret]; intro Q
  refine (sep_mono_right sep_assoc.1).trans ?_
  refine sig_chain m K c (by decide : 29 < 32) (by decide) _ (Fin.ext (sigDevs_eq c 28)) ?_
  refine sig_chain m K c (by decide : 30 < 32) (by decide) _ (Fin.ext (sigDevs_eq c 29)) ?_
  refine sig_chain m K c (by decide : 31 < 32) (by decide) _ (Fin.ext (sigDevs_eq c 30)) ?_
  refine BIBase.Entails.trans ?_ (bar_chain m K c (fin_chain m K c _))
  iintro ⟨HR, HS, ⟨HL, HC, HA⟩, HF⟩
  isplitl [HR]; · iexact HR
  isplitr [HF]
  · isplitl [HL]; · iexact HL
    isplitl [HS]; · iexact HS
    isplitl [HC]; · iexact HC
    iexact HA
  iexact HF

theorem part14 {v19 : BitVec 32} :
    Part m K c (Wc m c 0) (Wc m c 4) (k0_part14 (F := F) xM hx hM hh sxM h1 swM h2 oM ho gM hg wM hw cc0_scratch2 cc0_scratch3 cc0_scratch4 aM ha v19) := by
  rw [k0_part14_eq_skeleton]; unfold k0_part14_skel Part; simp only [semSignalWord, semWaitWord, Prog.lift, Prog.bind_op, Prog.bind_ret, Prog.pure_eq_ret]; intro Q
  refine copy_chain m K c (by decide : 0 < 4) rfl rfl ?_
  refine copy_chain m K c (by decide : 1 < 4) rfl rfl ?_
  refine copy_chain m K c (by decide : 2 < 4) rfl rfl ?_
  refine copy_chain m K c (by decide : 3 < 4) rfl rfl ?_
  exact fin_chain m K c _

end Parts

end Cert.KernelIdeal.Proto

end
-- ==== Proof.KernelIdealPartsB.lean ====
/-
# The kernel's parts: the transfers

The parts that send the blocks of `x`, each from what the device holds before it to what it holds after it.
-/
module

public import proofs.«01_k».proof.Proof.KernelIdealPartsA

@[expose] public section

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.RefSig (tileCredit)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CK → ℕ) (c : Dev nD)
variable (hx : (xM).IsWhole) (hh : (hM).IsWhole) (h1 : (sxM).IsWhole) (h2 : (swM).IsWhole) (ho : (oM).IsWhole)
  (hg : (gM).IsWhole) (hw : (wM).IsWhole) (ha : (aM).IsWhole)

/-! ## The transfers of the blocks of `x` -/

theorem part15 {v2 : BitVec 32} {v450 : BitVec 32} {v452 : BitVec 32} :
    Part m K c (Sn m c 0) (Sn m c 3) (k0_part15 (F := F) xM hx hM hh sxM h1 swM h2 oM ho gM hg wM hw cc0_scratch2 cc0_scratch3 cc0_scratch4 aM ha c v2 v450 v452) := by
  rw [k0_part15_eq_skeleton]; unfold k0_part15_skel Part; simp only [semSignalWord, semWaitWord, Prog.lift, Prog.bind_op, Prog.bind_ret, Prog.pure_eq_ret]; intro Q
  refine send_chain m K c (by decide : 0 < 32) _ (Fin.ext (sendDevs_eq c 0)) (off1_eq c 0 0) (off2_eq c) (off3_eq c) (off4_eq c 0 0) ?_
  refine send_chain m K c (by decide : 1 < 32) _ (Fin.ext (sendDevs_eq c 1)) (off1_eq c 0 1) (off2_eq c) (off3_eq c) (off4_eq c 0 1) ?_
  refine send_chain m K c (by decide : 2 < 32) _ (Fin.ext (sendDevs_eq c 2)) (off1_eq c 0 2) (off2_eq c) (off3_eq c) (off4_eq c 0 2) ?_
  exact fin_chain m K c _

theorem part16 {v2 : BitVec 32} {v450 : BitVec 32} {c8_i32_334 : BitVec 32} :
    Part m K c (Sn m c 3) (Sn m c 5) (k0_part16 (F := F) xM hx hM hh sxM h1 swM h2 oM ho gM hg wM hw cc0_scratch2 cc0_scratch3 cc0_scratch4 aM ha c v2 v450 c8_i32_334) := by
  rw [k0_part16_eq_skeleton]; unfold k0_part16_skel Part; simp only [semSignalWord, semWaitWord, Prog.lift, Prog.bind_op, Prog.bind_ret, Prog.pure_eq_ret]; intro Q
  refine send_chain m K c (by decide : 3 < 32) _ (Fin.ext (sendDevs_eq c 3)) (off1_eq c 0 3) (off2_eq c) (off3_eq c) (off4_eq c 0 3) ?_
  refine send_chain m K c (by decide : 4 < 32) _ (Fin.ext (sendDevs_eq c 4)) (off1_eq c 0 4) (off2_eq c) (off3_eq c) (off4_eq c 0 4) ?_
  exact fin_chain m K c _

theorem part17 {v2 : BitVec 32} {v19 : BitVec 32} {v450 : BitVec 32} :
    Part m K c (Sn m c 5) (Sn m c 8) (k0_part17 (F := F) xM hx hM hh sxM h1 swM h2 oM ho gM hg wM hw cc0_scratch2 cc0_scratch3 cc0_scratch4 aM ha c v2 v19 v450) := by
  rw [k0_part17_eq_skeleton]; unfold k0_part17_skel Part; simp only [semSignalWord, semWaitWord, Prog.lift, Prog.bind_op, Prog.bind_ret, Prog.pure_eq_ret]; intro Q
  refine send_chain m K c (by decide : 5 < 32) _ (Fin.ext (sendDevs_eq c 5)) (off1_eq c 0 5) (off2_eq c) (off3_eq c) (off4_eq c 0 5) ?_
  refine send_chain m K c (by decide : 6 < 32) _ (Fin.ext (sendDevs_eq c 6)) (off1_eq c 0 6) (off2_eq c) (off3_eq c) (off4_eq c 0 6) ?_
  refine send_chain m K c (by decide : 7 < 32) _ (Fin.ext (sendDevs_eq c 7)) (off1_eq c 0 7) (off2_eq c) (off3_eq c) (off4_eq c 0 7) ?_
  exact fin_chain m K c _

theorem part18 {v2 : BitVec 32} {v549 : BitVec 32} {v550 : BitVec 32} {v555 : BitVec 1} :
    Part m K c (Sn m c 8) (Sn m c 10) (k0_part18 (F := F) xM hx hM hh sxM h1 swM h2 oM ho gM hg wM hw cc0_scratch2 cc0_scratch3 cc0_scratch4 aM ha c v2 v549 v550 v555) := by
  rw [k0_part18_eq_skeleton]; unfold k0_part18_skel Part; simp only [semSignalWord, semWaitWord, Prog.lift, Prog.bind_op, Prog.bind_ret, Prog.pure_eq_ret]; intro Q
  refine send_chain m K c (by decide : 8 < 32) _ (Fin.ext (sendDevs_eq c 8)) (off1_eq c 1 0) (off2_eq c) (off3_eq c) (off4_eq c 1 0) ?_
  refine send_chain m K c (by decide : 9 < 32) _ (Fin.ext (sendDevs_eq c 9)) (off1_eq c 1 1) (off2_eq c) (off3_eq c) (off4_eq c 1 1) ?_
  exact fin_chain m K c _

theorem part19 {v2 : BitVec 32} {v557 : BitVec 32} :
    Part m K c (Sn m c 10) (Sn m c 13) (k0_part19 (F := F) xM hx hM hh sxM h1 swM h2 oM ho gM hg wM hw cc0_scratch2 cc0_scratch3 cc0_scratch4 aM ha c v2 v557) := by
  rw [k0_part19_eq_skeleton]; unfold k0_part19_skel Part; simp only [semSignalWord, semWaitWord, Prog.lift, Prog.bind_op, Prog.bind_ret, Prog.pure_eq_ret]; intro Q
  refine send_chain m K c (by decide : 10 < 32) _ (Fin.ext (sendDevs_eq c 10)) (off1_eq c 1 2) (off2_eq c) (off3_eq c) (off4_eq c 1 2) ?_
  refine send_chain m K c (by decide : 11 < 32) _ (Fin.ext (sendDevs_eq c 11)) (off1_eq c 1 3) (off2_eq c) (off3_eq c) (off4_eq c 1 3) ?_
  refine send_chain m K c (by decide : 12 < 32) _ (Fin.ext (sendDevs_eq c 12)) (off1_eq c 1 4) (off2_eq c) (off3_eq c) (off4_eq c 1 4) ?_
  exact fin_chain m K c _

theorem part20 {v2 : BitVec 32} {v19 : BitVec 32} {v557 : BitVec 32} :
    Part m K c (Sn m c 13) (Sn m c 16) (k0_part20 (F := F) xM hx hM hh sxM h1 swM h2 oM ho gM hg wM hw cc0_scratch2 cc0_scratch3 cc0_scratch4 aM ha c v2 v19 v557) := by
  rw [k0_part20_eq_skeleton]; unfold k0_part20_skel Part; simp only [semSignalWord, semWaitWord, Prog.lift, Prog.bind_op, Prog.bind_ret, Prog.pure_eq_ret]; intro Q
  refine send_chain m K c (by decide : 13 < 32) _ (Fin.ext (sendDevs_eq c 13)) (off1_eq c 1 5) (off2_eq c) (off3_eq c) (off4_eq c 1 5) ?_
  refine send_chain m K c (by decide : 14 < 32) _ (Fin.ext (sendDevs_eq c 14)) (off1_eq c 1 6) (off2_eq c) (off3_eq c) (off4_eq c 1 6) ?_
  refine send_chain m K c (by decide : 15 < 32) _ (Fin.ext (sendDevs_eq c 15)) (off1_eq c 1 7) (off2_eq c) (off3_eq c) (off4_eq c 1 7) ?_
  exact fin_chain m K c _

theorem part21 {v2 : BitVec 32} {v656 : BitVec 32} {v657 : BitVec 32} {v658 : BitVec 1} :
    Part m K c (Sn m c 16) (Sn m c 18) (k0_part21 (F := F) xM hx hM hh sxM h1 swM h2 oM ho gM hg wM hw cc0_scratch2 cc0_scratch3 cc0_scratch4 aM ha c v2 v656 v657 v658) := by
  rw [k0_part21_eq_skeleton]; unfold k0_part21_skel Part; simp only [semSignalWord, semWaitWord, Prog.lift, Prog.bind_op, Prog.bind_ret, Prog.pure_eq_ret]; intro Q
  refine send_chain m K c (by decide : 16 < 32) _ (Fin.ext (sendDevs_eq c 16)) (off1_eq c 2 0) (off2_eq c) (off3_eq c) (off4_eq c 2 0) ?_
  refine send_chain m K c (by decide : 17 < 32) _ (Fin.ext (sendDevs_eq c 17)) (off1_eq c 2 1) (off2_eq c) (off3_eq c) (off4_eq c 2 1) ?_
  exact fin_chain m K c _

theorem part22 {v2 : BitVec 32} {v664 : BitVec 32} {v693 : BitVec 32} :
    Part m K c (Sn m c 18) (Sn m c 21) (k0_part22 (F := F) xM hx hM hh sxM h1 swM h2 oM ho gM hg wM hw cc0_scratch2 cc0_scratch3 cc0_scratch4 aM ha c v2 v664 v693) := by
  rw [k0_part22_eq_skeleton]; unfold k0_part22_skel Part; simp only [semSignalWord, semWaitWord, Prog.lift, Prog.bind_op, Prog.bind_ret, Prog.pure_eq_ret]; intro Q
  refine send_chain m K c (by decide : 18 < 32) _ (Fin.ext (sendDevs_eq c 18)) (off1_eq c 2 2) (off2_eq c) (off3_eq c) (off4_eq c 2 2) ?_
  refine send_chain m K c (by decide : 19 < 32) _ (Fin.ext (sendDevs_eq c 19)) (off1_eq c 2 3) (off2_eq c) (off3_eq c) (off4_eq c 2 3) ?_
  refine send_chain m K c (by decide : 20 < 32) _ (Fin.ext (sendDevs_eq c 20)) (off1_eq c 2 4) (off2_eq c) (off3_eq c) (off4_eq c 2 4) ?_
  exact fin_chain m K c _

theorem part23 {v2 : BitVec 32} {v19 : BitVec 32} {v664 : BitVec 32} {v726 : BitVec 32} {c128_i32_495 : BitVec 32} :
    Part m K c (Sn m c 21) (Sn m c 24) (k0_part23 (F := F) xM hx hM hh sxM h1 swM h2 oM ho gM hg wM hw cc0_scratch2 cc0_scratch3 cc0_scratch4 aM ha c v2 v19 v664 v726 c128_i32_495) := by
  rw [k0_part23_eq_skeleton]; unfold k0_part23_skel Part; simp only [semSignalWord, semWaitWord, Prog.lift, Prog.bind_op, Prog.bind_ret, Prog.pure_eq_ret]; intro Q
  refine send_chain m K c (by decide : 21 < 32) _ (Fin.ext (sendDevs_eq c 21)) (off1_eq c 2 5) (off2_eq c) (off3_eq c) (off4_eq c 2 5) ?_
  refine send_chain m K c (by decide : 22 < 32) _ (Fin.ext (sendDevs_eq c 22)) (off1_eq c 2 6) (off2_eq c) (off3_eq c) (off4_eq c 2 6) ?_
  refine send_chain m K c (by decide : 23 < 32) _ (Fin.ext (sendDevs_eq c 23)) (off1_eq c 2 7) (off2_eq c) (off3_eq c) (off4_eq c 2 7) ?_
  exact fin_chain m K c _

theorem part24 {v2 : BitVec 32} {v761 : BitVec 32} {c4_i32_517 : BitVec 32} {c0_i32_518 : BitVec 32} :
    Part m K c (Sn m c 24) (Sn m c 26) (k0_part24 (F := F) xM hx hM hh sxM h1 swM h2 oM ho gM hg wM hw cc0_scratch2 cc0_scratch3 cc0_scratch4 aM ha c v2 v761 c4_i32_517 c0_i32_518) := by
  rw [k0_part24_eq_skeleton]; unfold k0_part24_skel Part; simp only [semSignalWord, semWaitWord, Prog.lift, Prog.bind_op, Prog.bind_ret, Prog.pure_eq_ret]; intro Q
  refine send_chain m K c (by decide : 24 < 32) _ (Fin.ext (sendDevs_eq c 24)) (off1_eq c 3 0) (off2_eq c) (off3_eq c) (off4_eq c 3 0) ?_
  refine send_chain m K c (by decide : 25 < 32) _ (Fin.ext (sendDevs_eq c 25)) (off1_eq c 3 1) (off2_eq c) (off3_eq c) (off4_eq c 3 1) ?_
  exact fin_chain m K c _

theorem part25 {v2 : BitVec 32} {v771 : BitVec 32} {v797 : BitVec 32} :
    Part m K c (Sn m c 26) (Sn m c 29) (k0_part25 (F := F) xM hx hM hh sxM h1 swM h2 oM ho gM hg wM hw cc0_scratch2 cc0_scratch3 cc0_scratch4 aM ha c v2 v771 v797) := by
  rw [k0_part25_eq_skeleton]; unfold k0_part25_skel Part; simp only [semSignalWord, semWaitWord, Prog.lift, Prog.bind_op, Prog.bind_ret, Prog.pure_eq_ret]; intro Q
  refine send_chain m K c (by decide : 26 < 32) _ (Fin.ext (sendDevs_eq c 26)) (off1_eq c 3 2) (off2_eq c) (off3_eq c) (off4_eq c 3 2) ?_
  refine send_chain m K c (by decide : 27 < 32) _ (Fin.ext (sendDevs_eq c 27)) (off1_eq c 3 3) (off2_eq c) (off3_eq c) (off4_eq c 3 3) ?_
  refine send_chain m K c (by decide : 28 < 32) _ (Fin.ext (sendDevs_eq c 28)) (off1_eq c 3 4) (off2_eq c) (off3_eq c) (off4_eq c 3 4) ?_
  exact fin_chain m K c _

theorem part26 {v2 : BitVec 32} {v771 : BitVec 32} {c8_i32_563 : BitVec 32} :
    Part m K c (Sn m c 29) (Sn m c 31) (k0_part26 (F := F) xM hx hM hh sxM h1 swM h2 oM ho gM hg wM hw cc0_scratch2 cc0_scratch3 cc0_scratch4 aM ha c v2 v771 c8_i32_563) := by
  rw [k0_part26_eq_skeleton]; unfold k0_part26_skel Part; simp only [semSignalWord, semWaitWord, Prog.lift, Prog.bind_op, Prog.bind_ret, Prog.pure_eq_ret]; intro Q
  refine send_chain m K c (by decide : 29 < 32) _ (Fin.ext (sendDevs_eq c 29)) (off1_eq c 3 5) (off2_eq c) (off3_eq c) (off4_eq c 3 5) ?_
  refine send_chain m K c (by decide : 30 < 32) _ (Fin.ext (sendDevs_eq c 30)) (off1_eq c 3 6) (off2_eq c) (off3_eq c) (off4_eq c 3 6) ?_
  exact fin_chain m K c _

end Parts

end Cert.KernelIdeal.Proto

end
-- ==== Proof.KernelIdealPartsC.lean ====
/-
# The kernel's parts: the waits and the products

The parts that wait for the blocks of `x` and of the weights, multiply and add them up, write the result, and wait for the
reading ends of the transfers.
-/
module

public import proofs.«01_k».proof.Proof.KernelIdealPartsB

@[expose] public section

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.RefSig (tileCredit)

variable {F : FTy → Type} [FloatOps F]

local notation "𝕄" => MT nD τ sig Unit (Elt F) ℕ UU ℕ

variable (m : (ℓ : Loc nD τ sig) → Buf (Elt F) ℓ) (ρ : Dev nD → PrngReg)

section Parts

variable (K : Dev nD × CK → ℕ) (c : Dev nD)
variable (hx : (xM).IsWhole) (hh : (hM).IsWhole) (h1 : (sxM).IsWhole) (h2 : (swM).IsWhole) (ho : (oM).IsWhole)
  (hg : (gM).IsWhole) (hw : (wM).IsWhole) (ha : (aM).IsWhole)

/-! ## What the device holds while it multiplies -/

/-- The receive waits done, the waits for the weights done, and the accumulator. -/
def St (n w : ℕ) (f : S128x2048.Idx → Elt F .i32) : sProp 𝕄 := iprop(Rv m c n ∗ Wv m c w ∗ Ac c f)

theorem st_r {n w : ℕ} {f : S128x2048.Idx → Elt F .i32} {R : sProp 𝕄} : iprop(St m c n w f ∗ R) ⊢ iprop(Rv m c n ∗ (Wv m c w ∗ Ac c f) ∗ R) := by
  unfold St; exact sep_assoc.1
theorem r_st {n w : ℕ} {f : S128x2048.Idx → Elt F .i32} {R : sProp 𝕄} : iprop(Rv m c n ∗ (Wv m c w ∗ Ac c f) ∗ R) ⊢ iprop(St m c n w f ∗ R) := by
  unfold St; exact sep_assoc.2

/-- The parts of `Rv` but the debt and the landed blocks; the parts of `Wv` but the landed weights. -/
def Rr (n : ℕ) : sProp 𝕄 := iprop(Todo n (recvItem (F := F) c) ∗ Done n (recvdItem (F := F) c))
def Wr (w : ℕ) : sProp 𝕄 := iprop(Todo w (wItem (F := F) c) ∗ Done w (wdItem m c))
abbrev gP (n : ℕ) : sProp 𝕄 := ((c : Thread nD τ).loc cc0_scratch0) ↦[got c n]{fullShare} (XG m c)
abbrev wP (w : ℕ) : sProp 𝕄 := ((c : Thread nD τ).loc cc0_scratch1) ↦[wgot c w]{fullShare} (W m c)

theorem st_w {n w : ℕ} {f : S128x2048.Idx → Elt F .i32} {R : sProp 𝕄} : iprop(St m c n w f ∗ R) ⊢ iprop((Ow c 0 ∗ Wv m c w) ∗ (gP m c n ∗ Rr c n ∗ Ac c f) ∗ R) := by
  unfold St Rv Rr
  iintro ⟨⟨⟨HO, HT, HG, HD⟩, HW, HA⟩, HF⟩
  isplitl [HO HW]
  · isplitl [HO]; · iexact HO
    iexact HW
  isplitr [HF]
  · isplitl [HG]; · iexact HG
    isplitr [HA]
    · isplitl [HT]; · iexact HT
      iexact HD
    iexact HA
  iexact HF
theorem w_st {n w : ℕ} {f : S128x2048.Idx → Elt F .i32} {R : sProp 𝕄} : iprop((Ow c 0 ∗ Wv m c w) ∗ (gP m c n ∗ Rr c n ∗ Ac c f) ∗ R) ⊢ iprop(St m c n w f ∗ R) := by
  unfold St Rv Rr
  iintro ⟨⟨HO, HW⟩, ⟨HG, ⟨HT, HD⟩, HA⟩, HF⟩
  isplitr [HF]
  · isplitr [HW HA]
    · isplitl [HO]; · iexact HO
      isplitl [HT]; · iexact HT
      isplitl [HG]; · iexact HG
      iexact HD
    isplitl [HW]; · iexact HW
    iexact HA
  iexact HF
theorem st_g {n w : ℕ} {f : S128x2048.Idx → Elt F .i32} {R : sProp 𝕄} : iprop(St m c n w f ∗ R) ⊢ iprop(gP m c n ∗ (Rr c n ∗ Ac c f ∗ Ow c 0 ∗ Wv m c w) ∗ R) := by
  refine BIBase.Entails.trans (st_w m c) ?_
  iintro ⟨⟨HO, HW⟩, ⟨HG, HT, HA⟩, HF⟩
  isplitl [HG]; · iexact HG
  isplitr [HF]
  · isplitl [HT]; · iexact HT
    isplitl [HA]; · iexact HA
    isplitl [HO]; · iexact HO
    iexact HW
  iexact HF
theorem g_st {n w : ℕ} {f : S128x2048.Idx → Elt F .i32} {R : sProp 𝕄} : iprop(gP m c n ∗ (Rr c n ∗ Ac c f ∗ Ow c 0 ∗ Wv m c w) ∗ R) ⊢ iprop(St m c n w f ∗ R) := by
  refine BIBase.Entails.trans ?_ (w_st m c)
  iintro ⟨HG, ⟨HT, HA, HO, HW⟩, HF⟩
  isplitl [HO HW]
  · isplitl [HO]; · iexact HO
    iexact HW
  isplitr [HF]
  · isplitl [HG]; · iexact HG
    isplitl [HT]; · iexact HT
    iexact HA
  iexact HF
theorem st_l {n w : ℕ} {f : S128x2048.Idx → Elt F .i32} {R : sProp 𝕄} : iprop(St m c n w f ∗ R) ⊢ iprop(wP m c w ∗ (Wr m c w ∗ Rv m c n ∗ Ac c f) ∗ R) := by
  unfold St Wv Wr
  iintro ⟨⟨HR, ⟨HT, HG, HD⟩, HA⟩, HF⟩
  isplitl [HG]; · iexact HG
  isplitr [HF]
  · isplitl [HT HD]
    · isplitl [HT]; · iexact HT
      iexact HD
    isplitl [HR]; · iexact HR
    iexact HA
  iexact HF
theorem l_st {n w : ℕ} {f : S128x2048.Idx → Elt F .i32} {R : sProp 𝕄} : iprop(wP m c w ∗ (Wr m c w ∗ Rv m c n ∗ Ac c f) ∗ R) ⊢ iprop(St m c n w f ∗ R) := by
  unfold St Wv Wr
  iintro ⟨HG, ⟨⟨HT, HD⟩, HR, HA⟩, HF⟩
  isplitr [HF]
  · isplitl [HR]; · iexact HR
    isplitr [HA]
    · isplitl [HT]; · iexact HT
      isplitl [HG]; · iexact HG
      iexact HD
    iexact HA
  iexact HF
theorem st_a {n w : ℕ} {f : S128x2048.Idx → Elt F .i32} {R : sProp 𝕄} : iprop(St m c n w f ∗ R) ⊢ iprop(Ac c f ∗ (Rv m c n ∗ Wv m c w) ∗ R) := by
  unfold St
  iintro ⟨⟨HR, HW, HA⟩, HF⟩
  isplitl [HA]; · iexact HA
  isplitr [HF]
  · isplitl [HR]; · iexact HR
    iexact HW
  iexact HF
theorem a_st {n w : ℕ} {f : S128x2048.Idx → Elt F .i32} {R : sProp 𝕄} : iprop(Ac c f ∗ (Rv m c n ∗ Wv m c w) ∗ R) ⊢ iprop(St m c n w f ∗ R) := by
  unfold St
  iintro ⟨HA, ⟨HR, HW⟩, HF⟩
  isplitr [HF]
  · isplitl [HR]; · iexact HR
    isplitl [HW]; · iexact HW
    iexact HA
  iexact HF

/-- When the sends are done, the receive waits can begin: nothing is landed yet, and nothing is owed. -/
theorem recv_begin : iprop(Sn m c 32 ∗ Todo 0 (recvItem (F := F) c)) ⊢ iprop(Rv m c 0 ∗ Done 32 (sentItem (F := F) c)) := by
  unfold Sn Rv
  rw [Or_end, got_zero, pointsTo_empty, done_zero]
  iintro ⟨⟨HO, -, HD⟩, HT⟩
  isplitr [HD]
  · isplitl [HO]; · iexact HO
    isplitl [HT]; · iexact HT
    isplitl []; · iempintro
    iempintro
  iexact HD

theorem recvS_chain {n w : ℕ} {f : S128x2048.Idx → Elt F .i32} {R : sProp 𝕄} {α : Type} {Q : α → sProp 𝕄} {k : PUnit → Prog (TpuEff nD τ sig (Elt F) Λ₀ .tc) α}  (hn : n < 32) {o1 : Fin 1 → ℕ} (h1 : o1 = ![(recvSrc c ⟨n, hn⟩).val])
    {b1 : ∀ a : Fin S32.rank, o1 a + S1.size a ≤ S32.size a} {sp sp' : Space} {s : Memref sig .tc sp S128x128 .i8} {d : Memref sig .tc sp' S128x128 .i8} {hs} {hd}
    (h : iprop(records m K ∗ St m c (n + 1) w f ∗ R) ⊢ wp frame (wpE (defs₀ (F := F)) 𝒱₀ (c : Thread nD τ) none) Set.univ (k ⟨⟩) Q) :
    iprop(records m K ∗ St m c n w f ∗ R) ⊢ wp frame (wpE (defs₀ (F := F)) 𝒱₀ (c : Thread nD τ) none) Set.univ (.op (.waitDma2 ((cc0_scratch3.slice (Rect.unit (s := S32) o1 S1.size b1)).squeeze S_ squeezes_S1_S_).sem s d hs hd) k) Q :=
  re_chain m K (st_r m c) (recv_chain m K c hn h1 (re_chain m K (r_st m c) h))

theorem wS_chain {n w : ℕ} {f : S128x2048.Idx → Elt F .i32} {R : sProp 𝕄} {α : Type} {Q : α → sProp 𝕄} {k : PUnit → Prog (TpuEff nD τ sig (Elt F) Λ₀ .tc) α}  (hn : w < 4) {o1 : Fin 1 → ℕ} (h1 : o1 = ![(grp c ⟨w, hn⟩).val])
    {b1 : ∀ a : Fin S4.rank, o1 a + S1.size a ≤ S4.size a} {sp sp' : Space} {s : Memref sig .tc sp S1024x2048 .i8} {d : Memref sig .tc sp' S1024x2048 .i8} {hs} {hd}
    (h : iprop(records m K ∗ St m c n (w + 1) f ∗ R) ⊢ wp frame (wpE (defs₀ (F := F)) 𝒱₀ (c : Thread nD τ) none) Set.univ (k ⟨⟩) Q) :
    iprop(records m K ∗ St m c n w f ∗ R) ⊢ wp frame (wpE (defs₀ (F := F)) 𝒱₀ (c : Thread nD τ) none) Set.univ (.op (.waitDma2 ((cc0_scratch4.slice (Rect.unit (s := S4) o1 S1.size b1)).squeeze S_ squeezes_S1_S_).sem s d hs hd) k) Q :=
  re_chain m K (st_w m c) (w_chain m K c hn h1 (re_chain m K (w_st m c) h))

theorem loadgS_chain {n w : ℕ} {f : S128x2048.Idx → Elt F .i32} {R : sProp 𝕄} {α : Type} {Q : α → sProp 𝕄} {k : Vec F S128x1024 .i8 → Prog (TpuEff nD τ sig (Elt F) Λ₀ .tc) α} (t : Fin 4)  (hn : n = 8 * t.val + 8) {o : Fin 2 → ℕ} (ho : o = ![0, 1024 * (grp c t).val]) {b : ∀ a : Fin S128x4096.rank, o a + S128x1024.size a ≤ S128x4096.size a} {hl}
    (h : iprop(records m K ∗ St m c n w f ∗ R) ⊢ wp frame (wpE (defs₀ (F := F)) 𝒱₀ (c : Thread nD τ) none) Set.univ (k (xgl m c (grp c t))) Q) :
    iprop(records m K ∗ St m c n w f ∗ R) ⊢ wp frame (wpE (defs₀ (F := F)) 𝒱₀ (c : Thread nD τ) none) Set.univ (.op (.load gM (Rect.unit (s := S128x4096) o S128x1024.size b).toLoadRect hl) k) Q :=
  re_chain m K (st_g m c) (loadg_chain m K c t hn ho (re_chain m K (g_st m c) h))

theorem loadwS_chain {n w : ℕ} {f : S128x2048.Idx → Elt F .i32} {R : sProp 𝕄} {α : Type} {Q : α → sProp 𝕄} {k : Vec F S1024x2048 .i8 → Prog (TpuEff nD τ sig (Elt F) Λ₀ .tc) α} (t : Fin 4)  (hn : w = t.val + 1) {o : Fin 2 → ℕ} (ho : o = ![1024 * (grp c t).val, 0]) {b : ∀ a : Fin S4096x2048.rank, o a + S1024x2048.size a ≤ S4096x2048.size a} {hl}
    (h : iprop(records m K ∗ St m c n w f ∗ R) ⊢ wp frame (wpE (defs₀ (F := F)) 𝒱₀ (c : Thread nD τ) none) Set.univ (k (wl m c (grp c t))) Q) :
    iprop(records m K ∗ St m c n w f ∗ R) ⊢ wp frame (wpE (defs₀ (F := F)) 𝒱₀ (c : Thread nD τ) none) Set.univ (.op (.load wM (Rect.unit (s := S4096x2048) o S1024x2048.size b).toLoadRect hl) k) Q :=
  re_chain m K (st_l m c) (loadw_chain m K c t hn ho (re_chain m K (l_st m c) h))

theorem loadaS_chain {n w : ℕ} {f : S128x2048.Idx → Elt F .i32} {R : sProp 𝕄} {α : Type} {Q : α → sProp 𝕄} {k : Vec F S128x2048 .i32 → Prog (TpuEff nD τ sig (Elt F) Λ₀ .tc) α}  {hl}
    (h : iprop(records m K ∗ St m c n w f ∗ R) ⊢ wp frame (wpE (defs₀ (F := F)) 𝒱₀ (c : Thread nD τ) none) Set.univ (k f) Q) :
    iprop(records m K ∗ St m c n w f ∗ R) ⊢ wp frame (wpE (defs₀ (F := F)) 𝒱₀ (c : Thread nD τ) none) Set.univ (.op (.load aM (Rect.unit (s := S128x2048) ![0, 0] S128x2048.size inb_S128x2048_S128x2048_0_0).toLoadRect hl) k) Q :=
  re_chain m K (st_a m c) (loada_chain m K c f (re_chain m K (a_st m c) h))

theorem storeaS_chain {n w : ℕ} {f : S128x2048.Idx → Elt F .i32} {R : sProp 𝕄} {α : Type} {Q : α → sProp 𝕄} {k : PUnit → Prog (TpuEff nD τ sig (Elt F) Λ₀ .tc) α} (v : S128x2048.Idx → Elt F .i32) {hx} {hm}
    (h : iprop(records m K ∗ St m c n w v ∗ R) ⊢ wp frame (wpE (defs₀ (F := F)) 𝒱₀ (c : Thread nD τ) none) Set.univ (k ⟨⟩) Q) :
    iprop(records m K ∗ St m c n w f ∗ R) ⊢ wp frame (wpE (defs₀ (F := F)) 𝒱₀ (c : Thread nD τ) none) Set.univ (.op (.store aM (Rect.unit (s := S128x2048) ![0, 0] S128x2048.size inb_S128x2048_S128x2048_0_0) v Finset.univ hx hm) k) Q :=
  re_chain m K (st_a m c) (storea_chain m K c f v (re_chain m K (a_st m c) h))

/-- The scales and the output buffer to the front. -/
theorem st_out {S O R : sProp 𝕄} (O' : (S128x2048.Idx → Elt F .f32) → sProp 𝕄) :
    iprop(S ∗ (O ∗ ∃ f, O' f) ∗ R) ⊢ iprop(∃ f, O ∗ O' f ∗ S ∗ R) := by
  iintro ⟨HS, ⟨HO, ⟨%f, HF⟩⟩, HR⟩
  iexists f
  isplitl [HO]; · iexact HO
  isplitl [HF]; · iexact HF
  isplitl [HS]; · iexact HS
  iexact HR
theorem out_st {S O O' R : sProp 𝕄} : iprop(O' ∗ (O ∗ S) ∗ R) ⊢ iprop((S ∗ O ∗ O') ∗ R) := by
  iintro ⟨HO', ⟨HO, HS⟩, HR⟩
  isplitr [HR]
  · isplitl [HS]; · iexact HS
    isplitl [HO]; · iexact HO
    iexact HO'
  iexact HR
theorem out_swap {S O O' R : sProp 𝕄} : iprop(O ∗ O' ∗ S ∗ R) ⊢ iprop(O' ∗ (O ∗ S) ∗ R) := by
  iintro ⟨HO, HO', HS, HR⟩
  isplitl [HO']; · iexact HO'
  isplitr [HR]
  · isplitl [HO]; · iexact HO
    iexact HS
  iexact HR
theorem ex_chain {ι : Type} {Φ : ι → sProp 𝕄} {G : sProp 𝕄} (h : ∀ i, iprop(records m K ∗ Φ i) ⊢ G) : iprop(records m K ∗ ∃ i, Φ i) ⊢ G := by
  iintro ⟨HR, ⟨%i, H⟩⟩
  iapply (h i)
  isplitl [HR]; · iexact HR
  iexact H

/-! ## The receive waits and the products -/

theorem part27 {v19 : BitVec 32} :
    Part m K c iprop(Sn m c 31 ∗ Todo 0 (recvItem (F := F) c)) iprop(Rv m c 2 ∗ Done 32 (sentItem (F := F) c)) (k0_part27 (F := F) xM hx hM hh sxM h1 swM h2 oM ho gM hg wM hw cc0_scratch2 cc0_scratch3 cc0_scratch4 aM ha c v19) := by
  rw [k0_part27_eq_skeleton]; unfold k0_part27_skel Part; simp only [semSignalWord, semWaitWord, Prog.lift, Prog.bind_op, Prog.bind_ret, Prog.pure_eq_ret]; intro Q
  refine re_chain m K sep_assoc.1 ?_
  refine send_chain m K c (by decide : 31 < 32) _ (Fin.ext (sendDevs_eq c 31)) (off1_eq c 3 7) (off2_eq c) (off3_eq c) (off4_eq c 3 7) ?_
  refine re_chain m K (sep_assoc.2.trans ((sep_mono_left (recv_begin m c)).trans sep_assoc.1)) ?_
  refine recv_chain m K c (by decide : 0 < 32) (off5_eq c 0 0) ?_
  refine recv_chain m K c (by decide : 1 < 32) (off5_eq c 0 1) ?_
  refine re_chain m K sep_assoc.2 ?_
  exact fin_chain m K c _

theorem part28 {v879 : BitVec 32} :
    Part m K c (Rv m c 2) (Rv m c 5) (k0_part28 (F := F) xM hx hM hh sxM h1 swM h2 oM ho gM hg wM hw cc0_scratch2 cc0_scratch3 cc0_scratch4 aM ha c v879) := by
  rw [k0_part28_eq_skeleton]; unfold k0_part28_skel Part; simp only [semSignalWord, semWaitWord, Prog.lift, Prog.bind_op, Prog.bind_ret, Prog.pure_eq_ret]; intro Q
  refine recv_chain m K c (by decide : 2 < 32) (off5_eq c 0 2) ?_
  refine recv_chain m K c (by decide : 3 < 32) (off5_eq c 0 3) ?_
  refine recv_chain m K c (by decide : 4 < 32) (off5_eq c 0 4) ?_
  exact fin_chain m K c _

theorem part29 {v879 : BitVec 32} {v930 : BitVec 32} {c5_i32_636 : BitVec 32} :
    Part m K c (Rv m c 5) (Rv m c 8) (k0_part29 (F := F) xM hx hM hh sxM h1 swM h2 oM ho gM hg wM hw cc0_scratch2 cc0_scratch3 cc0_scratch4 aM ha c v879 v930 c5_i32_636) := by
  rw [k0_part29_eq_skeleton]; unfold k0_part29_skel Part; simp only [semSignalWord, semWaitWord, Prog.lift, Prog.bind_op, Prog.bind_ret, Prog.pure_eq_ret]; intro Q
  refine recv_chain m K c (by decide : 5 < 32) (off5_eq c 0 5) ?_
  refine recv_chain m K c (by decide : 6 < 32) (off5_eq c 0 6) ?_
  refine recv_chain m K c (by decide : 7 < 32) (off5_eq c 0 7) ?_
  exact fin_chain m K c _

theorem part30 {f : S128x2048.Idx → Elt F .i32} {v19 : BitVec 32} {v879 : BitVec 32} :
    Part m K c (St m c 8 0 f) (St m c 8 1 (ac1 m c)) (k0_part30 (F := F) xM hx hM hh sxM h1 swM h2 oM ho gM hg wM hw cc0_scratch2 cc0_scratch3 cc0_scratch4 aM ha c v19 v879) := by
  rw [k0_part30_eq_skeleton]; unfold k0_part30_skel Part; simp only [semSignalWord, semWaitWord, Prog.lift, Prog.bind_op, Prog.bind_ret, Prog.pure_eq_ret]; intro Q
  refine wS_chain m K c (by decide : 0 < 4) (off8_eq c 0) ?_
  refine loadgS_chain m K c 0 rfl (off10_eq c 0) ?_
  refine loadwS_chain m K c 0 rfl (off11_eq c 0) ?_
  refine loadaS_chain m K c ?_
  refine storeaS_chain m K c _ ?_
  exact fin_chain m K c _

theorem part31 {f : S128x2048.Idx → Elt F .i32} {v987 : BitVec 32} :
    Part m K c (St m c 8 1 f) (St m c 12 1 f) (k0_part31 (F := F) xM hx hM hh sxM h1 swM h2 oM ho gM hg wM hw cc0_scratch2 cc0_scratch3 cc0_scratch4 aM ha c v987) := by
  rw [k0_part31_eq_skeleton]; unfold k0_part31_skel Part; simp only [semSignalWord, semWaitWord, Prog.lift, Prog.bind_op, Prog.bind_ret, Prog.pure_eq_ret]; intro Q
  refine recvS_chain m K c (by decide : 8 < 32) (off5_eq c 1 0) ?_
  refine recvS_chain m K c (by decide : 9 < 32) (off5_eq c 1 1) ?_
  refine recvS_chain m K c (by decide : 10 < 32) (off5_eq c 1 2) ?_
  refine recvS_chain m K c (by decide : 11 < 32) (off5_eq c 1 3) ?_
  exact fin_chain m K c _

theorem part32 {f : S128x2048.Idx → Elt F .i32} {v987 : BitVec 32} {c8_i32_708 : BitVec 32} :
    Part m K c (St m c 12 1 f) (St m c 15 1 f) (k0_part32 (F := F) xM hx hM hh sxM h1 swM h2 oM ho gM hg wM hw cc0_scratch2 cc0_scratch3 cc0_scratch4 aM ha c v987 c8_i32_708) := by
  rw [k0_part32_eq_skeleton]; unfold k0_part32_skel Part; simp only [semSignalWord, semWaitWord, Prog.lift, Prog.bind_op, Prog.bind_ret, Prog.pure_eq_ret]; intro Q
  refine recvS_chain m K c (by decide : 12 < 32) (off5_eq c 1 4) ?_
  refine recvS_chain m K c (by decide : 13 < 32) (off5_eq c 1 5) ?_
  refine recvS_chain m K c (by decide : 14 < 32) (off5_eq c 1 6) ?_
  exact fin_chain m K c _

theorem part33 {v19 : BitVec 32} {v987 : BitVec 32} {v1059 : BitVec 32} :
    Part m K c (St m c 15 1 (ac1 m c)) (St m c 16 2 (ac2 m c)) (k0_part33 (F := F) xM hx hM hh sxM h1 swM h2 oM ho gM hg wM hw cc0_scratch2 cc0_scratch3 cc0_scratch4 aM ha c v19 v987 v1059) := by
  rw [k0_part33_eq_skeleton]; unfold k0_part33_skel Part; simp only [semSignalWord, semWaitWord, Prog.lift, Prog.bind_op, Prog.bind_ret, Prog.pure_eq_ret]; intro Q
  refine recvS_chain m K c (by decide : 15 < 32) (off5_eq c 1 7) ?_
  refine wS_chain m K c (by decide : 1 < 4) (off8_eq c 1) ?_
  refine loadgS_chain m K c 1 rfl (off10_eq c 1) ?_
  refine loadwS_chain m K c 1 rfl (off11_eq c 1) ?_
  refine loadaS_chain m K c ?_
  refine loadaS_chain m K c ?_
  refine storeaS_chain m K c _ ?_
  exact fin_chain m K c _

theorem part34 {f : S128x2048.Idx → Elt F .i32} {v1089 : BitVec 32} {v1090 : BitVec 32} {v1091 : BitVec 1} :
    Part m K c (St m c 16 2 f) (St m c 18 2 f) (k0_part34 (F := F) xM hx hM hh sxM h1 swM h2 oM ho gM hg wM hw cc0_scratch2 cc0_scratch3 cc0_scratch4 aM ha c v1089 v1090 v1091) := by
  rw [k0_part34_eq_skeleton]; unfold k0_part34_skel Part; simp only [semSignalWord, semWaitWord, Prog.lift, Prog.bind_op, Prog.bind_ret, Prog.pure_eq_ret]; intro Q
  refine recvS_chain m K c (by decide : 16 < 32) (off5_eq c 2 0) ?_
  refine recvS_chain m K c (by decide : 17 < 32) (off5_eq c 2 1) ?_
  exact fin_chain m K c _

theorem part35 {f : S128x2048.Idx → Elt F .i32} {v1097 : BitVec 32} :
    Part m K c (St m c 18 2 f) (St m c 21 2 f) (k0_part35 (F := F) xM hx hM hh sxM h1 swM h2 oM ho gM hg wM hw cc0_scratch2 cc0_scratch3 cc0_scratch4 aM ha c v1097) := by
  rw [k0_part35_eq_skeleton]; unfold k0_part35_skel Part; simp only [semSignalWord, semWaitWord, Prog.lift, Prog.bind_op, Prog.bind_ret, Prog.pure_eq_ret]; intro Q
  refine recvS_chain m K c (by decide : 18 < 32) (off5_eq c 2 2) ?_
  refine recvS_chain m K c (by decide : 19 < 32) (off5_eq c 2 3) ?_
  refine recvS_chain m K c (by decide : 20 < 32) (off5_eq c 2 4) ?_
  exact fin_chain m K c _

/-- This part also returns the block of `x` it has read. -/
theorem part36 {f : S128x2048.Idx → Elt F .i32} {v : BitVec 32} (Q : _ → sProp 𝕄) :
    iprop(records m K ∗ St m c 21 2 f ∗ (∀ r, ⌜r = xgl m c (grp c 2)⌝ -∗ St m c 24 3 f -∗ Q r)) ⊢ wp frame (wpE (defs₀ (F := F)) 𝒱₀ (c : Thread nD τ) none) Set.univ (k0_part36 (F := F) xM hx hM hh sxM h1 swM h2 oM ho gM hg wM hw cc0_scratch2 cc0_scratch3 cc0_scratch4 aM ha c v) Q := by
  rw [k0_part36_eq_skeleton]; unfold k0_part36_skel; simp only [semSignalWord, semWaitWord, Prog.lift, Prog.bind_op, Prog.bind_ret, Prog.pure_eq_ret]
  refine recvS_chain m K c (by decide : 21 < 32) (off5_eq c 2 5) ?_
  refine recvS_chain m K c (by decide : 22 < 32) (off5_eq c 2 6) ?_
  refine recvS_chain m K c (by decide : 23 < 32) (off5_eq c 2 7) ?_
  refine wS_chain m K c (by decide : 2 < 4) (off8_eq c 2) ?_
  refine loadgS_chain m K c 2 rfl (off10_eq c 2) ?_
  iintro ⟨-, H, HF⟩
  rw [wp_ret]; imodintro
  iapply HF $$ %_ [] H
  ipureintro; rfl

theorem part37 {v19 : BitVec 32}  :
    Part m K c (St m c 24 3 (ac2 m c)) (St m c 25 3 (ac3 m c)) (k0_part37 (F := F) xM hx hM hh sxM h1 swM h2 oM ho gM hg wM hw cc0_scratch2 cc0_scratch3 cc0_scratch4 aM ha c v19 (xgl m c (grp c 2))) := by
  rw [k0_part37_eq_skeleton]; unfold k0_part37_skel Part; simp only [semSignalWord, semWaitWord, Prog.lift, Prog.bind_op, Prog.bind_ret, Prog.pure_eq_ret]; intro Q
  refine loadwS_chain m K c 2 rfl (off11_eq c 2) ?_
  refine loadaS_chain m K c ?_
  refine loadaS_chain m K c ?_
  refine storeaS_chain m K c _ ?_
  refine recvS_chain m K c (by decide : 24 < 32) (off5_eq c 3 0) ?_
  exact fin_chain m K c _

theorem part38 {f : S128x2048.Idx → Elt F .i32} {v1207 : BitVec 32} {v1219 : BitVec 32} :
    Part m K c (St m c 25 3 f) (St m c 28 3 f) (k0_part38 (F := F) xM hx hM hh sxM h1 swM h2 oM ho gM hg wM hw cc0_scratch2 cc0_scratch3 cc0_scratch4 aM ha c v1207 v1219) := by
  rw [k0_part38_eq_skeleton]; unfold k0_part38_skel Part; simp only [semSignalWord, semWaitWord, Prog.lift, Prog.bind_op, Prog.bind_ret, Prog.pure_eq_ret]; intro Q
  refine recvS_chain m K c (by decide : 25 < 32) (off5_eq c 3 1) ?_
  refine recvS_chain m K c (by decide : 26 < 32) (off5_eq c 3 2) ?_
  refine recvS_chain m K c (by decide : 27 < 32) (off5_eq c 3 3) ?_
  exact fin_chain m K c _

theorem part39 {f : S128x2048.Idx → Elt F .i32} {v1207 : BitVec 32} {v1252 : BitVec 32} {c0_i32_883 : BitVec 32} :
    Part m K c (St m c 28 3 f) (St m c 31 3 f) (k0_part39 (F := F) xM hx hM hh sxM h1 swM h2 oM ho gM hg wM hw cc0_scratch2 cc0_scratch3 cc0_scratch4 aM ha c v1207 v1252 c0_i32_883) := by
  rw [k0_part39_eq_skeleton]; unfold k0_part39_skel Part; simp only [semSignalWord, semWaitWord, Prog.lift, Prog.bind_op, Prog.bind_ret, Prog.pure_eq_ret]; intro Q
  refine recvS_chain m K c (by decide : 28 < 32) (off5_eq c 3 4) ?_
  refine recvS_chain m K c (by decide : 29 < 32) (off5_eq c 3 5) ?_
  refine recvS_chain m K c (by decide : 30 < 32) (off5_eq c 3 6) ?_
  exact fin_chain m K c _

theorem part40 {v1207 : BitVec 32} :
    Part m K c iprop(St m c 31 3 (ac3 m c) ∗ Sc m c ∗ ∃ o, Out c o) iprop(St m c 32 4 (ac4 m c) ∗ Sc m c ∗ Out c (outAt m c)) (k0_part40 (F := F) xM hx hM hh sxM h1 swM h2 oM ho gM hg wM hw cc0_scratch2 cc0_scratch3 cc0_scratch4 aM ha c v1207) := by
  rw [k0_part40_eq_skeleton]; unfold k0_part40_skel Part; simp only [semSignalWord, semWaitWord, Prog.lift, Prog.bind_op, Prog.bind_ret, Prog.pure_eq_ret]; intro Q
  refine re_chain m K sep_assoc.1 ?_
  refine recvS_chain m K c (by decide : 31 < 32) (off5_eq c 3 7) ?_
  refine wS_chain m K c (by decide : 3 < 4) (off8_eq c 3) ?_
  refine loadgS_chain m K c 3 rfl (off10_eq c 3) ?_
  refine loadwS_chain m K c 3 rfl (off11_eq c 3) ?_
  refine loadaS_chain m K c ?_
  refine loadaS_chain m K c ?_
  refine storeaS_chain m K c _ ?_
  refine loadaS_chain m K c ?_
  refine re_chain m K (st_out (Out c)) ?_
  refine ex_chain m K fun o => ?_
  refine smem1_chain m K c ?_
  refine smem2_chain m K c ?_
  refine re_chain m K out_swap ?_
  refine loado_chain m K c _ fun _ => ?_
  refine storeo_chain m K c _ _ ?_
  refine re_chain m K out_st ?_
  exact fin_chain m K c _

theorem part41  :
    Part m K c (Sv m c 0) (Sv m c 8) (k0_part41 (F := F) xM hx hM hh sxM h1 swM h2 oM ho gM hg wM hw cc0_scratch2 cc0_scratch3 cc0_scratch4 aM ha c) := by
  rw [k0_part41_eq_skeleton]; unfold k0_part41_skel Part; simp only [semSignalWord, semWaitWord, Prog.lift, Prog.bind_op, Prog.bind_ret, Prog.pure_eq_ret]; intro Q
  refine sendw_chain m K c (by decide : 0 < 32) (off1_eq c 0 0) ?_
  refine sendw_chain m K c (by decide : 1 < 32) (off1_eq c 0 1) ?_
  refine sendw_chain m K c (by decide : 2 < 32) (off1_eq c 0 2) ?_
  refine sendw_chain m K c (by decide : 3 < 32) (off1_eq c 0 3) ?_
  refine sendw_chain m K c (by decide : 4 < 32) (off1_eq c 0 4) ?_
  refine sendw_chain m K c (by decide : 5 < 32) (off1_eq c 0 5) ?_
  refine sendw_chain m K c (by decide : 6 < 32) (off1_eq c 0 6) ?_
  refine sendw_chain m K c (by decide : 7 < 32) (off1_eq c 0 7) ?_
  exact fin_chain m K c _

theorem part42  :
    Part m K c (Sv m c 8) (Sv m c 15) (k0_part42 (F := F) xM hx hM hh sxM h1 swM h2 oM ho gM hg wM hw cc0_scratch2 cc0_scratch3 cc0_scratch4 aM ha c) := by
  rw [k0_part42_eq_skeleton]; unfold k0_part42_skel Part; simp only [semSignalWord, semWaitWord, Prog.lift, Prog.bind_op, Prog.bind_ret, Prog.pure_eq_ret]; intro Q
  refine sendw_chain m K c (by decide : 8 < 32) (off1_eq c 1 0) ?_
  refine sendw_chain m K c (by decide : 9 < 32) (off1_eq c 1 1) ?_
  refine sendw_chain m K c (by decide : 10 < 32) (off1_eq c 1 2) ?_
  refine sendw_chain m K c (by decide : 11 < 32) (off1_eq c 1 3) ?_
  refine sendw_chain m K c (by decide : 12 < 32) (off1_eq c 1 4) ?_
  refine sendw_chain m K c (by decide : 13 < 32) (off1_eq c 1 5) ?_
  refine sendw_chain m K c (by decide : 14 < 32) (off1_eq c 1 6) ?_
  exact fin_chain m K c _

theorem part43  :
    Part m K c (Sv m c 15) (Sv m c 23) (k0_part43 (F := F) xM hx hM hh sxM h1 swM h2 oM ho gM hg wM hw cc0_scratch2 cc0_scratch3 cc0_scratch4 aM ha c) := by
  rw [k0_part43_eq_skeleton]; unfold k0_part43_skel Part; simp only [semSignalWord, semWaitWord, Prog.lift, Prog.bind_op, Prog.bind_ret, Prog.pure_eq_ret]; intro Q
  refine sendw_chain m K c (by decide : 15 < 32) (off1_eq c 1 7) ?_
  refine sendw_chain m K c (by decide : 16 < 32) (off1_eq c 2 0) ?_
  refine sendw_chain m K c (by decide : 17 < 32) (off1_eq c 2 1) ?_
  refine sendw_chain m K c (by decide : 18 < 32) (off1_eq c 2 2) ?_
  refine sendw_chain m K c (by decide : 19 < 32) (off1_eq c 2 3) ?_
  refine sendw_chain m K c (by decide : 20 < 32) (off1_eq c 2 4) ?_
  refine sendw_chain m K c (by decide : 21 < 32) (off1_eq c 2 5) ?_
  refine sendw_chain m K c (by decide : 22 < 32) (off1_eq c 2 6) ?_
  exact fin_chain m K c _

theorem part44  :
    Part m K c (Sv m c 23) (Sv m c 30) (k0_part44 (F := F) xM hx hM hh sxM h1 swM h2 oM ho gM hg wM hw cc0_scratch2 cc0_scratch3 cc0_scratch4 aM ha c) := by
  rw [k0_part44_eq_skeleton]; unfold k0_part44_skel Part; simp only [semSignalWord, semWaitWord, Prog.lift, Prog.bind_op, Prog.bind_ret, Prog.pure_eq_ret]; intro Q
  refine sendw_chain m K c (by decide : 23 < 32) (off1_eq c 2 7) ?_
  refine sendw_chain m K c (by decide : 24 < 32) (off1_eq c 3 0) ?_
  refine sendw_chain m K c (by decide : 25 < 32) (off1_eq c 3 1) ?_
  refine sendw_chain m K c (by decide : 26 < 32) (off1_eq c 3 2) ?_
  refine sendw_chain m K c (by decide : 27 < 32) (off1_eq c 3 3) ?_
  refine sendw_chain m K c (by decide : 28 < 32) (off1_eq c 3 4) ?_
  refine sendw_chain m K c (by decide : 29 < 32) (off1_eq c 3 5) ?_
  exact fin_chain m K c _

end Parts

end Cert.KernelIdeal.Proto

end
-- ==== Proof.KernelIdealRun.lean ====
/-
# The kernel's body

What a device starts its body with, what it ends it with, and the body from the one to the other: the parts one after
another, and between them what the device holds put another way.
-/
module

public import proofs.«01_k».proof.Proof.KernelIdealPartsC

@[expose] public section

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.RefSig (tileCredit)

variable {F : FTy → Type} [FloatOps F]

local notation "𝕄" => MT nD τ sig Unit (Elt F) ℕ UU ℕ

variable (m : (ℓ : Loc nD τ sig) → Buf (Elt F) ℓ) (ρ : Dev nD → PrngReg)

section Run

variable (K : Dev nD × CK → ℕ) (c : Dev nD)
variable (hx : (xM).IsWhole) (hh : (hM).IsWhole) (h1 : (sxM).IsWhole) (h2 : (swM).IsWhole) (ho : (oM).IsWhole)
  (hg : (gM).IsWhole) (hw : (wM).IsWhole) (ha : (aM).IsWhole)

/-! ## What the device starts with and ends with -/

/-- What the barrier wait takes. -/
def BarP : sProp 𝕄 := iprop(levAts L lv ∗ cred (tallyAt (barCell c) () 31) ∗ atPos ER (barCell c) 0 ∅ 0)
/-- What the `i`-th transfer takes of its own. -/
def outItem (i : Fin 32) : sProp 𝕄 := iprop(dutyTok ER (sendCell c (sendPeer c i)) 0 (0 : Fin 32) ∗ dutyTok ER (recvCell (sendPeer c i) c) 0 (0 : Fin 32) ∗ xPts m c (sendPeer c i).val)
/-- The positions at the cells of the weights and of the reading ends. -/
def AtW : sProp 𝕄 := bigSep (Finset.univ : Finset (Fin 4)) fun p => atPos ER (wCell c p) 0 ∅ 0
def AtS : sProp 𝕄 := bigSep (Finset.univ : Finset (Fin 32)) fun i => atPos ER (sendCell c (sendPeer c i)) 0 ∅ 0
/-- The accumulator, the scales and the output buffer, contents unknown but the scales'. -/
def Bufs : sProp 𝕄 := iprop((∃ f, Ac c f) ∗ Sc m c ∗ ∃ o, Out c o)

/-- What the device starts with but the signals' share. -/
def R0 : sProp 𝕄 := iprop(gPts c c.val ∗ bigSep Finset.univ (copyItem m c) ∗ bigSep Finset.univ (outItem m c)
  ∗ bigSep Finset.univ (recvItem (F := F) c) ∗ AtW c ∗ AtS c ∗ Bufs m c)
/-- What is left of that during the copies and the transfers, and with the copies started. -/
def R2 : sProp 𝕄 := iprop(bigSep Finset.univ (recvItem (F := F) c) ∗ semVal (barCell c) 0 ∗ AtW c ∗ AtS c ∗ Bufs m c)
def R3 : sProp 𝕄 := iprop(Done 4 (copiedItem (F := F) c) ∗ semVal (barCell c) 0 ∗ AtW c ∗ AtS c ∗ Bufs m c)
/-- And while the device multiplies. -/
def R4 : sProp 𝕄 := iprop(bigSep Finset.univ (sendwItem (F := F) c) ∗ semVal (barCell c) 0)
/-- What is done when the reading ends are awaited. -/
def R5 : sProp 𝕄 := iprop(semVal (barCell c) 0 ∗ Rr c 32 ∗ gP m c 32 ∗ Wv m c 4 ∗ Ac c (ac4 m c) ∗ Sc m c ∗ Out c (outAt m c))

theorem sep_erase {Φ : Dev nD → sProp 𝕄} : iprop(Φ c ∗ bigSep (Finset.univ.erase c) Φ) ⊢ bigSep Finset.univ Φ := by
  rw [BI.bigSep_erase (Finset.mem_univ c)]; exact .rfl

/-- The column blocks handed over at the barrier, one for each transfer. -/
theorem cols_out : (bigSep Finset.univ fun d : Dev nD => gPts (F := F) d c.val) = bigSep Finset.univ fun i : Fin 32 => gPts (F := F) (sendPeer c i) c.val :=
  (BI.bigSep_univ_equiv (Equiv.ofBijective _ (sendPeer_bij c)) fun d : Dev nD => gPts (F := F) d c.val)

theorem out_item (i : Fin 32) : iprop(outItem m c i ∗ gPts (sendPeer c i) c.val) ⊢ sendItem m c i := by
  unfold outItem sendItem
  iintro ⟨⟨HA, HB, HX⟩, HG⟩
  isplitl [HA]; · iexact HA
  isplitl [HB]; · iexact HB
  isplitl [HX]; · iexact HX
  iexact HG

theorem out_items : iprop(bigSep Finset.univ (outItem m c) ∗ bigSep Finset.univ fun d : Dev nD => gPts (F := F) d c.val) ⊢ Todo 0 (sendItem m c) := by
  rw [todo_zero, cols_out, ← BI.bigSep_sep']
  exact BI.bigSep_mono fun i _ => out_item m c i

theorem w_items : iprop(AtW (F := F) c ∗ Done 4 (copiedItem (F := F) c)) ⊢ Todo 0 (wItem (F := F) c) := by
  rw [todo_zero, done_end]; unfold AtW
  rw [← BI.bigSep_sep']
  have e := BI.bigSep_univ_equiv (Equiv.ofBijective _ (grp_bij c)) fun p : Fin 4 => iprop(atPos ER (wCell c p) 0 ∅ 0 ∗ copiedItem (F := F) c p)
  rw [e]; exact .rfl

theorem s_items : iprop(AtS (F := F) c ∗ Done 32 (sentItem (F := F) c)) ⊢ bigSep Finset.univ (sendwItem (F := F) c) := by
  rw [done_end]; unfold AtS
  rw [← BI.bigSep_sep']
  exact .rfl

theorem after_bar {G : sProp 𝕄} : iprop((Ow c (Or' c 0) ∗ semVal (barCell c) 0 ∗ bigSep (Finset.univ.erase c) fun d => gPts d c.val) ∗ R0 m c ∗ G)
    ⊢ iprop(Wc m c 0 ∗ Sn m c 0 ∗ R2 m c ∗ G) := by
  unfold R0 R2 Wc Sn
  rw [done_zero, done_zero, todo_zero (copyItem m c)]
  iintro ⟨⟨HO, HV, HE⟩, ⟨HG, HC, HT, HR, HW, HS, HB⟩, HK⟩
  isplitl [HC]
  · isplitl [HC]; · iexact HC
    iempintro
  isplitl [HO HE HG HT]
  · isplitl [HO]; · iexact HO
    isplitl [HE HG HT]
    · iapply (out_items m c)
      isplitl [HT]; · iexact HT
      iapply (sep_erase c)
      isplitl [HG]; · iexact HG
      iexact HE
    iempintro
  isplitr [HK]
  · isplitl [HR]; · iexact HR
    isplitl [HV]; · iexact HV
    isplitl [HW]; · iexact HW
    isplitl [HS]; · iexact HS
    iexact HB
  iexact HK

theorem after_copy {G : sProp 𝕄} : iprop(Wc m c 4 ∗ Sn m c 0 ∗ R2 m c ∗ G) ⊢ iprop(Sn m c 0 ∗ Todo 0 (recvItem (F := F) c) ∗ R3 m c ∗ G) := by
  unfold Wc R2 R3
  rw [todo_zero (recvItem (F := F) c)]
  iintro ⟨⟨-, HD⟩, HS, ⟨HR, HX⟩, HK⟩
  isplitl [HS]; · iexact HS
  isplitl [HR]; · iexact HR
  isplitr [HK]
  · isplitl [HD]; · iexact HD
    iexact HX
  iexact HK

theorem before_dot {G : sProp 𝕄} : iprop(Rv m c 8 ∗ Done 32 (sentItem (F := F) c) ∗ R3 m c ∗ G)
    ⊢ iprop(∃ f, St m c 8 0 f ∗ (Sc m c ∗ ∃ o, Out c o) ∗ R4 c ∗ G) := by
  unfold R3 R4 Bufs St Wv
  rw [wgot_zero, pointsTo_empty, done_zero]
  iintro ⟨HR, HD, ⟨HC, HV, HW, HS, ⟨%f, HA⟩, HB⟩, HK⟩
  iexists f
  isplitl [HR HC HW HA]
  · isplitl [HR]; · iexact HR
    isplitl [HC HW]
    · isplitl [HC HW]
      · iapply (w_items c)
        isplitl [HW]; · iexact HW
        iexact HC
      isplitl []; · iempintro
      iempintro
    iexact HA
  isplitl [HB]; · iexact HB
  isplitr [HK]
  · isplitl [HD HS]
    · iapply (s_items c)
      isplitl [HS]; · iexact HS
      iexact HD
    iexact HV
  iexact HK

theorem after_dot {G : sProp 𝕄} : iprop((St m c 32 4 (ac4 m c) ∗ Sc m c ∗ Out c (outAt m c)) ∗ R4 c ∗ G) ⊢ iprop(Sv m c 0 ∗ R5 m c ∗ G) := by
  unfold R4 R5 St Sv Rv Rr
  rw [done_zero (sendwdItem m c), todo_zero (sendwItem (F := F) c)]
  iintro ⟨⟨⟨⟨HO, HT, HG, HD⟩, HW, HA⟩, HC, HU⟩, ⟨HS, HV⟩, HK⟩
  isplitl [HO HS]
  · isplitl [HO]; · iexact HO
    isplitl [HS]; · iexact HS
    iempintro
  isplitr [HK]
  · isplitl [HV]; · iexact HV
    isplitl [HT HD]
    · isplitl [HT]; · iexact HT
      iexact HD
    isplitl [HG]; · iexact HG
    isplitl [HW]; · iexact HW
    isplitl [HA]; · iexact HA
    isplitl [HC]; · iexact HC
    iexact HU
  iexact HK

theorem bar_in {G : sProp 𝕄} : iprop(Sg (F := F) c 29 ∗ BarP c ∗ G) ⊢ iprop((Sg (F := F) c 29 ∗ levAts L lv ∗ cred (tallyAt (barCell c) () 31) ∗ atPos ER (barCell c) 0 ∅ 0) ∗ G) := by
  unfold BarP; exact sep_assoc.2

/-! ## The body -/

/-- The kernel's body, from what the device starts with to what it ends with. -/
theorem body_run :
    Part m K c iprop(Sg (F := F) c 1 ∗ BarP c ∗ R0 m c) iprop(Sv m c 32 ∗ R5 m c) (cc0_body (F := F) xM hx hM hh sxM h1 swM h2 oM ho gM hg wM hw cc0_scratch2 cc0_scratch3 cc0_scratch4 aM ha) := by
  rw [cc0_body_eq_skeleton]; unfold cc0_body_skel Part; intro Q
  refine re_chain m K (sep_assoc.1.trans (sep_mono_right sep_assoc.1)) ?_
  refine seqp_chain m K c (part1 m K c hx hh h1 h2 ho hg hw ha) ?_
  rintro ⟨d0, v2, v19, v20, v34, c32, v35⟩ ⟨he, hb⟩
  dsimp only at he hb; subst he; subst hb
  refine seq_chain m K _ (part2 m K _ hx hh h1 h2 ho hg hw ha) ?_
  rintro ⟨_, _, _⟩
  refine seq_chain m K _ (part3 m K _ hx hh h1 h2 ho hg hw ha) ?_
  rintro ⟨_, _, _⟩
  refine seq_chain m K _ (part4 m K _ hx hh h1 h2 ho hg hw ha) ?_
  rintro ⟨_, _, _⟩
  refine seq_chain m K _ (part5 m K _ hx hh h1 h2 ho hg hw ha) ?_
  rintro ⟨_, _, _⟩
  refine seq_chain m K _ (part6 m K _ hx hh h1 h2 ho hg hw ha) ?_
  rintro ⟨_, _, _⟩
  refine seq_chain m K _ (part7 m K _ hx hh h1 h2 ho hg hw ha) ?_
  rintro ⟨_, _, _⟩
  refine seq_chain m K _ (part8 m K _ hx hh h1 h2 ho hg hw ha) ?_
  rintro ⟨_, _, _⟩
  refine seq_chain m K _ (part9 m K _ hx hh h1 h2 ho hg hw ha) ?_
  rintro ⟨_, _, _⟩
  refine seq_chain m K _ (part10 m K _ hx hh h1 h2 ho hg hw ha) ?_
  rintro ⟨_, _, _⟩
  refine seq_chain m K _ (part11 m K _ hx hh h1 h2 ho hg hw ha) ?_
  rintro ⟨_, _, _⟩
  refine seq_chain m K _ (part12 m K _ hx hh h1 h2 ho hg hw ha) ?_
  rintro ⟨_, _, _⟩
  refine re_chain m K (bar_in _) ?_
  refine seq_chain m K _ (part13 m K _ hx hh h1 h2 ho hg hw ha) ?_
  rintro _
  refine re_chain m K (after_bar m _) ?_
  refine seq_chain m K _ (part14 m K _ hx hh h1 h2 ho hg hw ha) ?_
  rintro ⟨_, _⟩
  refine re_chain m K (after_copy m _) ?_
  refine seq_chain m K _ (part15 m K _ hx hh h1 h2 ho hg hw ha) ?_
  rintro _
  refine seq_chain m K _ (part16 m K _ hx hh h1 h2 ho hg hw ha) ?_
  rintro _
  refine seq_chain m K _ (part17 m K _ hx hh h1 h2 ho hg hw ha) ?_
  rintro ⟨_, _, _⟩
  refine seq_chain m K _ (part18 m K _ hx hh h1 h2 ho hg hw ha) ?_
  rintro _
  refine seq_chain m K _ (part19 m K _ hx hh h1 h2 ho hg hw ha) ?_
  rintro _
  refine seq_chain m K _ (part20 m K _ hx hh h1 h2 ho hg hw ha) ?_
  rintro ⟨_, _, _⟩
  refine seq_chain m K _ (part21 m K _ hx hh h1 h2 ho hg hw ha) ?_
  rintro ⟨_, _⟩
  refine seq_chain m K _ (part22 m K _ hx hh h1 h2 ho hg hw ha) ?_
  rintro ⟨_, _⟩
  refine seq_chain m K _ (part23 m K _ hx hh h1 h2 ho hg hw ha) ?_
  rintro ⟨_, _, _⟩
  refine seq_chain m K _ (part24 m K _ hx hh h1 h2 ho hg hw ha) ?_
  rintro ⟨_, _⟩
  refine seq_chain m K _ (part25 m K _ hx hh h1 h2 ho hg hw ha) ?_
  rintro _
  refine seq_chain m K _ (part26 m K _ hx hh h1 h2 ho hg hw ha) ?_
  rintro _
  refine re_chain m K sep_assoc.2 ?_
  refine seq_chain m K _ (part27 m K _ hx hh h1 h2 ho hg hw ha) ?_
  rintro _
  refine re_chain m K sep_assoc.1 ?_
  refine seq_chain m K _ (part28 m K _ hx hh h1 h2 ho hg hw ha) ?_
  rintro ⟨_, _⟩
  refine seq_chain m K _ (part29 m K _ hx hh h1 h2 ho hg hw ha) ?_
  rintro _
  refine re_chain m K (before_dot m _) ?_
  refine ex_chain m K fun f => ?_
  refine seq_chain m K _ (part30 m K _ hx hh h1 h2 ho hg hw ha) ?_
  rintro _
  refine seq_chain m K _ (part31 m K _ hx hh h1 h2 ho hg hw ha) ?_
  rintro _
  refine seq_chain m K _ (part32 m K _ hx hh h1 h2 ho hg hw ha) ?_
  rintro _
  refine seq_chain m K _ (part33 m K _ hx hh h1 h2 ho hg hw ha) ?_
  rintro ⟨_, _, _⟩
  refine seq_chain m K _ (part34 m K _ hx hh h1 h2 ho hg hw ha) ?_
  rintro _
  refine seq_chain m K _ (part35 m K _ hx hh h1 h2 ho hg hw ha) ?_
  rintro _
  refine seqp_chain m K _ (part36 m K _ hx hh h1 h2 ho hg hw ha) ?_
  rintro _ rfl
  refine seq_chain m K _ (part37 m K _ hx hh h1 h2 ho hg hw ha) ?_
  rintro ⟨_, _⟩
  refine seq_chain m K _ (part38 m K _ hx hh h1 h2 ho hg hw ha) ?_
  rintro ⟨_, _⟩
  refine seq_chain m K _ (part39 m K _ hx hh h1 h2 ho hg hw ha) ?_
  rintro _
  refine re_chain m K sep_assoc.2 ?_
  refine seq_chain m K _ (part40 m K _ hx hh h1 h2 ho hg hw ha) ?_
  rintro _
  refine re_chain m K (after_dot m _) ?_
  refine seq_chain m K _ (part41 m K _ hx hh h1 h2 ho hg hw ha) ?_
  rintro _
  refine seq_chain m K _ (part42 m K _ hx hh h1 h2 ho hg hw ha) ?_
  rintro _
  refine seq_chain m K _ (part43 m K _ hx hh h1 h2 ho hg hw ha) ?_
  rintro _
  refine seq_chain m K _ (part44 m K _ hx hh h1 h2 ho hg hw ha) ?_
  rintro _
  simp only [Prog.lift, Prog.bind_op, Prog.bind_ret, Prog.pure_eq_ret]
  refine sendw_chain m K _ (by decide : 30 < 32) (off1_eq _ 3 6) ?_
  refine sendw_chain m K _ (by decide : 31 < 32) (off1_eq _ 3 7) ?_
  refine re_chain m K sep_assoc.2 ?_
  exact fin_chain m K _ _

end Run

end Cert.KernelIdeal.Proto

end
-- ==== Proof.KernelIdealBody.lean ====
/-
# The body as the launch asks for it

What each device is dealt at launch, and that from it the body runs and hands back its buffers, its result written.
-/
module

public import proofs.«01_k».proof.Proof.KernelIdealRun
public import proofs.«01_k».proof.Proof.Gen.KernelIdeal.Launch
public import proofs.«01_k».proof.Proof.Gen.KernelIdeal.Points

@[expose] public section

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.RefSig (tileCredit)

variable {F : FTy → Type} [FloatOps F]

local notation "𝕄" => MT nD τ sig Unit (Elt F) ℕ UU ℕ

variable (m : (ℓ : Loc nD τ sig) → Buf (Elt F) ℓ) (ρ : Dev nD → PrngReg)

/-! ## What a device starts from -/

/-- The tokens of the duties the device pays, and its positions at its cells. -/
def Lin (c : Dev nD) : sProp 𝕄 :=
  iprop((bigSep Finset.univ fun k : Fin 32 => dutyTok ER (barCell (sigPeer c k)) 0 c)
    ∗ (bigSep Finset.univ fun i : Fin 32 => dutyTok ER (sendCell c (sendPeer c i)) 0 (0 : Fin 32))
    ∗ (bigSep Finset.univ fun i : Fin 32 => dutyTok ER (recvCell (sendPeer c i) c) 0 (0 : Fin 32))
    ∗ (bigSep Finset.univ fun p : Fin 4 => dutyTok ER (wCell c p) 0 (0 : Fin 32))
    ∗ atPos ER (barCell c) 0 ∅ 0
    ∗ (bigSep Finset.univ fun p : Fin 32 => atPos ER (sendCell c p) 0 ∅ 0)
    ∗ (bigSep Finset.univ fun s : Fin 32 => atPos ER (recvCell c s) 0 ∅ 0)
    ∗ AtW c)
/-- The credits it starts with. -/
def Cr (c : Dev nD) : sProp 𝕄 :=
  iprop(cred (tallyAt (barCell c) () 31) ∗ bigSep Finset.univ fun s : Fin 32 => cred (tallyAt (recvCell c s) () NX))
/-- What the launch deals it. -/
def G' (c : Dev nD) : sProp 𝕄 := iprop(∃ K, records m K ∗ Lin c)
abbrev hP (c : Dev nD) : sProp 𝕄 := ((c : Thread nD τ).loc main_arg1) ↦{fullShare} (W m c)
def start (c : Dev nD) : sProp 𝕄 := iprop(G' m c ∗ Cr c ∗ levAts L lv ∗ hP m c)
/-- The scratch buffers, contents unknown. -/
def Scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch5), ((c : Thread nD τ).loc cc0_scratch5) ↦{fullShare} f))
def Φ₀ (c : Dev nD) : sProp 𝕄 := iprop(start m c ∗ Scr c)
/-- After the body: every semaphore at zero, the weights as they were. -/
def Sems (c : Dev nD) : sProp 𝕄 :=
  iprop((bigSep Finset.univ fun p : Fin 32 => semVal (sendCell c p) 0) ∗ (bigSep Finset.univ fun s : Fin 32 => semVal (recvCell c s) 0)
    ∗ bigSep Finset.univ fun p : Fin 4 => semVal (wCell c p) 0)
def Φ₁ (c : Dev nD) : sProp 𝕄 := iprop(semVal (barCell c) 0 ∗ hP m c ∗ Sems c ∗ Scr c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m c
    | ⟨1, _⟩ => SX m c
    | ⟨2, _⟩ => SW m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## From there to what the body starts from -/

section

variable (c : Dev nD)

theorem sig_one (k : Fin 32) : iprop(dutyTok ER (barCell (sigPeer c k)) 0 c ∗ gPts (F := F) c (sigPeer c k).val) ⊢ sigItem c k := .rfl

theorem sig_items (f : S128x4096.Idx → Elt F .i8) :
    iprop((bigSep Finset.univ fun k : Fin 32 => dutyTok ER (barCell (sigPeer c k)) 0 c) ∗ (((c : Thread nD τ).loc cc0_scratch0) ↦{fullShare} f))
      ⊢ iprop(gPts c c.val ∗ Todo 1 (sigItem (F := F) c)) := by
  have e := BI.bigSep_univ_equiv (Equiv.ofBijective _ (sigPeer_bij c)) fun s : Fin 32 => gPts (F := F) c s.val
  have e2 : (bigSep Finset.univ fun k : Fin 32 => iprop(dutyTok ER (barCell (sigPeer c k)) 0 c ∗ gPts (F := F) c (sigPeer c k).val)) = bigSep Finset.univ (sigItem (F := F) c) := rfl
  refine (sep_mono_right ((g_blocks c f).trans (Entails.of_eq e))).trans ?_
  refine (Entails.of_eq ((BI.bigSep_sep' _ _ _).symm.trans e2)).trans ?_
  rw [← todo_zero, todo_step (by decide : 0 < 32)]
  refine sep_mono_left ?_
  unfold sigItem
  rw [show (⟨0, by decide⟩ : Fin 32) = 0 from rfl, sigPeer_zero]
  iintro ⟨-, H⟩; iexact H

theorem copy_items (f : S4096x2048.Idx → Elt F .i8) :
    iprop((bigSep Finset.univ fun p : Fin 4 => dutyTok ER (wCell c p) 0 (0 : Fin 32)) ∗ (((c : Thread nD τ).loc cc0_scratch1) ↦{fullShare} f) ∗ hP m c)
      ⊢ bigSep Finset.univ (copyItem m c) := by
  rw [show hP m c = _ from h_blocks m c]
  refine (sep_mono_right (sep_mono_left (w_blocks c f))).trans ?_
  rw [← BI.bigSep_sep', ← BI.bigSep_sep']
  exact .rfl

theorem x_peers : ((((c : Thread nD τ).loc cc0_stg0_0) ↦{fullShare} (X m c)) : sProp 𝕄) = bigSep Finset.univ fun i : Fin 32 => xPts m c (sendPeer c i).val :=
  (x_blocks m c).trans (BI.bigSep_univ_equiv (Equiv.ofBijective _ (sendPeer_bij c)) fun p : Fin 32 => xPts m c p.val)

theorem out_all :
    iprop((bigSep Finset.univ fun i : Fin 32 => dutyTok ER (sendCell c (sendPeer c i)) 0 (0 : Fin 32))
      ∗ (bigSep Finset.univ fun i : Fin 32 => dutyTok ER (recvCell (sendPeer c i) c) 0 (0 : Fin 32)) ∗ (((c : Thread nD τ).loc cc0_stg0_0) ↦{fullShare} (X m c)))
      ⊢ bigSep Finset.univ (outItem m c) := by
  rw [x_peers, ← BI.bigSep_sep', ← BI.bigSep_sep']
  exact .rfl

theorem recv_all : iprop((bigSep Finset.univ fun s : Fin 32 => atPos ER (recvCell c s) 0 ∅ 0) ∗ bigSep Finset.univ fun s : Fin 32 => cred (tallyAt (recvCell c s) () NX))
    ⊢ bigSep Finset.univ (recvItem (F := F) c) := by
  rw [← BI.bigSep_sep']
  have e := BI.bigSep_univ_equiv (Equiv.ofBijective _ (recvSrc_bij c)) fun s : Fin 32 => (iprop(atPos ER (recvCell c s) 0 ∅ 0 ∗ cred (tallyAt (recvCell c s) () NX)) : sProp 𝕄)
  rw [e]; exact .rfl

theorem at_send : (bigSep Finset.univ fun p : Fin 32 => atPos ER (sendCell c p) 0 ∅ 0) ⊢ AtS (F := F) c := by
  have e := BI.bigSep_univ_equiv (Equiv.ofBijective _ (sendPeer_bij c)) fun p : Fin 32 => (atPos ER (sendCell c p) 0 ∅ 0 : sProp 𝕄)
  rw [e]; exact .rfl

theorem pre : iprop(Lin c ∗ Cr c ∗ levAts L lv ∗ hP m c ∗ Scr c ∗ Ow c (O₀ c) ∗ (((c : Thread nD τ).loc cc0_stg0_0) ↦{fullShare} (X m c)) ∗ Sc m c ∗ ∃ o, Out c o)
    ⊢ iprop(Sg (F := F) c 1 ∗ BarP c ∗ R0 m c) := by
  unfold Lin Cr Scr Sg BarP R0 O₀ Bufs Ac
  iintro ⟨⟨T1, T2, T3, T4, AB, AS, AR, AW⟩, ⟨CB, CR⟩, HL, HH, ⟨⟨%f0, F0⟩, ⟨%f1, F1⟩, ⟨%f5, F5⟩⟩, HO, HX, HS, HU⟩
  ihave H := (sig_items c f0) $$ [T1 F0]
  · isplitl [T1]; · iexact T1
    iexact F0
  icases H with ⟨HG, HT⟩
  isplitl [HO HT]
  · isplitl [HO]; · iexact HO
    iexact HT
  isplitl [HL CB AB]
  · isplitl [HL]; · iexact HL
    isplitl [CB]; · iexact CB
    iexact AB
  isplitl [HG]; · iexact HG
  isplitl [T4 F1 HH]
  · iapply (copy_items m c f1)
    isplitl [T4]; · iexact T4
    isplitl [F1]; · iexact F1
    iexact HH
  isplitl [T2 T3 HX]
  · iapply (out_all m c)
    isplitl [T2]; · iexact T2
    isplitl [T3]; · iexact T3
    iexact HX
  isplitl [AR CR]
  · iapply (recv_all c)
    isplitl [AR]; · iexact AR
    iexact CR
  isplitl [AW]; · iexact AW
  isplitl [AS]; · iapply (at_send c); iexact AS
  isplitl [F5]; · iexists f5; iexact F5
  isplitl [HS]; · iexact HS
  iexact HU

/-! ## And back -/

theorem x_back : (bigSep Finset.univ (sendwdItem m c)) ⊢ iprop((bigSep Finset.univ fun p : Fin 32 => semVal (sendCell c p) 0) ∗ (((c : Thread nD τ).loc cc0_stg0_0) ↦{fullShare} (X m c))) := by
  have e := BI.bigSep_univ_equiv (Equiv.ofBijective _ (sendPeer_bij c)) fun p : Fin 32 => (semVal (sendCell c p) 0 : sProp 𝕄)
  rw [e, x_peers, ← BI.bigSep_sep']; exact .rfl
theorem h_back : (bigSep Finset.univ (wdItem m c)) ⊢ iprop((bigSep Finset.univ fun p : Fin 4 => semVal (wCell c p) 0) ∗ hP m c) := by
  rw [show hP m c = _ from h_blocks m c, ← BI.bigSep_sep']
  have e := BI.bigSep_univ_equiv (Equiv.ofBijective _ (grp_bij c)) fun p : Fin 4 => iprop(semVal (wCell c p) 0 ∗ hPts m c p.val)
  rw [e]; exact .rfl
theorem r_back : (bigSep Finset.univ (recvdItem (F := F) c)) ⊢ bigSep Finset.univ fun s : Fin 32 => semVal (recvCell c s) 0 := by
  have e := BI.bigSep_univ_equiv (Equiv.ofBijective _ (recvSrc_bij c)) fun p : Fin 32 => (semVal (recvCell c p) 0 : sProp 𝕄)
  rw [e]; exact .rfl

theorem post : iprop(Sv m c 32 ∗ R5 m c)
    ⊢ iprop(Φ₁ m c ∗ Ow c 0 ∗ (((c : Thread nD τ).loc cc0_stg0_0) ↦{fullShare} (X m c)) ∗ Sc m c ∗ Out c (outAt m c)) := by
  unfold Sv R5 Rr Wv Φ₁ Sems Scr Ac gP
  rw [done_end (sendwdItem m c), done_end (recvdItem (F := F) c), done_end (wdItem m c), got_end, wgot_end]
  iintro ⟨⟨HO, -, HS⟩, HB, ⟨-, HR⟩, HG, ⟨-, HW, HD⟩, HA, HC, HU⟩
  ihave H := (x_back m c) $$ HS
  icases H with ⟨VS, HX⟩
  ihave H := (h_back m c) $$ HD
  icases H with ⟨VW, HH⟩
  ihave VR := (r_back c) $$ HR
  isplitr [HO HX HC HU]
  · isplitl [HB]; · iexact HB
    isplitl [HH]; · iexact HH
    isplitl [VS VW VR]
    · isplitl [VS]; · iexact VS
      isplitl [VR]; · iexact VR
      iexact VW
    isplitl [HG]; · iexists _; iexact HG
    isplitl [HW]; · iexists _; iexact HW
    iexists _; iexact HA
  isplitl [HO]; · iexact HO
  isplitl [HX]; · iexact HX
  isplitl [HC]; · iexact HC
  iexact HU

end

/-! ## The library's obligation -/

theorem bigSep_W (Φ : Fin cfg0.W → sProp 𝕄) : bigSep Finset.univ Φ = iprop(Φ (0 : Fin 4) ∗ Φ (1 : Fin 4) ∗ Φ (2 : Fin 4) ∗ Φ (3 : Fin 4)) := bigSep_W0 Φ

theorem owns_whole (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 4) t0_0 d))
    ∗ (∃ d, stg c cc0_stg1_0 ((dats m ρ 0 c).before (1 : Fin 4) t0_0 d))
    ∗ (∃ d, stg c cc0_stg2_0 ((dats m ρ 0 c).before (2 : Fin 4) t0_0 d))
    ∗ (∃ d, stg c cc0_stg3_0 ((dats m ρ 0 c).before (3 : Fin 4) t0_0 d)))

def bodyPost (c : Dev nD) : sProp 𝕄 :=
  iprop(Φ₁ m c ∗ (dats m ρ 0 c).owesAt () t0_0.succ ∗ stg c cc0_stg0_0 (X m c) ∗ stg c cc0_stg1_0 (SX m c) ∗ stg c cc0_stg2_0 (SW m c) ∗ stg c cc0_stg3_0 (outAt m c))

theorem before0 (c : Dev nD) (d) : (dats m ρ 0 c).before (0 : Fin 4) t0_0 d = X m c := by
  unfold Dat.before; rw [if_pos (fetch0_0 t0_0)]; rfl
theorem before1 (c : Dev nD) (d) : (dats m ρ 0 c).before (1 : Fin 4) t0_0 d = SX m c := by
  unfold Dat.before; rw [if_pos (fetch0_1 t0_0)]; rfl
theorem before2 (c : Dev nD) (d) : (dats m ρ 0 c).before (2 : Fin 4) t0_0 d = SW m c := by
  unfold Dat.before; rw [if_pos (fetch0_2 t0_0)]; rfl

theorem body_sound (c : Dev nD) : bodyPre m ρ c ⊢ wp frame (wpE (defs₀ (F := F)) 𝒱₀ (c : Thread nD τ) none) Set.univ
    (cc0_body (F := F) xM (Memref.isWhole_whole _) hM (Memref.isWhole_whole _) sxM (Memref.isWhole_whole _) swM (Memref.isWhole_whole _) oM (Memref.isWhole_whole _)
      gM (Memref.isWhole_whole _) wM (Memref.isWhole_whole _) cc0_scratch2 cc0_scratch3 cc0_scratch4 aM (Memref.isWhole_whole _)) (fun _ => bodyPost m ρ c) := by
  unfold bodyPre Φ₀ start G'
  simp only [before0, before1, before2]
  iintro ⟨⟨⟨⟨%K, #HR, HLin⟩, HCr, HL, HH⟩, HScr⟩, Ho, ⟨%d0, %g0, %hg0, HX⟩, ⟨%d1, %g1, %hg1, H1⟩, ⟨%d2, %g2, %hg2, H2⟩, ⟨%d3, %g3, %hg3, HU⟩⟩
  subst hg0; subst hg1; subst hg2
  iapply (body_run m K c (Memref.isWhole_whole _) (Memref.isWhole_whole _) (Memref.isWhole_whole _) (Memref.isWhole_whole _) (Memref.isWhole_whole _)
    (Memref.isWhole_whole _) (Memref.isWhole_whole _) (Memref.isWhole_whole _) (fun _ => bodyPost m ρ c))
  isplitr; · iexact HR
  isplitl
  · iapply (pre m c)
    isplitl [HLin]; · iexact HLin
    isplitl [HCr]; · iexact HCr
    isplitl [HL]; · iexact HL
    isplitl [HH]; · iexact HH
    isplitl [HScr]; · iexact HScr
    isplitl [Ho]
    · unfold Ow Dat.owesAt Pipeline.owesWithin
      icases Ho with ⟨%Wt, %hW, HO⟩
      iexists Wt; iexact HO
    isplitl [HX]; · iexact HX
    isplitl [H1 H2]
    · unfold Sc
      isplitl [H1]; · iexact H1
      iexact H2
    iexists g3; unfold Out; iexact HU
  iintro %r H
  ihave H := (post m c) $$ H
  icases H with ⟨HP, HO, HX, HC, HU⟩
  unfold bodyPost
  isplitl [HP]; · iexact HP
  isplitl [HO]
  · unfold Ow Dat.owesAt Pipeline.owesWithin
    icases HO with ⟨%Wt, HO⟩
    iexists Wt
    isplitr; · ipureintro; exact fun _ _ => Or.inl trivial
    iexact HO
  unfold Sc Out
  icases HC with ⟨H1, H2⟩
  isplitl [HX]
  · iexists _; isplitr; · (ipureintro; rfl)
    iexact HX
  isplitl [H1]
  · iexists _; isplitr; · (ipureintro; rfl)
    iexact H1
  isplitl [H2]
  · iexists _; isplitr; · (ipureintro; rfl)
    iexact H2
  iexists _; isplitr; · (ipureintro; rfl)
  iexact HU

/-- The body the pipeline calls at the grid's one point. -/
theorem body_at : defs₀ (F := F) Proc.tc 0 (t0_0, cfg0.slots t0_0)
    = cc0_body (F := F) xM (Memref.isWhole_whole _) hM (Memref.isWhole_whole _) sxM (Memref.isWhole_whole _) swM (Memref.isWhole_whole _) oM (Memref.isWhole_whole _)
      gM (Memref.isWhole_whole _) wM (Memref.isWhole_whole _) cc0_scratch2 cc0_scratch3 cc0_scratch4 aM (Memref.isWhole_whole _) := by
  show bodyAt0 t0_0 = _
  rfl

set_option maxRecDepth 100000 in
theorem body_obligation (c : Dev nD) : BodyObligation (dats (F := F) m ρ 0 c) (defs₀ (F := F)) 𝒱₀ () Set.univ := fun t => by
  rw [show t = t0_0 from fin_N0 t]
  rw [bigSep_W, bigSep_W]
  simp only [owns_whole]
  have h1 : (dats m ρ 0 c).Φ t0_0.castSucc = Φ₀ m c := rfl
  have h2 : (dats m ρ 0 c).Φ t0_0.succ = Φ₁ m c := rfl
  have h3 : (dats m ρ 0 c).after (0 : Fin 4) t0_0 = X m c := rfl
  have h4 : (dats m ρ 0 c).after (1 : Fin 4) t0_0 = SX m c := rfl
  have h5 : (dats m ρ 0 c).after (2 : Fin 4) t0_0 = SW m c := rfl
  have h6 : (dats m ρ 0 c).after (3 : Fin 4) t0_0 = outAt m c := rfl
  have h := body_sound m ρ c
  unfold bodyPre bodyPost at h
  rw [← h1, ← h2, ← h3, ← h4, ← h5, ← h6] at h
  rw [show defs₀ (F := F) Proc.tc 0 (t0_0, cfg0.slots t0_0) = _ from body_at]
  exact h

end Cert.KernelIdeal.Proto

end
-- ==== Proof.KernelIdealLaunch.lean ====
/-
# The whole machine's run

The launch deals every device its cells, tokens and credits; each runs its body; every execution ends with each device's
result written, its arguments as they were and every semaphore at zero.
-/
module

public import proofs.«01_k».proof.Proof.KernelIdealBody
public import Idealize.ShloMosaic.Lib.Pipeline.CollectiveSegs

@[expose] public section

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.RefSig (tileCredit)

variable {F : FTy → Type} [FloatOps F]

local notation "𝕄" => MT nD τ sig Unit (Elt F) ℕ UU ℕ

variable (m : (ℓ : Loc nD τ sig) → Buf (Elt F) ℓ) (ρ : Dev nD → PrngReg)

/-! ## The layout facts of the launch -/

theorem ownSemFacts : Pipeline.OwnSemFacts cfg0.spec osem := by decide
theorem share_eq (c : Dev nD) (w : Fin cfg0.W) : (dats m ρ 0 c).share w = fullShare := by unfold Dat.share; split <;> rfl

/-! ## The cells and the tokens the launch makes -/

def allCells : Finset (GSem nD τ sig) := Finset.univ.map ⟨kcell, kcell_injective⟩

/-- The duties of a device's own cells: one of each device at its barrier cell, one at each of the transfers'. -/
abbrev TK : Type := Fin 32 ⊕ OK
abbrev tkCell : TK → CK
  | .inl _ => .inl ()
  | .inr k => .inr k
abbrev tkDuty : TK → Dev nD
  | .inl d => d
  | .inr _ => (0 : Fin 32)
abbrev tokOf (cj : Dev nD × TK) : GSem nD τ sig × ℕ × Dev nD := (kcell (cj.1, tkCell cj.2), 0, tkDuty cj.2)
theorem tokOf_injective : Function.Injective tokOf := by
  rintro ⟨c, j⟩ ⟨c', j'⟩ h
  have h1 := kcell_injective (congrArg Prod.fst h)
  have h2 : tkDuty j = tkDuty j' := congrArg (fun x : GSem nD τ sig × ℕ × Dev nD => x.2.2) h
  have h3 : c = c' := congrArg Prod.fst h1
  have h4 : tkCell j = tkCell j' := congrArg Prod.snd h1
  subst h3
  rcases j with d | k <;> rcases j' with d' | k'
  · rw [show d = d' from h2]
  · cases h4
  · cases h4
  · rw [show k = k' from Sum.inr.inj h4]
def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- What the launch element deals each device: its cells at round 0, its positions there, its cells' tokens. -/
abbrev atAll (c : Dev nD) : sProp 𝕄 := bigSep Finset.univ fun k : CK => atPos ER (kcell (c, k)) 0 ∅ 0
abbrev toks (c : Dev nD) : sProp 𝕄 := bigSep Finset.univ fun j : TK => dutyTok ER (kcell (c, tkCell j)) 0 (tkDuty j)
abbrev reachedAll (c : Dev nD) : sProp 𝕄 := bigSep Finset.univ fun k : CK => reached ER (kcell (c, k)) 0
def G (c : Dev nD) : sProp 𝕄 :=
  iprop((bigSep Finset.univ fun k : CK => roundState ER (Rd m) (kcell (c, k)) 0) ∗ (reachedAll c ∗ atAll c) ∗ toks c)

theorem per_cell (Φ : GSem nD τ sig → sProp 𝕄) : bigSep allCells Φ = bigSep Finset.univ fun c : Dev nD => bigSep Finset.univ fun k : CK => Φ (kcell (c, k)) := by
  unfold allCells; rw [BI.bigSep_map, BI.bigSep_univ_prod]; rfl
theorem per_tok (Φ : GSem nD τ sig × ℕ × Dev nD → sProp 𝕄) : bigSep allToks Φ = bigSep Finset.univ fun c : Dev nD => bigSep Finset.univ fun j : TK => Φ (tokOf (c, j)) := by
  unfold allToks; rw [BI.bigSep_map, BI.bigSep_univ_prod]; rfl

theorem fund_all : BI.own (ER (initOf allCells allToks)) ⊢ (|==> bigSep Finset.univ (G m) : sProp 𝕄) := by
  have h1 := per_cell fun g => roundState ER (Rd (F := F) m) g 0
  have h2 := per_cell (F := F) fun g => reached ER g 0
  have h3 := per_cell (F := F) fun g => atPos ER g 0 ∅ 0
  have h4 := per_tok (F := F) fun x => dutyTok ER x.1 x.2.1 x.2.2
  iintro HX
  imod (Rounds.fund ER (Rd m) allCells allToks) $$ HX with ⟨Hst, Hr, Hat, Htok⟩
  imodintro
  unfold G; simp only [BI.bigSep_sep']
  isplitl [Hst]; · iapply (Entails.of_eq h1); iexact Hst
  isplitr [Htok]
  · isplitl [Hr]; · iapply (Entails.of_eq h2); iexact Hr
    iapply (Entails.of_eq h3); iexact Hat
  iapply (Entails.of_eq h4); iexact Htok

/-! ## Every device's cells to their invariants -/

theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's cells are its barrier cell and its own. -/
theorem ck_split (Φ : CK → sProp 𝕄) : bigSep Finset.univ Φ = iprop(Φ (.inl ()) ∗ bigSep Finset.univ fun k : OK => Φ (.inr k)) := by
  rw [BI.bigSep_univ_sum, BI.bigSep_univ_of_subsingleton ()]; rfl
theorem ok_split (Φ : OK → sProp 𝕄) : bigSep Finset.univ Φ
    = iprop((bigSep Finset.univ fun p : Fin 32 => Φ (.inl p)) ∗ (bigSep Finset.univ fun s : Fin 32 => Φ (.inr (.inl s))) ∗ bigSep Finset.univ fun p : Fin 4 => Φ (.inr (.inr p))) := by
  rw [BI.bigSep_univ_sum, BI.bigSep_univ_sum]; rfl

theorem ownSems0_eq (c : Dev nD) : (Pipeline.ownSems0 (Ix := Unit) (Name := ℕ) (U := UU) (Lvl := ℕ) (Val := Elt F) (τ := τ) osem c : sProp 𝕄) = Sems c := by
  unfold Pipeline.ownSems0 Sems; rw [ok_split]

theorem sems_all (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, ck_split]; exact BI.sep_comm

theorem cells_alloc (c : Dev nD) :
    iprop((bigSep Finset.univ fun k : CK => semVal (kcell (c, k)) 0) ∗ bigSep Finset.univ fun k : CK => roundState ER (Rd m) (kcell (c, k)) 0)
      ⊢ (|={Set.univ}=> bigSep Finset.univ fun k : CK => iprop(∃ κ : ℕ, cellInv ER (Rd m) κ (kcell (c, k))) : sProp 𝕄) := by
  rw [← BI.bigSep_sep']
  exact (bigSep_mono fun k _ => (Rounds.body_intro ER (Rd m) (kcell (c, k))).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (Rd m) κ (kcell (c, k)))) ∗ reachedAll c ∗ atAll c ∗ toks c) := by
  unfold G
  iintro ⟨Hos, Hus, Hst, ⟨Hr, Hat⟩, Htok⟩
  ihave Hv := (sems_all (F := F) c) $$ [Hos Hus]
  · isplitl [Hos] <;> iassumption
  imod (cells_alloc m c) $$ [Hv Hst] with Hinv
  · isplitl [Hv] <;> iassumption
  imodintro
  isplitl [Hinv]; · iexact Hinv
  isplitl [Hr]; · iexact Hr
  isplitl [Hat]; · iexact Hat
  iexact Htok

/-! ## The tokens to the devices that pay -/

abbrev barTok (c d : Dev nD) : sProp 𝕄 := dutyTok ER (barCell c) 0 d
abbrev sendTok (c : Dev nD) (p : Fin 32) : sProp 𝕄 := dutyTok ER (sendCell c p) 0 (0 : Fin 32)
abbrev recvTok (c : Dev nD) (s : Fin 32) : sProp 𝕄 := dutyTok ER (recvCell c s) 0 (0 : Fin 32)
abbrev wTok (c : Dev nD) (p : Fin 4) : sProp 𝕄 := dutyTok ER (wCell c p) 0 (0 : Fin 32)
/-- The tokens of the duties device `c` pays. -/
def payToks (c : Dev nD) : sProp 𝕄 :=
  iprop((bigSep Finset.univ fun k : Fin 32 => barTok (sigPeer c k) c) ∗ (bigSep Finset.univ fun i : Fin 32 => sendTok c (sendPeer c i))
    ∗ (bigSep Finset.univ fun i : Fin 32 => recvTok (sendPeer c i) c) ∗ bigSep Finset.univ fun p : Fin 4 => wTok c p)

theorem toks_eq (c : Dev nD) : (toks c : sProp 𝕄) = iprop((bigSep Finset.univ fun d : Fin 32 => barTok c d) ∗ (bigSep Finset.univ fun p : Fin 32 => sendTok c p)
    ∗ (bigSep Finset.univ fun s : Fin 32 => recvTok c s) ∗ bigSep Finset.univ fun p : Fin 4 => wTok c p) := by
  unfold toks; rw [BI.bigSep_univ_sum, ok_split]; rfl

/-- A family over the pairs of devices, dealt by the first and given to the second along each one's permutation. -/
theorem dealt (Φ : Dev nD → Dev nD → sProp 𝕄) (e : Dev nD → Fin 32 → Dev nD) (he : ∀ c, Function.Bijective (e c)) :
    (bigSep Finset.univ fun c : Dev nD => bigSep Finset.univ fun d : Dev nD => Φ c d) = bigSep Finset.univ fun c : Dev nD => bigSep Finset.univ fun k : Fin 32 => Φ (e c k) c := by
  rw [BI.bigSep_univ_comm]
  exact BI.bigSep_congr fun c _ => BI.bigSep_univ_equiv (Equiv.ofBijective _ (he c)) fun d => Φ d c

theorem toks_dealt : (bigSep Finset.univ fun c : Dev nD => (toks c : sProp 𝕄)) = bigSep Finset.univ fun c : Dev nD => payToks c := by
  have h1 := dealt (F := F) barTok sigPeer sigPeer_bij
  have h2 : (bigSep Finset.univ fun c : Dev nD => bigSep Finset.univ fun p : Fin 32 => sendTok (F := F) c p) = bigSep Finset.univ fun c : Dev nD => bigSep Finset.univ fun i : Fin 32 => sendTok c (sendPeer c i) :=
    BI.bigSep_congr fun c _ => BI.bigSep_univ_equiv (Equiv.ofBijective _ (sendPeer_bij c)) fun p => sendTok c p
  have h3 := dealt (F := F) recvTok sendPeer sendPeer_bij
  rw [BI.bigSep_congr fun (c : Dev nD) _ => toks_eq (F := F) c]
  unfold payToks
  simp only [BI.bigSep_sep']
  exact congr (congrArg _ h1) (congr (congrArg _ h2) (congr (congrArg _ h3) rfl))

theorem at_eq (c : Dev nD) : (atAll c : sProp 𝕄) = iprop(atPos ER (barCell c) 0 ∅ 0 ∗ (bigSep Finset.univ fun p : Fin 32 => atPos ER (sendCell c p) 0 ∅ 0)
    ∗ (bigSep Finset.univ fun s : Fin 32 => atPos ER (recvCell c s) 0 ∅ 0) ∗ AtW c) := by
  unfold atAll; rw [ck_split, ok_split]; rfl

theorem lin_intro (c : Dev nD) : iprop(atAll c ∗ payToks c) ⊢ Lin (F := F) c := by
  rw [at_eq]; unfold payToks Lin
  iintro ⟨⟨AB, AS, AR, AW⟩, T1, T2, T3, T4⟩
  isplitl [T1]; · iexact T1
  isplitl [T2]; · iexact T2
  isplitl [T3]; · iexact T3
  isplitl [T4]; · iexact T4
  isplitl [AB]; · iexact AB
  isplitl [AS]; · iexact AS
  isplitl [AR]; · iexact AR
  iexact AW

theorem g_intro (K : Dev nD × CK → ℕ) (c : Dev nD) : iprop(records m K ∗ atAll c ∗ payToks c) ⊢ G' m c := by
  unfold G'
  iintro ⟨#HR, H⟩
  iexists K
  isplitr; · iexact HR
  iapply (lin_intro c); iexact H

theorem g_all (K : Dev nD × CK → ℕ) : iprop(records m K ∗ bigSep Finset.univ fun c : Dev nD => iprop(atAll c ∗ payToks c)) ⊢ bigSep Finset.univ (G' m) :=
  (sep_mono_left (BI.bigSep_of_persistent Finset.univ (records m K))).trans ((Entails.of_eq (BI.bigSep_sep' _ _ _).symm).trans (bigSep_mono fun c _ => g_intro m K c))

theorem inv_names : (bigSep Finset.univ fun c : Dev nD => bigSep Finset.univ fun k : CK => iprop(∃ κ : ℕ, cellInv ER (Rd m) κ (kcell (c, k))))
    ⊢ (iprop(∃ K : Dev nD × CK → ℕ, bigSep Finset.univ fun ck : Dev nD × CK => cellInv ER (Rd m) (K ck) (kcell ck)) : sProp 𝕄) :=
  (Entails.of_eq (BI.bigSep_univ_prod fun ck : Dev nD × CK => iprop(∃ κ : ℕ, cellInv ER (Rd m) κ (kcell ck))).symm).trans
    (BI.bigSep_exists_pi Finset.univ fun (ck : Dev nD × CK) (κ : ℕ) => (cellInv ER (Rd m) κ (kcell ck) : sProp 𝕄))

theorem regroup :
    (bigSep Finset.univ fun c : Dev nD => iprop((bigSep Finset.univ fun k : CK => iprop(∃ κ : ℕ, cellInv ER (Rd m) κ (kcell (c, k)))) ∗ reachedAll c ∗ atAll c ∗ toks c))
      ⊢ bigSep Finset.univ (G' m) := by
  have hr := (BI.bigSep_univ_prod fun ck : Dev nD × CK => (reached ER (kcell ck) 0 : sProp 𝕄)).symm
  have ht := toks_dealt (F := F)
  have hs := (BI.bigSep_sep' Finset.univ (fun c : Dev nD => (atAll c : sProp 𝕄)) payToks).symm
  simp only [BI.bigSep_sep']
  iintro ⟨HI, HR, Hat, Htok⟩
  ihave HK := (inv_names m) $$ HI
  icases HK with ⟨%K, HI⟩
  ihave H := (g_all m K) $$ [HI HR Hat Htok]
  · isplitl [HI HR]
    · unfold records
      isplitl [HI]; · iexact HI
      iapply (Entails.of_eq hr); iexact HR
    · iapply (Entails.of_eq hs)
      isplitl [Hat]; · iexact Hat
      iapply (Entails.of_eq ht); iexact Htok
  iexact H

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits the launch deals -/

theorem bar_iff (a b : Dev nD) : barCell a = barCell b ↔ a = b :=
  ⟨fun h => congrArg Prod.fst (kcell_injective (show kcell (a, .inl ()) = kcell (b, .inl ()) from h)), fun h => h ▸ rfl⟩
theorem recv_iff (a b : Dev nD) (s t : Fin 32) : recvCell a s = recvCell b t ↔ a = b ∧ s = t := by
  refine ⟨fun h => ?_, fun h => by rw [h.1, h.2]⟩
  have h' := kcell_injective (show kcell (a, .inr (.inr (.inl s))) = kcell (b, .inr (.inr (.inl t))) from h)
  exact ⟨congrArg Prod.fst h', Sum.inl.inj (Sum.inr.inj (Sum.inr.inj (congrArg Prod.snd h')))⟩

/-- A device owes a barrier cell nothing of its transfers, a receive cell nothing of its signals. -/
theorem or_bar (d c : Dev nD) : Or' d 0 (barCell c) () = 0 := by
  by_contra h
  obtain ⟨a, s, e⟩ := Or_pos (Nat.pos_of_ne_zero h)
  have e' := kcell_injective (show kcell (c, .inl ()) = kcell (a, .inr (.inr (.inl s))) from e)
  cases congrArg Prod.snd e'
theorem ob_recv (d c : Dev nD) (s : Fin 32) : Ob d 1 (recvCell c s) () = 0 := by
  by_contra h
  obtain ⟨i, e⟩ := sum_pos (Nat.pos_of_ne_zero h)
  have e' := kcell_injective (show kcell (c, .inr (.inr (.inl s))) = kcell (sigPeer d i, .inl ()) from e)
  cases congrArg Prod.snd e'

/-- One unit of one signal for each barrier cell, a device's own among them. -/
theorem ob_bar (d c : Dev nD) : Ob d 0 (barCell c) () = 1 := by
  unfold Ob
  rw [Finset.sum_apply, Finsupp.finsetSum_apply, Finset.filter_true_of_mem fun i _ => Nat.zero_le _]
  have h : ∀ k : Fin 32, (tallyAt (barCell (sigPeer d k)) () 1 : CellTallies nD τ sig Unit) (barCell c) () = (fun b : Dev nD => if c = b then 1 else 0) (sigPeer d k) := fun k => by
    rw [tallyAt_apply]; simp only [bar_iff, and_true]
  rw [Finset.sum_congr rfl fun k _ => h k, (sigPeer_bij d).sum_comp fun b : Dev nD => if c = b then 1 else 0, Finset.sum_ite_eq, if_pos (Finset.mem_univ _)]
theorem ob_own (d c : Dev nD) : Ob d 1 (barCell c) () + (if c = d then 1 else 0) = 1 := by
  have h := ob_bar d c
  rw [Ob_step d (by decide : 0 < 32), show (⟨0, by decide⟩ : Fin 32) = 0 from rfl, sigPeer_zero, Pi.add_apply, Finsupp.add_apply, tallyAt_apply] at h
  simpa only [bar_iff, and_true] using h
theorem owed_bar (d c : Dev nD) : O₀ d (barCell c) () + (if c = d then 1 else 0) = 1 := by
  unfold O₀
  rw [Pi.add_apply, Finsupp.add_apply, or_bar, Nat.zero_add, ob_own]
theorem owed_recv (d c : Dev nD) (s : Fin 32) : O₀ d (recvCell c s) () = if s = d then NX else 0 := by
  unfold O₀
  rw [Pi.add_apply, Finsupp.add_apply, ob_recv, Nat.add_zero]
  unfold Or'
  rw [Finset.sum_apply, Finsupp.finsetSum_apply, Finset.filter_true_of_mem fun i _ => Nat.zero_le _]
  have h : ∀ i : Fin 32, (tallyAt (recvCell (sendPeer d i) d) () NX : CellTallies nD τ sig Unit) (recvCell c s) ()
      = (fun b : Dev nD => if c = b then (if s = d then NX else 0) else 0) (sendPeer d i) := fun i => by
    rw [tallyAt_apply]; simp only [recv_iff, and_true, ite_and]
  rw [Finset.sum_congr rfl fun i _ => h i, (sendPeer_bij d).sum_comp fun b : Dev nD => if c = b then (if s = d then NX else 0) else 0, Finset.sum_ite_eq, if_pos (Finset.mem_univ _)]

theorem launch_bar (c : Dev nD) :
    tallyOn (barCell c) (launchCredit (Pipeline.owing O₀) 0 (barCell c)) = (tallyAt (barCell c) () 31 : CellTallies nD τ sig Unit) := by
  unfold tallyAt; refine congrArg _ (Finsupp.ext fun u => ?_); cases u
  rw [Pipeline.launchCredit_owing, Finsupp.single_eq_same]
  have h : ∑ d : Dev nD, (O₀ d (barCell c) () + if c = d then 1 else 0) = 32 := by
    rw [Finset.sum_congr rfl fun d _ => owed_bar d c, Finset.sum_const, Finset.card_univ, Fintype.card_fin]; rfl
  rw [Finset.sum_add_distrib, Finset.sum_ite_eq, if_pos (Finset.mem_univ _)] at h
  exact Nat.add_right_cancel (m := 1) h
theorem launch_recv (c : Dev nD) (s : Fin 32) :
    tallyOn (recvCell c s) (launchCredit (Pipeline.owing O₀) 0 (recvCell c s)) = (tallyAt (recvCell c s) () NX : CellTallies nD τ sig Unit) := by
  unfold tallyAt; refine congrArg _ (Finsupp.ext fun u => ?_); cases u
  rw [Pipeline.launchCredit_owing, Finsupp.single_eq_same, Finset.sum_congr rfl fun d _ => owed_recv d c s, Finset.sum_ite_eq, if_pos (Finset.mem_univ _)]

def recvEmb : Fin 32 ↪ SemLoc sig := ⟨fun s => .dma (recvS s), fun s t h => ((recv_iff 0 0 s t).mp (congrArg (fun x => ((((0 : Dev nD) : Thread nD τ), x) : GSem nD τ sig)) h)).2⟩

theorem creds (c : Dev nD) : (Pipeline.launchCred O₀ c : sProp 𝕄) ⊢ Cr c := by
  have hs : Finset.univ.map recvEmb ⊆ Finset.univ.erase (SemLoc.reg barS : SemLoc sig) := fun x hx => by
    obtain ⟨s, -, rfl⟩ := Finset.mem_map.mp hx
    refine Finset.mem_erase.mpr ⟨fun h => ?_, Finset.mem_univ _⟩
    cases h
  unfold Pipeline.launchCred Cr
  rw [bigSep_univ_at _ (SemLoc.reg barS), launch_bar]
  refine sep_mono_right ((BI.bigSep_subset hs).trans ?_)
  rw [BI.bigSep_map]
  exact Entails.of_eq (BI.bigSep_congr fun s _ => congrArg cred (launch_recv c s))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  have hH : (Pipeline.unscopedRestP (Ix := Unit) (Name := ℕ) (U := UU) (Lvl := ℕ) Pipeline.Prefetch.none cfg0.spec c (fun b => m ((c : Thread nD τ).loc b)) : sProp 𝕄) = hP m c :=
    (Pipeline.unscopedRestP_none cfg0.spec c _).trans (unscopedRest0_eq c _)
  rw [hH]
  iintro ⟨HH, Hlev, Hcr, -, HG⟩
  imodintro
  unfold start
  isplitl
  · isplitl [HG]; · iexact HG
    isplitl [Hcr]; · iapply (creds c); iexact Hcr
    isplitl [Hlev]; · iexact Hlev
    iexact HH
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  unfold Scr; iexact Hr

theorem phi1_exit (c : Dev nD) :
    (dats m ρ 0 c).Φ (Fin.last cfg0.N) ⊢ iprop((unscopedSems0 c ∗ hP m c) ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨HB, HH, HS, Hr⟩
  isplitl [HB HH]
  · isplitl [HB] <;> iassumption
  isplitl [HS]; · iexact HS
  unfold Scr; iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N
def QC : PUnit × MemSt nD τ sig (Elt F) → Prop := fun r =>
  ∀ c : Dev nD, (∀ w : Fin cfg0.W, r.2.mem ((cfg0.win w).arr.view.loc (c : Thread nD τ)) = finalA m ρ c w)
    ∧ r.2.mem ((c : Thread nD τ).loc main_arg1) = m ((c : Thread nD τ).loc main_arg1)

/-- The weights read at the end. -/
theorem h_read (c : Dev nD) (s' : Phys nD τ sig (Elt F)) : iprop(hP m c ∗ SI s') ⊢ iprop(⌜s'.mem.mem ((c : Thread nD τ).loc main_arg1) = W m c⌝ ∗ SI s') := by
  have h := pointsTo_read_all (Ix := Unit) (Name := ℕ) (U := UU) (Lvl := ℕ) (Finset.univ : Finset Unit) (fun _ => (c : Thread nD τ).loc main_arg1) (fun _ => W m c) s'
  rw [BI.bigSep_univ_of_subsingleton ()] at h
  iintro H
  ihave H' := h $$ H
  icases H' with ⟨%h', HS⟩
  isplitr; · ipureintro; exact h' () (Finset.mem_univ _)
  iexact HS

theorem end_read (c : Dev nD) (s' : Phys nD τ sig (Elt F)) :
    iprop((unscopedSems0 c ∗ hP m c) ∗ emp ∗ SI s') ⊢ (|={Set.univ}=> iprop(⌜(∀ sm : SemLoc sig, sm.isScoped .tc = false → s'.mem.sem ((c.tc : Thread nD τ), sm) = 0)
      ∧ s'.mem.mem ((c : Thread nD τ).loc main_arg1) = m ((c : Thread nD τ).loc main_arg1)⌝ ∗ SI s') : sProp 𝕄) := by
  iintro ⟨⟨Hu, HH⟩, -, HSI⟩
  ihave H := (h_read m c s') $$ [HH HSI]
  · isplitl [HH] <;> iassumption
  icases H with ⟨%h1, HSI⟩
  imod (Pipeline.unscopedSems0_read (X := unscopedSems0 c) (c := c) fupd_intro s') $$ [Hu HSI] with ⟨%h2, HSI⟩
  · isplitl [Hu] <;> iassumption
  imodintro
  isplitr; · ipureintro; exact ⟨h2, h1⟩
  iexact HSI

set_option maxRecDepth 100000 in
/-- From any memory with zero counters every weakly fair execution of the 32 devices' kernels terminates; at its end each
    device's windows' arrays hold the computed contents, the weights what they held, and every semaphore counter is zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ hP m c)) (Z := fun _ => iprop(emp))
    (hX := start_intro m ρ) (hin := phi0_intro m ρ) (hout := phi1_exit m ρ)
    (QY := fun c s => (∀ sm : SemLoc sig, sm.isScoped .tc = false → s.sem ((c.tc : Thread nD τ), sm) = 0)
      ∧ s.mem ((c : Thread nD τ).loc main_arg1) = m ((c : Thread nD τ).loc main_arg1))
    (hY := end_read m)
    (hQ := fun _ h hs => ⟨fun c => ⟨fun w => (h c).1 w, (h c).2.2.2⟩, sem_eq_zero hs fun c => (h c).2.2.1⟩)

/-! ## Its ends -/

theorem read_main_arg0 (c : Dev nD) : X m c = m ((c : Thread nD τ).loc main_arg0) :=
  Memref.read_access_unit_zero (Elt F) main_arg0 (show (fun a => (win0_0.index t0_0) a * main_arg0.ty.shape.size a) = fun _ => 0 from
    funext fun a => by fin_cases a <;> decide) (fun a => by fin_cases a <;> decide) _
theorem read_main_arg2 (c : Dev nD) : SX m c = m ((c : Thread nD τ).loc main_arg2) :=
  Memref.read_access_unit_zero (Elt F) main_arg2 (show (fun a => (win0_1.index t0_0) a * main_arg2.ty.shape.size a) = fun _ => 0 from
    funext fun a => by fin_cases a <;> decide) (fun a => by fin_cases a <;> decide) _
theorem read_main_arg3 (c : Dev nD) : SW m c = m ((c : Thread nD τ).loc main_arg3) :=
  Memref.read_access_unit_zero (Elt F) main_arg3 (show (fun a => (win0_2.index t0_0) a * main_arg3.ty.shape.size a) = fun _ => 0 from
    funext fun a => by fin_cases a <;> decide) (fun a => by fin_cases a <;> decide) _
theorem read_main_v1 (f : S128x2048.Idx → Elt F .f32) : (win0_3.blk t0_0).view.read (Elt F) f = f :=
  Memref.read_access_unit_zero (Elt F) main_v1 (show (fun a => (win0_3.index t0_0) a * main_v1.ty.shape.size a) = fun _ => 0 from
    funext fun a => by fin_cases a <;> decide) (fun a => by fin_cases a <;> decide) _

/-- The result array ends holding the computed contents. -/
theorem final_v1 (c : Dev nD) : finalA m ρ c (3 : Fin 4) = outAt m c := by
  have hw : ((cfg0.win 3).blk t0_0).view.read (Elt F) (finalA m ρ c (3 : Fin 4)) = (dats m ρ 0 c).flushed (3 : Fin 4) t0_0 := by
    unfold finalA
    rw [show cfg0.N = t0_0.val + 1 from rfl, (dats m ρ 0 c).arrAt_succ (3 : Fin 4) t0_0, flush0_3, if_pos rfl]
    exact View.read_write_univ _ _
  exact (read_main_v1 _).symm.trans hw

/-- What a whole run leaves: the arguments as they were, the result at the computed contents, every semaphore at zero. -/
theorem run_all : θ_run defs (onTc (τ := τ) (main (F := F))) (s₀ m ρ) (fun r =>
    (∀ c : Dev nD, r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
    ∧ r.2.sem = fun _ => 0) :=
  (θ_run defs _ _).mono (fun r h => ⟨fun c => ⟨((h.1 c).1 (3 : Fin 4)).trans (final_v1 m ρ c),
    ((h.1 c).1 (0 : Fin 4)).trans ((dats m ρ 0 c).arrAt_in (0 : Fin 4) rfl _), (h.1 c).2,
    ((h.1 c).1 (1 : Fin 4)).trans ((dats m ρ 0 c).arrAt_in (1 : Fin 4) rfl _), ((h.1 c).1 (2 : Fin 4)).trans ((dats m ρ 0 c).arrAt_in (2 : Fin 4) rfl _)⟩, h.2⟩)
    (run_main m ρ)

end Cert.KernelIdeal.Proto

end
-- ==== Proof.KernelIdealValue.lean ====
/-
# The value of the kernel

With no weight -128, what device `c` leaves in its result is rows `128 c` to `128 c + 127` of the reference's result: the
gathered block holds those rows of the whole `x`, the four products are exact and add up to the whole sum, and both
programs multiply that integer, read as a float, by the product of the two scales.
-/
module

public import proofs.«01_k».proof.Proof.IntProduct
public import proofs.«01_k».proof.Proof.ReferenceRun
public import proofs.«01_k».proof.Proof.KernelIdealLaunch
public import proofs.«01_k».proof.Proof.Gen.Pre_no_min_weight_KernelIdeal
public import Idealize.ShloMosaic.Lib.ReduceAll
public import Idealize.ShloMosaic.Lib.Layout

@[expose] public section

noncomputable section

namespace Cert.KernelIdeal.Proto

open Cert.KernelIdeal Cert.KernelIdeal.Gen
open Idealize.ShloMosaic Idealize.ShloMosaic.TcCoe Idealize.ShloMosaic.ValueIdx Idealize.SL.Sem
open Cert.IntProduct
open scoped BigOperators

/-- The precondition says of each weight that it is not -128. -/
theorem weight_ne {F : FTy → Type} [FloatOps F] (x : IVec S4096x128 8) (w : IVec S4096x2048 8) (sx sw : FVec F S1 .f32)
    (h : Cert.Pre_no_min_weight_KernelIdeal.fn x w sx sw = fun _ => 1#1) (i : S4096x2048.Idx) : w i ≠ 128#8 := by
  intro e
  haveI : Subsingleton Cert.Pre_no_min_weight_KernelIdeal.S_.Idx := ⟨fun a b => funext fun k => k.elim0⟩
  have h1 := Host.reduce_andi_all _ _ _ _ (fun k => k.elim0) (congrFun h (fun k => k.elim0)) i
  have h2 : Scalar.cmpi .ne (w i) (128#8) = 1#1 := h1
  rw [e] at h2
  exact absurd h2 (by decide)

section
variable {F : FTy → Type} [FloatOps F] (m : (ℓ : Loc nD τ sig) → Buf (Elt F) ℓ)

/-- A group's columns of the gathered block, one by one, -/
theorem xgl_apply (c : Dev nD) (g : Fin 4) (r : Fin 128) (k : Fin 1024) :
    xgl m c g (ix2 r k) = XG m c (ix2 r ⟨1024 * g.val + k.val, by omega⟩ : S128x4096.Idx) := by
  show XG m c _ = _
  refine congrArg (XG m c) (funext fun a => Fin.ext ?_)
  fin_cases a
  · show 0 + 1 * r.val = r.val; omega
  · show 1024 * g.val + 1 * k.val = 1024 * g.val + k.val; omega
/-- and its rows of the weights. -/
theorem wl_apply (c : Dev nD) (g : Fin 4) (k : Fin 1024) (j : Fin 2048) :
    wl m c g (ix2 k j) = W m c (ix2 ⟨1024 * g.val + k.val, by omega⟩ j : S4096x2048.Idx) := by
  show W m c _ = _
  refine congrArg (W m c) (funext fun a => Fin.ext ?_)
  fin_cases a
  · show 1024 * g.val + 1 * k.val = 1024 * g.val + k.val; omega
  · show 0 + 1 * j.val = j.val; omega

/-- Row `r` of the block device `c` gathers is row `128 c + r` of the whole array. -/
theorem XG_apply (x : IVec Cert.ReferenceIdeal.S4096x4096 8)
    (hx : ∀ c : Dev nD, m ((c.tc : Thread nD τ).loc main_arg0) = Layout.block ⟨2, ![4096, 128]⟩ ⟨2, ![4096, 4096]⟩ 1 32 c x)
    (c : Dev nD) (r : Fin 128) (q : Fin 4096) (hr : 128 * c.val + r.val < 4096) :
    XG m c (ix2 r q : S128x4096.Idx) = x (ix2 ⟨128 * c.val + r.val, hr⟩ q : Cert.ReferenceIdeal.S4096x4096.Idx) := by
  show X m (srcDev (ix2 r q : S128x4096.Idx)) _ = _
  rw [read_main_arg0, hx]
  refine congrArg x (funext fun a => Fin.ext ?_)
  fin_cases a
  · rfl
  · show q.val / 128 * 128 + q.val % 128 = q.val
    omega
end

/-- The accumulator after the fourth step is the word of the whole sum of products. -/
theorem ac4_apply {F : FTy → Type} [FloatOps F] (m : (ℓ : Loc nD τ sig) → Buf (Elt F) ℓ) (x : IVec Cert.ReferenceIdeal.S4096x4096 8) (w : IVec S4096x2048 8)
    (hx : ∀ c : Dev nD, m ((c.tc : Thread nD τ).loc main_arg0) = Layout.block ⟨2, ![4096, 128]⟩ ⟨2, ![4096, 4096]⟩ 1 32 c x)
    (hw : ∀ c : Dev nD, m ((c.tc : Thread nD τ).loc main_arg1) = w) (hne : ∀ i, w i ≠ 128#8)
    (c : Dev nD) (r : Fin 128) (j : Fin 2048) (hr : 128 * c.val + r.val < 4096) :
    ac4 m c (ix2 r j : S128x2048.Idx) = BitVec.ofInt 32 (dot x w ⟨128 * c.val + r.val, hr⟩ j) := by
  have hg : ∀ g : Fin 4, matmulI8 IntMxuNumerics.v7x dot_S128x1024_S1024x2048_S128x2048_1_0_0_1_n_n (xgl m c g) (wl m c g)
      (constantI S128x2048 32 0#32) (ix2 r j : S128x2048.Idx) = BitVec.ofInt 32 (dot (xgl m c g) (wl m c g) r j) := fun g =>
    exact_1024 (xgl m c g) (wl m c g) _ (fun i => by
      obtain ⟨a, b, rfl⟩ : ∃ a b, i = ix2 a b := ⟨_, _, eq_ix2 i⟩
      exact fun e => hne _ ((congrFun (hw c) _).symm.trans ((wl_apply m c g a b).symm.trans e))) r j rfl
  have hs : ∑ g : Fin 4, dot (xgl m c g) (wl m c g) r j = dot x w ⟨128 * c.val + r.val, hr⟩ j := by
    refine Eq.trans (Finset.sum_congr rfl fun g _ => Finset.sum_congr rfl fun k _ => ?_)
      (sum_groups fun q : Fin 4096 => (x (ix2 ⟨128 * c.val + r.val, hr⟩ q)).toInt * (w (ix2 q j)).toInt)
    rw [xgl_apply, wl_apply, XG_apply m x hx c r _ hr, show W m c = w from hw c]
  rw [← hs, ← add_groups (fun g => dot (xgl m c g) (wl m c g) r j) (grp c) (grp_bij c)]
  simp only [ac4, ac3, ac2, ac1, k0_pay4, k0_pay3, k0_pay2, k0_pay1, Idealize.ShloMosaic.shapeCast_self]
  show _ + _ + _ + _ = _
  rw [hg, hg, hg, hg]

/-- Row `r` of device `c`'s result is row `128 c + r` of the reference's. -/
theorem outAt_apply (m : (ℓ : Loc nD τ sig) → Buf (Elt Ideal) ℓ) (x : IVec Cert.ReferenceIdeal.S4096x4096 8) (w : IVec S4096x2048 8) (sx sw : FVec Ideal S1 .f32)
    (hx : ∀ c : Dev nD, m ((c.tc : Thread nD τ).loc main_arg0) = Layout.block ⟨2, ![4096, 128]⟩ ⟨2, ![4096, 4096]⟩ 1 32 c x)
    (hw : ∀ c : Dev nD, m ((c.tc : Thread nD τ).loc main_arg1) = w) (hsx : ∀ c : Dev nD, m ((c.tc : Thread nD τ).loc main_arg2) = sx)
    (hsw : ∀ c : Dev nD, m ((c.tc : Thread nD τ).loc main_arg3) = sw) (hne : ∀ i, w i ≠ 128#8)
    (c : Dev nD) (r : Fin 128) (j : Fin 2048) (hr : 128 * c.val + r.val < 4096) :
    outAt m c (ix2 r j : S128x2048.Idx)
      = Cert.ReferenceIdeal.Proto.result (F := Ideal) x w sx sw (ix2 ⟨128 * c.val + r.val, hr⟩ j : S4096x2048.Idx) := by
  have hl : outAt m c (ix2 r j : S128x2048.Idx)
      = (((ac4 m c (ix2 r j : S128x2048.Idx)).toInt : ℝ) : EReal) * ((SX m c ix1 : EReal) * (SW m c ix1 : EReal)) := rfl
  have hp : Cert.ReferenceIdeal.Proto.product (F := Ideal) x w (ix2 ⟨128 * c.val + r.val, hr⟩ j : S4096x2048.Idx)
      = (((dot x w ⟨128 * c.val + r.val, hr⟩ j : ℤ) : ℝ) : EReal) :=
    ideal_dot none x w Cert.ReferenceIdeal.Gen.facts.natLt_8_32 ⟨128 * c.val + r.val, hr⟩ j
  have hq : Cert.ReferenceIdeal.Proto.scales (F := Ideal) sx sw (ix2 ⟨128 * c.val + r.val, hr⟩ j : S4096x2048.Idx)
      = (sx ix1 : EReal) * (sw ix1 : EReal) := by
    have e : ∀ i : S1.Idx, mulf sx sw i = (sx ix1 : EReal) * (sw ix1 : EReal) := fun i => by rw [ix1_eq i]; rfl
    exact e _
  rw [hl, ac4_apply m x w hx hw hne c r j hr, toInt_word, read_main_arg2, read_main_arg3, hsx, hsw]
  exact (congrArg₂ (fun a b : EReal => a * b) hp hq).symm

/-- Device `c`'s result is its block of the reference's. -/
theorem outAt_eq (m : (ℓ : Loc nD τ sig) → Buf (Elt Ideal) ℓ) (x : IVec Cert.ReferenceIdeal.S4096x4096 8) (w : IVec S4096x2048 8) (sx sw : FVec Ideal S1 .f32)
    (hx : ∀ c : Dev nD, m ((c.tc : Thread nD τ).loc main_arg0) = Layout.block ⟨2, ![4096, 128]⟩ ⟨2, ![4096, 4096]⟩ 1 32 c x)
    (hw : ∀ c : Dev nD, m ((c.tc : Thread nD τ).loc main_arg1) = w) (hsx : ∀ c : Dev nD, m ((c.tc : Thread nD τ).loc main_arg2) = sx)
    (hsw : ∀ c : Dev nD, m ((c.tc : Thread nD τ).loc main_arg3) = sw) (hne : ∀ i, w i ≠ 128#8) (c : Dev nD) :
    outAt m c = Layout.block ⟨2, ![128, 2048]⟩ ⟨2, ![4096, 2048]⟩ 0 32 c (Cert.ReferenceIdeal.Proto.result (F := Ideal) x w sx sw) := by
  funext i
  have h1 : c.val < 32 := c.isLt
  have h2 : (i 0).val < 128 := (i 0).isLt
  have hr : 128 * c.val + (i 0).val < 4096 := by omega
  have h := outAt_apply m x w sx sw hx hw hsx hsw hne c (i 0) (i 1) hr
  refine ((congrArg (outAt m c) (eq_ix2 i)).trans h).trans (congrArg (Cert.ReferenceIdeal.Proto.result (F := Ideal) x w sx sw) (funext fun a => Fin.ext ?_))
  fin_cases a
  · show 128 * c.val + (i 0).val = c.val * 128 + (i 0).val
    omega
  · rfl

end Cert.KernelIdeal.Proto

end
-- ==== Proof.lean ====
/-
# The certificate's claim

The frames come from the whole runs of the kernel and of the reference with the values dropped; the algebraic claim from the
kernel's run at the ideal numbers, whose result is the block of the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_no_min_weight_KernelIdeal
public import proofs.«01_k».proof.Proof.Gen.Pre_no_min_weight_ReferenceIdeal
public import proofs.«01_k».proof.Proof.KernelLaunch
public import proofs.«01_k».proof.Proof.KernelIdealValue

@[expose] public section

noncomputable section

namespace Cert.Proof

open Idealize.ShloMosaic Idealize.SL.Sem

/-- The compiled kernel runs, leaves its arguments as they were, and ends with every semaphore at zero. -/
theorem frame_kernel : Cert.quiescent_Kernel := fun m g _ =>
  (θ_run _ _ _).mono (fun _ h => ⟨fun c => (h.1 c).2, h.2⟩) (Cert.Kernel.Proto.run_all (F := Bits) m g)

/-- So does the kernel at the ideal numbers, -/
theorem frame_kernel_ideal : Cert.quiescent_KernelIdeal := fun m g _ =>
  (θ_run _ _ _).mono (fun _ h => ⟨fun c => (h.1 c).2, h.2⟩) (Cert.KernelIdeal.Proto.run_all (F := Ideal) m g)

/-- and the reference. -/
theorem frame_reference : Cert.quiescent_ReferenceIdeal := fun m g _ =>
  (θ_run _ _ _).mono (fun _ h => ⟨fun c => (h.1 c).2, h.2⟩) (Cert.ReferenceIdeal.Proto.run_all (F := Ideal) m g)

/-- With no weight -128, each device's result is its block of rows of the reference's result. -/
theorem value : Cert.algebraic_KernelIdeal_ReferenceIdeal_pre_no_min_weight_KernelIdeal := fun m g m' g' hpre hm =>
  have hne := Cert.KernelIdeal.Proto.weight_ne _ _ _ _ (hpre 0)
  ⟨Cert.ReferenceIdeal.Proto.result (F := Ideal) _ _ _ _,
    (θ_run _ _ _).mono (fun _ h c => ⟨(h.1 c).1.trans (Cert.KernelIdeal.Proto.outAt_eq m _ _ _ _ (fun c => (hm c).1) (fun c => (hm c).2.1)
      (fun c => (hm c).2.2.1) (fun c => (hm c).2.2.2) (fun i => by rw [← (hm 0).2.1]; exact hne i) c), (h.1 c).2⟩)
      (Cert.KernelIdeal.Proto.run_all (F := Ideal) m g),
    (θ_run _ _ _).mono (fun _ h => h.1 0) (Cert.ReferenceIdeal.Proto.run_all (F := Ideal) m' g')⟩

theorem claim : Cert.Claim :=
  ⟨Cert.Kernel.Gen.facts, Cert.KernelIdeal.Gen.facts, Cert.ReferenceIdeal.Gen.facts, Cert.Pre_no_min_weight_KernelIdeal.Gen.facts,
    Cert.Pre_no_min_weight_ReferenceIdeal.Gen.facts, frame_kernel, frame_kernel_ideal, fun m g _ => frame_kernel_ideal m g trivial,
    frame_reference, fun m g _ => frame_reference m g trivial, trivial, value⟩

end Cert.Proof

end
